-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "mask" .f32 0xCE6E6B28#32 ⊥

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![1, 1024, 8, 128]⟩ ⟨4, ![1, 8192, 8, 128]⟩ 1 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![1, 1024, 8, 128]⟩ ⟨4, ![1, 8192, 8, 128]⟩ 1 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v42) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S1x1024x1024 : Shape := ⟨3, ![1, 1024, 1024]⟩
abbrev S1024x1024 : Shape := ⟨2, ![1024, 1024]⟩
abbrev S1x1024x8x128 : Shape := ⟨4, ![1, 1024, 8, 128]⟩
abbrev S_ : Shape := ⟨0, ![]⟩

class Facts : Prop where
  bcast_S_S1x1024x1024 : S_.BroadcastsInDim S1x1024x1024 (![] : Fin 0 → Fin S1x1024x1024.rank)
  reducesTo_S1x1024x1024_S_d0_1_2 : S1x1024x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1x1024x8x128 : S_.BroadcastsInDim S1x1024x8x128 (![] : Fin 0 → Fin S1x1024x8x128.rank)
  reducesTo_S1x1024x8x128_S_d0_1_2_3 : S1x1024x8x128.ReducesTo [0, 1, 2, 3] S_

variable [Facts]

def fn {F : FTy → Type} [FloatOps F] (main_arg0 : FVec F S1x1024x1024 .f32) (main_arg1 : FVec F S1024x1024 .f32) (main_arg2 : FVec F S1x1024x8x128 .f32) (main_arg3 : FVec F S1x1024x8x128 .f32) (main_arg4 : FVec F S1024x1024 .f32) : IVec S_ 1 :=
  let main_v0 : FVec F S1x1024x1024 .f32 := Host.absf main_arg0
  let main_cst : FVec F S_ .f32 := constant S_ .f32 0x7F800000#32
  let main_v1 : FVec F S1x1024x1024 .f32 := broadcastInDim S1x1024x1024 ![] bcast_S_S1x1024x1024 main_cst
  let main_v2 : IVec S1x1024x1024 1 := cmpf .olt main_v0 main_v1
  let main_c : IVec S_ 1 := constantI S_ 1 1#1
  let main_v3 : IVec S_ 1 := (fun x v => Host.reduce IntOp.andi x v reducesTo_S1x1024x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1x1024x8x128 .f32 := Host.absf main_arg2
  let main_cst_2 : FVec F S_ .f32 := constant S_ .f32 0x7F800000#32
  let main_v10 : FVec F S1x1024x8x128 .f32 := broadcastInDim S1x1024x8x128 ![] bcast_S_S1x1024x8x128 main_cst_2
  let main_v11 : IVec S1x1024x8x128 1 := cmpf .olt main_v9 main_v10
  let main_c_3 : IVec S_ 1 := constantI S_ 1 1#1
  let main_v12 : IVec S_ 1 := (fun x v => Host.reduce IntOp.andi x v reducesTo_S1x1024x8x128_S_d0_1_2_3 h_S_) main_v11 main_c_3
  let main_v13 : IVec S_ 1 := andi main_v8 main_v12
  main_v13
-- ==== Pre_finite_ReferenceIdeal.lean ====
abbrev S1x1024x1024 : Shape := ⟨3, ![1, 1024, 1024]⟩
abbrev S1024x1024 : Shape := ⟨2, ![1024, 1024]⟩
abbrev S1x8192x8x128 : Shape := ⟨4, ![1, 8192, 8, 128]⟩
abbrev S_ : Shape := ⟨0, ![]⟩

class Facts : Prop where
  bcast_S_S1x1024x1024 : S_.BroadcastsInDim S1x1024x1024 (![] : Fin 0 → Fin S1x1024x1024.rank)
  reducesTo_S1x1024x1024_S_d0_1_2 : S1x1024x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1x8192x8x128 : S_.BroadcastsInDim S1x8192x8x128 (![] : Fin 0 → Fin S1x8192x8x128.rank)
  reducesTo_S1x8192x8x128_S_d0_1_2_3 : S1x8192x8x128.ReducesTo [0, 1, 2, 3] S_

variable [Facts]

def fn {F : FTy → Type} [FloatOps F] (main_arg0 : FVec F S1x1024x1024 .f32) (main_arg1 : FVec F S1024x1024 .f32) (main_arg2 : FVec F S1x8192x8x128 .f32) (main_arg3 : FVec F S1x8192x8x128 .f32) (main_arg4 : FVec F S1024x1024 .f32) : IVec S_ 1 :=
  let main_v0 : FVec F S1x1024x1024 .f32 := Host.absf main_arg0
  let main_cst : FVec F S_ .f32 := constant S_ .f32 0x7F800000#32
  let main_v1 : FVec F S1x1024x1024 .f32 := broadcastInDim S1x1024x1024 ![] bcast_S_S1x1024x1024 main_cst
  let main_v2 : IVec S1x1024x1024 1 := cmpf .olt main_v0 main_v1
  let main_c : IVec S_ 1 := constantI S_ 1 1#1
  let main_v3 : IVec S_ 1 := (fun x v => Host.reduce IntOp.andi x v reducesTo_S1x1024x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1x8192x8x128 .f32 := Host.absf main_arg2
  let main_cst_2 : FVec F S_ .f32 := constant S_ .f32 0x7F800000#32
  let main_v10 : FVec F S1x8192x8x128 .f32 := broadcastInDim S1x8192x8x128 ![] bcast_S_S1x8192x8x128 main_cst_2
  let main_v11 : IVec S1x8192x8x128 1 := cmpf .olt main_v9 main_v10
  let main_c_3 : IVec S_ 1 := constantI S_ 1 1#1
  let main_v12 : IVec S_ 1 := (fun x v => Host.reduce IntOp.andi x v reducesTo_S1x8192x8x128_S_d0_1_2_3 h_S_) main_v11 main_c_3
  let main_v13 : IVec S_ 1 := andi main_v8 main_v12
  main_v13
-- ==== Kernel.lean ====
abbrev S1x1024x1024 : Shape := ⟨3, ![1, 1024, 1024]⟩
abbrev S1024x1024 : Shape := ⟨2, ![1024, 1024]⟩
abbrev S1x1024x8x128 : Shape := ⟨4, ![1, 1024, 8, 128]⟩
abbrev S1024x8 : Shape := ⟨2, ![1024, 8]⟩
abbrev S32x1024 : Shape := ⟨2, ![32, 1024]⟩
abbrev S128x1024 : Shape := ⟨2, ![128, 1024]⟩
abbrev S8x32x1024 : Shape := ⟨3, ![8, 32, 1024]⟩
abbrev S8x32x8 : Shape := ⟨3, ![8, 32, 8]⟩
abbrev S128x8 : Shape := ⟨2, ![128, 8]⟩
abbrev S8x1024x128 : Shape := ⟨3, ![8, 1024, 128]⟩
abbrev S4 : Shape := ⟨1, ![4]⟩
abbrev S8 : Shape := ⟨1, ![8]⟩
abbrev S2 : Shape := ⟨1, ![2]⟩
abbrev S64 : Shape := ⟨1, ![64]⟩
abbrev S16 : Shape := ⟨1, ![16]⟩
abbrev S1 : Shape := ⟨1, ![1]⟩
abbrev S_ : Shape := ⟨0, ![]⟩
abbrev S1x1024x128 : Shape := ⟨3, ![1, 1024, 128]⟩
abbrev S1024x128 : Shape := ⟨2, ![1024, 128]⟩
abbrev S1x1024x1x128 : Shape := ⟨4, ![1, 1024, 1, 128]⟩
abbrev S1x256x1024 : Shape := ⟨3, ![1, 256, 1024]⟩
abbrev S256x1024 : Shape := ⟨2, ![256, 1024]⟩
abbrev S256x512 : Shape := ⟨2, ![256, 512]⟩
abbrev S1x512x128 : Shape := ⟨3, ![1, 512, 128]⟩
abbrev S512x128 : Shape := ⟨2, ![512, 128]⟩
abbrev S256x128 : Shape := ⟨2, ![256, 128]⟩
abbrev S256 : Shape := ⟨1, ![256]⟩
abbrev S256x1 : Shape := ⟨2, ![256, 1]⟩
abbrev S32x128 : Shape := ⟨2, ![32, 128]⟩
abbrev S32x512 : Shape := ⟨2, ![32, 512]⟩
abbrev S32 : Shape := ⟨1, ![32]⟩
abbrev S32x1 : Shape := ⟨2, ![32, 1]⟩
abbrev S1x128x128 : Shape := ⟨3, ![1, 128, 128]⟩
abbrev S128x128 : Shape := ⟨2, ![128, 128]⟩
abbrev S1x32x1024 : Shape := ⟨3, ![1, 32, 1024]⟩
abbrev S1x32x8 : Shape := ⟨3, ![1, 32, 8]⟩
abbrev S32x8 : Shape := ⟨2, ![32, 8]⟩
abbrev S1x128x1024 : Shape := ⟨3, ![1, 128, 1024]⟩
abbrev S128x1 : Shape := ⟨2, ![128, 1]⟩

abbrev nBuf : Space → Nat
  | .hbm => 6
  | .vmem => 17
  | .smem => 0
  | _ => 0

abbrev bufTy : (tb : Table) → Fin (tcTables nBuf tb) → BufTy
  | .hbm, ⟨0, _⟩ => ⟨S1x1024x1024, .f32⟩
  | .hbm, ⟨1, _⟩ => ⟨S1024x1024, .f32⟩
  | .hbm, ⟨2, _⟩ => ⟨S1x1024x8x128, .f32⟩
  | .hbm, ⟨3, _⟩ => ⟨S1x1024x8x128, .f32⟩
  | .hbm, ⟨4, _⟩ => ⟨S1024x1024, .f32⟩
  | .hbm, ⟨5, _⟩ => ⟨S1x1024x1024, .f32⟩
  | .local _ .vmem, ⟨0, _⟩ => ⟨S1x1024x1024, .f32⟩
  | .local _ .vmem, ⟨1, _⟩ => ⟨S1024x1024, .f32⟩
  | .local _ .vmem, ⟨2, _⟩ => ⟨S1024x1024, .f32⟩
  | .local _ .vmem, ⟨3, _⟩ => ⟨S1x1024x1024, .f32⟩
  | .local _ .vmem, ⟨4, _⟩ => ⟨S1024x1024, .bf16⟩
  | .local _ .vmem, ⟨5, _⟩ => ⟨S1024x1024, .f32⟩
  | .local _ .vmem, ⟨6, _⟩ => ⟨S1024x8, .f32⟩
  | .local _ .vmem, ⟨7, _⟩ => ⟨S32x1024, .bf16⟩
  | .local _ .vmem, ⟨8, _⟩ => ⟨S128x1024, .bf16⟩
  | .local _ .vmem, ⟨9, _⟩ => ⟨S8x32x1024, .bf16⟩
  | .local _ .vmem, ⟨10, _⟩ => ⟨S8x32x8, .f32⟩
  | .local _ .vmem, ⟨11, _⟩ => ⟨S128x1024, .bf16⟩
  | .local _ .vmem, ⟨12, _⟩ => ⟨S128x8, .f32⟩
  | .local _ .vmem, ⟨13, _⟩ => ⟨S1024x1024, .bf16⟩
  | .local _ .vmem, ⟨14, _⟩ => ⟨S1024x1024, .bf16⟩
  | .local _ .vmem, ⟨15, _⟩ => ⟨S8x1024x128, .f32⟩
  | .local _ .vmem, ⟨16, _⟩ => ⟨S8x1024x128, .f32⟩
  | _, _ => ⟨S1x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 1 → Bool
  | ⟨0, _⟩ => false
  | _ => false

abbrev dmaSemScoped : Fin 114 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | ⟨112, _⟩ => true
  | ⟨113, _⟩ => true
  | _ => false

abbrev sig : RefSig :=
  (ofTc nBuf bufTy 1 114 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_scratch6 : Ref sig .tc := ⟨.vmem, 10, rfl⟩
abbrev cc0_scratch7 : Ref sig .tc := ⟨.vmem, 11, rfl⟩
abbrev cc0_scratch8 : Ref sig .tc := ⟨.vmem, 12, rfl⟩
abbrev cc0_scratch9 : Ref sig .tc := ⟨.vmem, 13, rfl⟩
abbrev cc0_scratch10 : Ref sig .tc := ⟨.vmem, 14, rfl⟩
abbrev cc0_scratch11 : Ref sig .tc := ⟨.vmem, 15, rfl⟩
abbrev cc0_scratch12 : Ref sig .tc := ⟨.vmem, 16, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 8
abbrev τ : Topo := Topo.v7x

variable {F : FTy → Type} [FloatOps F]

abbrev grid0 : Pipeline.Grid := .none

def k0_dev1 : Nat :=
  let c0_i32_117 : BitVec 32 := 0#32
  let c0_i32_115 : BitVec 32 := 0#32
  let c1_i32_116 : BitVec 32 := 1#32
  let v100 : BitVec 32 := Scalar.muli c0_i32_115 c1_i32_116
  let v101 : BitVec 32 := Scalar.addi c0_i32_117 v100
  v101.toNat
def k0_dev2 : Nat :=
  let c0_i32_121 : BitVec 32 := 0#32
  let c1_i32_119 : BitVec 32 := 1#32
  let c1_i32_120 : BitVec 32 := 1#32
  let v102 : BitVec 32 := Scalar.muli c1_i32_119 c1_i32_120
  let v103 : BitVec 32 := Scalar.addi c0_i32_121 v102
  v103.toNat
def k0_dev3 : Nat :=
  let c0_i32_125 : BitVec 32 := 0#32
  let c2_i32_123 : BitVec 32 := 2#32
  let c1_i32_124 : BitVec 32 := 1#32
  let v104 : BitVec 32 := Scalar.muli c2_i32_123 c1_i32_124
  let v105 : BitVec 32 := Scalar.addi c0_i32_125 v104
  v105.toNat
def k0_dev4 : Nat :=
  let c0_i32_129 : BitVec 32 := 0#32
  let c3_i32_127 : BitVec 32 := 3#32
  let c1_i32_128 : BitVec 32 := 1#32
  let v106 : BitVec 32 := Scalar.muli c3_i32_127 c1_i32_128
  let v107 : BitVec 32 := Scalar.addi c0_i32_129 v106
  v107.toNat
def k0_dev5 : Nat :=
  let c0_i32_133 : BitVec 32 := 0#32
  let c4_i32_131 : BitVec 32 := 4#32
  let c1_i32_132 : BitVec 32 := 1#32
  let v108 : BitVec 32 := Scalar.muli c4_i32_131 c1_i32_132
  let v109 : BitVec 32 := Scalar.addi c0_i32_133 v108
  v109.toNat
def k0_dev6 : Nat :=
  let c0_i32_137 : BitVec 32 := 0#32
  let c5_i32_135 : BitVec 32 := 5#32
  let c1_i32_136 : BitVec 32 := 1#32
  let v110 : BitVec 32 := Scalar.muli c5_i32_135 c1_i32_136
  let v111 : BitVec 32 := Scalar.addi c0_i32_137 v110
  v111.toNat
def k0_dev7 : Nat :=
  let c0_i32_141 : BitVec 32 := 0#32
  let c6_i32_139 : BitVec 32 := 6#32
  let c1_i32_140 : BitVec 32 := 1#32
  let v112 : BitVec 32 := Scalar.muli c6_i32_139 c1_i32_140
  let v113 : BitVec 32 := Scalar.addi c0_i32_141 v112
  v113.toNat
def k0_dev8 : Nat :=
  let c0_i32_145 : BitVec 32 := 0#32
  let c7_i32_143 : BitVec 32 := 7#32
  let c1_i32_144 : BitVec 32 := 1#32
  let v114 : BitVec 32 := Scalar.muli c7_i32_143 c1_i32_144
  let v115 : BitVec 32 := Scalar.addi c0_i32_145 v114
  v115.toNat
@[reducible] def k0_t1_loop : Scf.Loop 32 :=
  let c0_i32_147 : BitVec 32 := 0#32
  let c4_i32_148 : BitVec 32 := 4#32
  let v116 : BitVec 32 := Scalar.addi c0_i32_147 c4_i32_148
  let c1_i32_149 : BitVec 32 := 1#32
  ⟨c0_i32_147, v116, c1_i32_149⟩
def k0_off1 (k0_t1 : Fin k0_t1_loop.trips) : Fin 3 → Nat :=
  let c0_800 : Index := 0#32
  let c0_i32_147 : BitVec 32 := 0#32
  let c1_i32_149 : BitVec 32 := 1#32
  let arg26 : BitVec 32 := Scf.iv c0_i32_147 c1_i32_149 k0_t1
  let c256_i32 : BitVec 32 := 256#32
  let v963 : BitVec 32 := Scalar.muli arg26 c256_i32
  let v964 : Index := Scalar.indexCast v963
  let c0_801 : Index := 0#32
  ![0, v964.toNat, 0]
def k0_off2 (k0_t1 : Fin k0_t1_loop.trips) : Fin 2 → Nat :=
  let c0_i32_147 : BitVec 32 := 0#32
  let c1_i32_149 : BitVec 32 := 1#32
  let arg26 : BitVec 32 := Scf.iv c0_i32_147 c1_i32_149 k0_t1
  let c256_i32 : BitVec 32 := 256#32
  let v963 : BitVec 32 := Scalar.muli arg26 c256_i32
  let v975 : Index := Scalar.indexCast v963
  let c0_806 : Index := 0#32
  ![v975.toNat, 0]
def k0_cond2 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_764 : BitVec 32 := 1#32
  let v914 : BitVec 1 := Scalar.cmpi .eq v2 c1_i32_764
  let v915 : BitVec 32 := Scalar.extui v914
  let c0_i32_765 : BitVec 32 := 0#32
  let v916 : BitVec 1 := Scalar.cmpi .ne v915 c0_i32_765
  v916

def k0_dev9 : Nat :=
  let c0_i32_805 : BitVec 32 := 0#32
  let c0_i32_803 : BitVec 32 := 0#32
  let c1_i32_804 : BitVec 32 := 1#32
  let v963 : BitVec 32 := Scalar.muli c0_i32_803 c1_i32_804
  let v964 : BitVec 32 := Scalar.addi c0_i32_805 v963
  v964.toNat
def k0_dev10 : Nat :=
  let c0_i32_813 : BitVec 32 := 0#32
  let c0_i32_811 : BitVec 32 := 0#32
  let c1_i32_812 : BitVec 32 := 1#32
  let v971 : BitVec 32 := Scalar.muli c0_i32_811 c1_i32_812
  let v972 : BitVec 32 := Scalar.addi c0_i32_813 v971
  v972.toNat
def k0_cond3 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_766 : BitVec 32 := 2#32
  let v917 : BitVec 1 := Scalar.cmpi .eq v2 c2_i32_766
  let v918 : BitVec 32 := Scalar.extui v917
  let c0_i32_767 : BitVec 32 := 0#32
  let v919 : BitVec 1 := Scalar.cmpi .ne v918 c0_i32_767
  v919

def k0_dev11 : Nat :=
  let c0_i32_805 : BitVec 32 := 0#32
  let c0_i32_803 : BitVec 32 := 0#32
  let c1_i32_804 : BitVec 32 := 1#32
  let v963 : BitVec 32 := Scalar.muli c0_i32_803 c1_i32_804
  let v964 : BitVec 32 := Scalar.addi c0_i32_805 v963
  v964.toNat
def k0_dev12 : Nat :=
  let c0_i32_813 : BitVec 32 := 0#32
  let c0_i32_811 : BitVec 32 := 0#32
  let c1_i32_812 : BitVec 32 := 1#32
  let v971 : BitVec 32 := Scalar.muli c0_i32_811 c1_i32_812
  let v972 : BitVec 32 := Scalar.addi c0_i32_813 v971
  v972.toNat
def k0_cond4 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_768 : BitVec 32 := 3#32
  let v920 : BitVec 1 := Scalar.cmpi .eq v2 c3_i32_768
  let v921 : BitVec 32 := Scalar.extui v920
  let c0_i32_769 : BitVec 32 := 0#32
  let v922 : BitVec 1 := Scalar.cmpi .ne v921 c0_i32_769
  v922

def k0_dev13 : Nat :=
  let c0_i32_805 : BitVec 32 := 0#32
  let c0_i32_803 : BitVec 32 := 0#32
  let c1_i32_804 : BitVec 32 := 1#32
  let v963 : BitVec 32 := Scalar.muli c0_i32_803 c1_i32_804
  let v964 : BitVec 32 := Scalar.addi c0_i32_805 v963
  v964.toNat
def k0_dev14 : Nat :=
  let c0_i32_813 : BitVec 32 := 0#32
  let c0_i32_811 : BitVec 32 := 0#32
  let c1_i32_812 : BitVec 32 := 1#32
  let v971 : BitVec 32 := Scalar.muli c0_i32_811 c1_i32_812
  let v972 : BitVec 32 := Scalar.addi c0_i32_813 v971
  v972.toNat
def k0_cond5 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_770 : BitVec 32 := 4#32
  let v923 : BitVec 1 := Scalar.cmpi .eq v2 c4_i32_770
  let v924 : BitVec 32 := Scalar.extui v923
  let c0_i32_771 : BitVec 32 := 0#32
  let v925 : BitVec 1 := Scalar.cmpi .ne v924 c0_i32_771
  v925

def k0_dev15 : Nat :=
  let c0_i32_805 : BitVec 32 := 0#32
  let c0_i32_803 : BitVec 32 := 0#32
  let c1_i32_804 : BitVec 32 := 1#32
  let v963 : BitVec 32 := Scalar.muli c0_i32_803 c1_i32_804
  let v964 : BitVec 32 := Scalar.addi c0_i32_805 v963
  v964.toNat
def k0_dev16 : Nat :=
  let c0_i32_813 : BitVec 32 := 0#32
  let c0_i32_811 : BitVec 32 := 0#32
  let c1_i32_812 : BitVec 32 := 1#32
  let v971 : BitVec 32 := Scalar.muli c0_i32_811 c1_i32_812
  let v972 : BitVec 32 := Scalar.addi c0_i32_813 v971
  v972.toNat
def k0_cond6 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_772 : BitVec 32 := 5#32
  let v926 : BitVec 1 := Scalar.cmpi .eq v2 c5_i32_772
  let v927 : BitVec 32 := Scalar.extui v926
  let c0_i32_773 : BitVec 32 := 0#32
  let v928 : BitVec 1 := Scalar.cmpi .ne v927 c0_i32_773
  v928

def k0_dev17 : Nat :=
  let c0_i32_805 : BitVec 32 := 0#32
  let c0_i32_803 : BitVec 32 := 0#32
  let c1_i32_804 : BitVec 32 := 1#32
  let v963 : BitVec 32 := Scalar.muli c0_i32_803 c1_i32_804
  let v964 : BitVec 32 := Scalar.addi c0_i32_805 v963
  v964.toNat
def k0_dev18 : Nat :=
  let c0_i32_813 : BitVec 32 := 0#32
  let c0_i32_811 : BitVec 32 := 0#32
  let c1_i32_812 : BitVec 32 := 1#32
  let v971 : BitVec 32 := Scalar.muli c0_i32_811 c1_i32_812
  let v972 : BitVec 32 := Scalar.addi c0_i32_813 v971
  v972.toNat
def k0_cond7 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_774 : BitVec 32 := 6#32
  let v929 : BitVec 1 := Scalar.cmpi .eq v2 c6_i32_774
  let v930 : BitVec 32 := Scalar.extui v929
  let c0_i32_775 : BitVec 32 := 0#32
  let v931 : BitVec 1 := Scalar.cmpi .ne v930 c0_i32_775
  v931

def k0_dev19 : Nat :=
  let c0_i32_805 : BitVec 32 := 0#32
  let c0_i32_803 : BitVec 32 := 0#32
  let c1_i32_804 : BitVec 32 := 1#32
  let v963 : BitVec 32 := Scalar.muli c0_i32_803 c1_i32_804
  let v964 : BitVec 32 := Scalar.addi c0_i32_805 v963
  v964.toNat
def k0_dev20 : Nat :=
  let c0_i32_813 : BitVec 32 := 0#32
  let c0_i32_811 : BitVec 32 := 0#32
  let c1_i32_812 : BitVec 32 := 1#32
  let v971 : BitVec 32 := Scalar.muli c0_i32_811 c1_i32_812
  let v972 : BitVec 32 := Scalar.addi c0_i32_813 v971
  v972.toNat
def k0_cond8 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_776 : BitVec 32 := 7#32
  let v932 : BitVec 1 := Scalar.cmpi .eq v2 c7_i32_776
  let v933 : BitVec 32 := Scalar.extui v932
  let c0_i32_777 : BitVec 32 := 0#32
  let v934 : BitVec 1 := Scalar.cmpi .ne v933 c0_i32_777
  v934

def k0_dev21 : Nat :=
  let c0_i32_805 : BitVec 32 := 0#32
  let c0_i32_803 : BitVec 32 := 0#32
  let c1_i32_804 : BitVec 32 := 1#32
  let v963 : BitVec 32 := Scalar.muli c0_i32_803 c1_i32_804
  let v964 : BitVec 32 := Scalar.addi c0_i32_805 v963
  v964.toNat
def k0_dev22 : Nat :=
  let c0_i32_813 : BitVec 32 := 0#32
  let c0_i32_811 : BitVec 32 := 0#32
  let c1_i32_812 : BitVec 32 := 1#32
  let v971 : BitVec 32 := Scalar.muli c0_i32_811 c1_i32_812
  let v972 : BitVec 32 := Scalar.addi c0_i32_813 v971
  v972.toNat
def k0_cond9 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_778 : BitVec 32 := 1#32
  let v935 : BitVec 1 := Scalar.cmpi .eq v2 c1_i32_778
  let v936 : BitVec 32 := Scalar.extui v935
  let c0_i32_779 : BitVec 32 := 0#32
  let v937 : BitVec 1 := Scalar.cmpi .ne v936 c0_i32_779
  v937

def k0_dev23 : Nat :=
  let c0_i32_808 : BitVec 32 := 0#32
  let c0_i32_806 : BitVec 32 := 0#32
  let c1_i32_807 : BitVec 32 := 1#32
  let v968 : BitVec 32 := Scalar.muli c0_i32_806 c1_i32_807
  let v969 : BitVec 32 := Scalar.addi c0_i32_808 v968
  v969.toNat
def k0_dev24 : Nat :=
  let c0_i32_813 : BitVec 32 := 0#32
  let c0_i32_811 : BitVec 32 := 0#32
  let c1_i32_812 : BitVec 32 := 1#32
  let v974 : BitVec 32 := Scalar.muli c0_i32_811 c1_i32_812
  let v975 : BitVec 32 := Scalar.addi c0_i32_813 v974
  v975.toNat
@[reducible] def k0_t2_loop : Scf.Loop 32 :=
  let c0_i32_780 : BitVec 32 := 0#32
  let c2_i32_781 : BitVec 32 := 2#32
  let v938 : BitVec 32 := Scalar.addi c0_i32_780 c2_i32_781
  let c1_i32_782 : BitVec 32 := 1#32
  ⟨c0_i32_780, v938, c1_i32_782⟩
def k0_off3 (k0_t2 : Fin k0_t2_loop.trips) : Fin 3 → Nat :=
  let c0_809 : Index := 0#32
  let c0_i32_780 : BitVec 32 := 0#32
  let c1_i32_782 : BitVec 32 := 1#32
  let arg26 : BitVec 32 := Scf.iv c0_i32_780 c1_i32_782 k0_t2
  let c1_i32_800 : BitVec 32 := 1#32
  let v963 : BitVec 32 := Scalar.addi arg26 c1_i32_800
  let c256_i32_801 : BitVec 32 := 256#32
  let v965 : BitVec 32 := Scalar.muli v963 c256_i32_801
  let c128_i32_802 : BitVec 32 := 128#32
  let v966 : BitVec 32 := Scalar.subi v965 c128_i32_802
  let v989 : Index := Scalar.indexCast v966
  let c0_810 : Index := 0#32
  ![0, v989.toNat, 0]
def k0_off4 (k0_t2 : Fin k0_t2_loop.trips) : Fin 2 → Nat :=
  let c0_i32_780 : BitVec 32 := 0#32
  let c1_i32_782 : BitVec 32 := 1#32
  let arg26 : BitVec 32 := Scf.iv c0_i32_780 c1_i32_782 k0_t2
  let c1_i32_800 : BitVec 32 := 1#32
  let v963 : BitVec 32 := Scalar.addi arg26 c1_i32_800
  let c256_i32 : BitVec 32 := 256#32
  let v964 : BitVec 32 := Scalar.muli v963 c256_i32
  let v993 : Index := Scalar.indexCast v964
  let c0_811 : Index := 0#32
  ![v993.toNat, 0]
def k0_off5 (k0_t2 : Fin k0_t2_loop.trips) : Fin 3 → Nat :=
  let c1_817 : Index := 1#32
  let c0_i32_780 : BitVec 32 := 0#32
  let c1_i32_782 : BitVec 32 := 1#32
  let arg26 : BitVec 32 := Scf.iv c0_i32_780 c1_i32_782 k0_t2
  let c1_i32_800 : BitVec 32 := 1#32
  let v963 : BitVec 32 := Scalar.addi arg26 c1_i32_800
  let c256_i32_801 : BitVec 32 := 256#32
  let v965 : BitVec 32 := Scalar.muli v963 c256_i32_801
  let c128_i32_802 : BitVec 32 := 128#32
  let v966 : BitVec 32 := Scalar.subi v965 c128_i32_802
  let v1006 : Index := Scalar.indexCast v966
  let c0_818 : Index := 0#32
  ![1, v1006.toNat, 0]
def k0_off6 (k0_t2 : Fin k0_t2_loop.trips) : Fin 2 → Nat :=
  let c0_i32_780 : BitVec 32 := 0#32
  let c1_i32_782 : BitVec 32 := 1#32
  let arg26 : BitVec 32 := Scf.iv c0_i32_780 c1_i32_782 k0_t2
  let c1_i32_800 : BitVec 32 := 1#32
  let v963 : BitVec 32 := Scalar.addi arg26 c1_i32_800
  let c256_i32 : BitVec 32 := 256#32
  let v964 : BitVec 32 := Scalar.muli v963 c256_i32
  let v1010 : Index := Scalar.indexCast v964
  let c128_819 : Index := 128#32
  ![v1010.toNat, 128]
def k0_off7 (k0_t2 : Fin k0_t2_loop.trips) : Fin 3 → Nat :=
  let c2_825 : Index := 2#32
  let c0_i32_780 : BitVec 32 := 0#32
  let c1_i32_782 : BitVec 32 := 1#32
  let arg26 : BitVec 32 := Scf.iv c0_i32_780 c1_i32_782 k0_t2
  let c1_i32_800 : BitVec 32 := 1#32
  let v963 : BitVec 32 := Scalar.addi arg26 c1_i32_800
  let c256_i32_801 : BitVec 32 := 256#32
  let v965 : BitVec 32 := Scalar.muli v963 c256_i32_801
  let c128_i32_802 : BitVec 32 := 128#32
  let v966 : BitVec 32 := Scalar.subi v965 c128_i32_802
  let v1023 : Index := Scalar.indexCast v966
  let c0_826 : Index := 0#32
  ![2, v1023.toNat, 0]
def k0_off8 (k0_t2 : Fin k0_t2_loop.trips) : Fin 2 → Nat :=
  let c0_i32_780 : BitVec 32 := 0#32
  let c1_i32_782 : BitVec 32 := 1#32
  let arg26 : BitVec 32 := Scf.iv c0_i32_780 c1_i32_782 k0_t2
  let c1_i32_800 : BitVec 32 := 1#32
  let v963 : BitVec 32 := Scalar.addi arg26 c1_i32_800
  let c256_i32 : BitVec 32 := 256#32
  let v964 : BitVec 32 := Scalar.muli v963 c256_i32
  let v1027 : Index := Scalar.indexCast v964
  let c256_827 : Index := 256#32
  ![v1027.toNat, 256]
def k0_off9 (k0_t2 : Fin k0_t2_loop.trips) : Fin 3 → Nat :=
  let c3_833 : Index := 3#32
  let c0_i32_780 : BitVec 32 := 0#32
  let c1_i32_782 : BitVec 32 := 1#32
  let arg26 : BitVec 32 := Scf.iv c0_i32_780 c1_i32_782 k0_t2
  let c1_i32_800 : BitVec 32 := 1#32
  let v963 : BitVec 32 := Scalar.addi arg26 c1_i32_800
  let c256_i32_801 : BitVec 32 := 256#32
  let v965 : BitVec 32 := Scalar.muli v963 c256_i32_801
  let c128_i32_802 : BitVec 32 := 128#32
  let v966 : BitVec 32 := Scalar.subi v965 c128_i32_802
  let v1040 : Index := Scalar.indexCast v966
  let c0_834 : Index := 0#32
  ![3, v1040.toNat, 0]
def k0_off10 (k0_t2 : Fin k0_t2_loop.trips) : Fin 2 → Nat :=
  let c0_i32_780 : BitVec 32 := 0#32
  let c1_i32_782 : BitVec 32 := 1#32
  let arg26 : BitVec 32 := Scf.iv c0_i32_780 c1_i32_782 k0_t2
  let c1_i32_800 : BitVec 32 := 1#32
  let v963 : BitVec 32 := Scalar.addi arg26 c1_i32_800
  let c256_i32 : BitVec 32 := 256#32
  let v964 : BitVec 32 := Scalar.muli v963 c256_i32
  let v1044 : Index := Scalar.indexCast v964
  let c384_835 : Index := 384#32
  ![v1044.toNat, 384]
def k0_off11 (k0_t2 : Fin k0_t2_loop.trips) : Fin 3 → Nat :=
  let c4_841 : Index := 4#32
  let c0_i32_780 : BitVec 32 := 0#32
  let c1_i32_782 : BitVec 32 := 1#32
  let arg26 : BitVec 32 := Scf.iv c0_i32_780 c1_i32_782 k0_t2
  let c1_i32_800 : BitVec 32 := 1#32
  let v963 : BitVec 32 := Scalar.addi arg26 c1_i32_800
  let c256_i32_801 : BitVec 32 := 256#32
  let v965 : BitVec 32 := Scalar.muli v963 c256_i32_801
  let c128_i32_802 : BitVec 32 := 128#32
  let v966 : BitVec 32 := Scalar.subi v965 c128_i32_802
  let v1057 : Index := Scalar.indexCast v966
  let c0_842 : Index := 0#32
  ![4, v1057.toNat, 0]
def k0_off12 (k0_t2 : Fin k0_t2_loop.trips) : Fin 2 → Nat :=
  let c0_i32_780 : BitVec 32 := 0#32
  let c1_i32_782 : BitVec 32 := 1#32
  let arg26 : BitVec 32 := Scf.iv c0_i32_780 c1_i32_782 k0_t2
  let c1_i32_800 : BitVec 32 := 1#32
  let v963 : BitVec 32 := Scalar.addi arg26 c1_i32_800
  let c256_i32 : BitVec 32 := 256#32
  let v964 : BitVec 32 := Scalar.muli v963 c256_i32
  let v1061 : Index := Scalar.indexCast v964
  let c512_843 : Index := 512#32
  ![v1061.toNat, 512]
def k0_off13 (k0_t2 : Fin k0_t2_loop.trips) : Fin 3 → Nat :=
  let c5_849 : Index := 5#32
  let c0_i32_780 : BitVec 32 := 0#32
  let c1_i32_782 : BitVec 32 := 1#32
  let arg26 : BitVec 32 := Scf.iv c0_i32_780 c1_i32_782 k0_t2
  let c1_i32_800 : BitVec 32 := 1#32
  let v963 : BitVec 32 := Scalar.addi arg26 c1_i32_800
  let c256_i32_801 : BitVec 32 := 256#32
  let v965 : BitVec 32 := Scalar.muli v963 c256_i32_801
  let c128_i32_802 : BitVec 32 := 128#32
  let v966 : BitVec 32 := Scalar.subi v965 c128_i32_802
  let v1074 : Index := Scalar.indexCast v966
  let c0_850 : Index := 0#32
  ![5, v1074.toNat, 0]
def k0_off14 (k0_t2 : Fin k0_t2_loop.trips) : Fin 2 → Nat :=
  let c0_i32_780 : BitVec 32 := 0#32
  let c1_i32_782 : BitVec 32 := 1#32
  let arg26 : BitVec 32 := Scf.iv c0_i32_780 c1_i32_782 k0_t2
  let c1_i32_800 : BitVec 32 := 1#32
  let v963 : BitVec 32 := Scalar.addi arg26 c1_i32_800
  let c256_i32 : BitVec 32 := 256#32
  let v964 : BitVec 32 := Scalar.muli v963 c256_i32
  let v1078 : Index := Scalar.indexCast v964
  let c640_851 : Index := 640#32
  ![v1078.toNat, 640]
def k0_off15 (k0_t2 : Fin k0_t2_loop.trips) : Fin 3 → Nat :=
  let c6_857 : Index := 6#32
  let c0_i32_780 : BitVec 32 := 0#32
  let c1_i32_782 : BitVec 32 := 1#32
  let arg26 : BitVec 32 := Scf.iv c0_i32_780 c1_i32_782 k0_t2
  let c1_i32_800 : BitVec 32 := 1#32
  let v963 : BitVec 32 := Scalar.addi arg26 c1_i32_800
  let c256_i32_801 : BitVec 32 := 256#32
  let v965 : BitVec 32 := Scalar.muli v963 c256_i32_801
  let c128_i32_802 : BitVec 32 := 128#32
  let v966 : BitVec 32 := Scalar.subi v965 c128_i32_802
  let v1091 : Index := Scalar.indexCast v966
  let c0_858 : Index := 0#32
  ![6, v1091.toNat, 0]
def k0_off16 (k0_t2 : Fin k0_t2_loop.trips) : Fin 2 → Nat :=
  let c0_i32_780 : BitVec 32 := 0#32
  let c1_i32_782 : BitVec 32 := 1#32
  let arg26 : BitVec 32 := Scf.iv c0_i32_780 c1_i32_782 k0_t2
  let c1_i32_800 : BitVec 32 := 1#32
  let v963 : BitVec 32 := Scalar.addi arg26 c1_i32_800
  let c256_i32 : BitVec 32 := 256#32
  let v964 : BitVec 32 := Scalar.muli v963 c256_i32
  let v1095 : Index := Scalar.indexCast v964
  let c768_859 : Index := 768#32
  ![v1095.toNat, 768]
def k0_off17 (k0_t2 : Fin k0_t2_loop.trips) : Fin 3 → Nat :=
  let c7_865 : Index := 7#32
  let c0_i32_780 : BitVec 32 := 0#32
  let c1_i32_782 : BitVec 32 := 1#32
  let arg26 : BitVec 32 := Scf.iv c0_i32_780 c1_i32_782 k0_t2
  let c1_i32_800 : BitVec 32 := 1#32
  let v963 : BitVec 32 := Scalar.addi arg26 c1_i32_800
  let c256_i32_801 : BitVec 32 := 256#32
  let v965 : BitVec 32 := Scalar.muli v963 c256_i32_801
  let c128_i32_802 : BitVec 32 := 128#32
  let v966 : BitVec 32 := Scalar.subi v965 c128_i32_802
  let v1108 : Index := Scalar.indexCast v966
  let c0_866 : Index := 0#32
  ![7, v1108.toNat, 0]
def k0_off18 (k0_t2 : Fin k0_t2_loop.trips) : Fin 2 → Nat :=
  let c0_i32_780 : BitVec 32 := 0#32
  let c1_i32_782 : BitVec 32 := 1#32
  let arg26 : BitVec 32 := Scf.iv c0_i32_780 c1_i32_782 k0_t2
  let c1_i32_800 : BitVec 32 := 1#32
  let v963 : BitVec 32 := Scalar.addi arg26 c1_i32_800
  let c256_i32 : BitVec 32 := 256#32
  let v964 : BitVec 32 := Scalar.muli v963 c256_i32
  let v1112 : Index := Scalar.indexCast v964
  let c896_867 : Index := 896#32
  ![v1112.toNat, 896]
def k0_off19 (k0_t2 : Fin k0_t2_loop.trips) : Fin 2 → Nat :=
  let c0_i32_780 : BitVec 32 := 0#32
  let c1_i32_782 : BitVec 32 := 1#32
  let arg26 : BitVec 32 := Scf.iv c0_i32_780 c1_i32_782 k0_t2
  let c1_i32_800 : BitVec 32 := 1#32
  let v963 : BitVec 32 := Scalar.addi arg26 c1_i32_800
  let c256_i32 : BitVec 32 := 256#32
  let v964 : BitVec 32 := Scalar.muli v963 c256_i32
  let v1287 : Index := Scalar.indexCast v964
  let c0_961 : Index := 0#32
  ![v1287.toNat, 0]
def k0_off20 (k0_t2 : Fin k0_t2_loop.trips) : Fin 2 → Nat :=
  let c0_i32_780 : BitVec 32 := 0#32
  let c1_i32_782 : BitVec 32 := 1#32
  let arg26 : BitVec 32 := Scf.iv c0_i32_780 c1_i32_782 k0_t2
  let c1_i32_800 : BitVec 32 := 1#32
  let v963 : BitVec 32 := Scalar.addi arg26 c1_i32_800
  let c256_i32 : BitVec 32 := 256#32
  let v964 : BitVec 32 := Scalar.muli v963 c256_i32
  let v1295 : Index := Scalar.indexCast v964
  let c1_963 : Index := 1#32
  ![v1295.toNat, 1]
def k0_off21 (k0_t2 : Fin k0_t2_loop.trips) : Fin 2 → Nat :=
  let c0_i32_780 : BitVec 32 := 0#32
  let c1_i32_782 : BitVec 32 := 1#32
  let arg26 : BitVec 32 := Scf.iv c0_i32_780 c1_i32_782 k0_t2
  let c1_i32_800 : BitVec 32 := 1#32
  let v963 : BitVec 32 := Scalar.addi arg26 c1_i32_800
  let c256_i32 : BitVec 32 := 256#32
  let v964 : BitVec 32 := Scalar.muli v963 c256_i32
  let v1303 : Index := Scalar.indexCast v964
  let c2_965 : Index := 2#32
  ![v1303.toNat, 2]
def k0_off22 (k0_t2 : Fin k0_t2_loop.trips) : Fin 2 → Nat :=
  let c0_i32_780 : BitVec 32 := 0#32
  let c1_i32_782 : BitVec 32 := 1#32
  let arg26 : BitVec 32 := Scf.iv c0_i32_780 c1_i32_782 k0_t2
  let c1_i32_800 : BitVec 32 := 1#32
  let v963 : BitVec 32 := Scalar.addi arg26 c1_i32_800
  let c256_i32 : BitVec 32 := 256#32
  let v964 : BitVec 32 := Scalar.muli v963 c256_i32
  let v1311 : Index := Scalar.indexCast v964
  let c3_967 : Index := 3#32
  ![v1311.toNat, 3]
def k0_off23 (k0_t2 : Fin k0_t2_loop.trips) : Fin 2 → Nat :=
  let c0_i32_780 : BitVec 32 := 0#32
  let c1_i32_782 : BitVec 32 := 1#32
  let arg26 : BitVec 32 := Scf.iv c0_i32_780 c1_i32_782 k0_t2
  let c1_i32_800 : BitVec 32 := 1#32
  let v963 : BitVec 32 := Scalar.addi arg26 c1_i32_800
  let c256_i32 : BitVec 32 := 256#32
  let v964 : BitVec 32 := Scalar.muli v963 c256_i32
  let v1319 : Index := Scalar.indexCast v964
  let c4_969 : Index := 4#32
  ![v1319.toNat, 4]
def k0_off24 (k0_t2 : Fin k0_t2_loop.trips) : Fin 2 → Nat :=
  let c0_i32_780 : BitVec 32 := 0#32
  let c1_i32_782 : BitVec 32 := 1#32
  let arg26 : BitVec 32 := Scf.iv c0_i32_780 c1_i32_782 k0_t2
  let c1_i32_800 : BitVec 32 := 1#32
  let v963 : BitVec 32 := Scalar.addi arg26 c1_i32_800
  let c256_i32 : BitVec 32 := 256#32
  let v964 : BitVec 32 := Scalar.muli v963 c256_i32
  let v1327 : Index := Scalar.indexCast v964
  let c5_971 : Index := 5#32
  ![v1327.toNat, 5]
def k0_off25 (k0_t2 : Fin k0_t2_loop.trips) : Fin 2 → Nat :=
  let c0_i32_780 : BitVec 32 := 0#32
  let c1_i32_782 : BitVec 32 := 1#32
  let arg26 : BitVec 32 := Scf.iv c0_i32_780 c1_i32_782 k0_t2
  let c1_i32_800 : BitVec 32 := 1#32
  let v963 : BitVec 32 := Scalar.addi arg26 c1_i32_800
  let c256_i32 : BitVec 32 := 256#32
  let v964 : BitVec 32 := Scalar.muli v963 c256_i32
  let v1335 : Index := Scalar.indexCast v964
  let c6_973 : Index := 6#32
  ![v1335.toNat, 6]
def k0_off26 (k0_t2 : Fin k0_t2_loop.trips) : Fin 2 → Nat :=
  let c0_i32_780 : BitVec 32 := 0#32
  let c1_i32_782 : BitVec 32 := 1#32
  let arg26 : BitVec 32 := Scf.iv c0_i32_780 c1_i32_782 k0_t2
  let c1_i32_800 : BitVec 32 := 1#32
  let v963 : BitVec 32 := Scalar.addi arg26 c1_i32_800
  let c256_i32 : BitVec 32 := 256#32
  let v964 : BitVec 32 := Scalar.muli v963 c256_i32
  let v1343 : Index := Scalar.indexCast v964
  let c7_975 : Index := 7#32
  ![v1343.toNat, 7]
def k0_cond10 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_784 : BitVec 32 := 0#32
  let v939 : BitVec 1 := Scalar.cmpi .eq v2 c0_i32_784
  let v940 : BitVec 32 := Scalar.extui v939
  let c0_i32_785 : BitVec 32 := 0#32
  let v941 : BitVec 1 := Scalar.cmpi .ne v940 c0_i32_785
  v941

def k0_dev25 : Nat :=
  let c0_i32_861 : BitVec 32 := 0#32
  let c4_i32_859 : BitVec 32 := 4#32
  let c1_i32_860 : BitVec 32 := 1#32
  let v1039 : BitVec 32 := Scalar.muli c4_i32_859 c1_i32_860
  let v1040 : BitVec 32 := Scalar.addi c0_i32_861 v1039
  v1040.toNat
def k0_dev26 : Nat :=
  let c0_i32_868 : BitVec 32 := 0#32
  let c3_i32_866 : BitVec 32 := 3#32
  let c1_i32_867 : BitVec 32 := 1#32
  let v1047 : BitVec 32 := Scalar.muli c3_i32_866 c1_i32_867
  let v1048 : BitVec 32 := Scalar.addi c0_i32_868 v1047
  v1048.toNat
def k0_dev27 : Nat :=
  let c0_i32_877 : BitVec 32 := 0#32
  let c1_i32_875 : BitVec 32 := 1#32
  let c1_i32_876 : BitVec 32 := 1#32
  let v1055 : BitVec 32 := Scalar.muli c1_i32_875 c1_i32_876
  let v1056 : BitVec 32 := Scalar.addi c0_i32_877 v1055
  v1056.toNat
def k0_dev28 : Nat :=
  let c0_i32_895 : BitVec 32 := 0#32
  let c4_i32_893 : BitVec 32 := 4#32
  let c1_i32_894 : BitVec 32 := 1#32
  let v1075 : BitVec 32 := Scalar.muli c4_i32_893 c1_i32_894
  let v1076 : BitVec 32 := Scalar.addi c0_i32_895 v1075
  v1076.toNat
def k0_dev29 : Nat :=
  let c0_i32_902 : BitVec 32 := 0#32
  let c3_i32_900 : BitVec 32 := 3#32
  let c1_i32_901 : BitVec 32 := 1#32
  let v1083 : BitVec 32 := Scalar.muli c3_i32_900 c1_i32_901
  let v1084 : BitVec 32 := Scalar.addi c0_i32_902 v1083
  v1084.toNat
def k0_dev30 : Nat :=
  let c0_i32_911 : BitVec 32 := 0#32
  let c1_i32_909 : BitVec 32 := 1#32
  let c1_i32_910 : BitVec 32 := 1#32
  let v1091 : BitVec 32 := Scalar.muli c1_i32_909 c1_i32_910
  let v1092 : BitVec 32 := Scalar.addi c0_i32_911 v1091
  v1092.toNat
def k0_dev31 : Nat :=
  let c0_i32_977 : BitVec 32 := 0#32
  let c4_i32_975 : BitVec 32 := 4#32
  let c1_i32_976 : BitVec 32 := 1#32
  let v1175 : BitVec 32 := Scalar.muli c4_i32_975 c1_i32_976
  let v1176 : BitVec 32 := Scalar.addi c0_i32_977 v1175
  v1176.toNat
def k0_dev32 : Nat :=
  let c0_i32_985 : BitVec 32 := 0#32
  let c3_i32_983 : BitVec 32 := 3#32
  let c1_i32_984 : BitVec 32 := 1#32
  let v1183 : BitVec 32 := Scalar.muli c3_i32_983 c1_i32_984
  let v1184 : BitVec 32 := Scalar.addi c0_i32_985 v1183
  v1184.toNat
def k0_dev33 : Nat :=
  let c0_i32_994 : BitVec 32 := 0#32
  let c1_i32_992 : BitVec 32 := 1#32
  let c1_i32_993 : BitVec 32 := 1#32
  let v1191 : BitVec 32 := Scalar.muli c1_i32_992 c1_i32_993
  let v1192 : BitVec 32 := Scalar.addi c0_i32_994 v1191
  v1192.toNat
def k0_dev34 : Nat :=
  let c0_i32_1012 : BitVec 32 := 0#32
  let c4_i32_1010 : BitVec 32 := 4#32
  let c1_i32_1011 : BitVec 32 := 1#32
  let v1211 : BitVec 32 := Scalar.muli c4_i32_1010 c1_i32_1011
  let v1212 : BitVec 32 := Scalar.addi c0_i32_1012 v1211
  v1212.toNat
def k0_dev35 : Nat :=
  let c0_i32_1019 : BitVec 32 := 0#32
  let c3_i32_1017 : BitVec 32 := 3#32
  let c1_i32_1018 : BitVec 32 := 1#32
  let v1219 : BitVec 32 := Scalar.muli c3_i32_1017 c1_i32_1018
  let v1220 : BitVec 32 := Scalar.addi c0_i32_1019 v1219
  v1220.toNat
def k0_dev36 : Nat :=
  let c0_i32_1028 : BitVec 32 := 0#32
  let c1_i32_1026 : BitVec 32 := 1#32
  let c1_i32_1027 : BitVec 32 := 1#32
  let v1227 : BitVec 32 := Scalar.muli c1_i32_1026 c1_i32_1027
  let v1228 : BitVec 32 := Scalar.addi c0_i32_1028 v1227
  v1228.toNat
def k0_dev37 : Nat :=
  let c0_i32_1387 : BitVec 32 := 0#32
  let c4_i32_1385 : BitVec 32 := 4#32
  let c1_i32_1386 : BitVec 32 := 1#32
  let v1675 : BitVec 32 := Scalar.muli c4_i32_1385 c1_i32_1386
  let v1676 : BitVec 32 := Scalar.addi c0_i32_1387 v1675
  v1676.toNat
def k0_dev38 : Nat :=
  let c0_i32_1395 : BitVec 32 := 0#32
  let c3_i32_1393 : BitVec 32 := 3#32
  let c1_i32_1394 : BitVec 32 := 1#32
  let v1683 : BitVec 32 := Scalar.muli c3_i32_1393 c1_i32_1394
  let v1684 : BitVec 32 := Scalar.addi c0_i32_1395 v1683
  v1684.toNat
def k0_dev39 : Nat :=
  let c0_i32_1404 : BitVec 32 := 0#32
  let c1_i32_1402 : BitVec 32 := 1#32
  let c1_i32_1403 : BitVec 32 := 1#32
  let v1691 : BitVec 32 := Scalar.muli c1_i32_1402 c1_i32_1403
  let v1692 : BitVec 32 := Scalar.addi c0_i32_1404 v1691
  v1692.toNat
def k0_dev40 : Nat :=
  let c0_i32_1422 : BitVec 32 := 0#32
  let c4_i32_1420 : BitVec 32 := 4#32
  let c1_i32_1421 : BitVec 32 := 1#32
  let v1711 : BitVec 32 := Scalar.muli c4_i32_1420 c1_i32_1421
  let v1712 : BitVec 32 := Scalar.addi c0_i32_1422 v1711
  v1712.toNat
def k0_dev41 : Nat :=
  let c0_i32_1430 : BitVec 32 := 0#32
  let c3_i32_1428 : BitVec 32 := 3#32
  let c1_i32_1429 : BitVec 32 := 1#32
  let v1719 : BitVec 32 := Scalar.muli c3_i32_1428 c1_i32_1429
  let v1720 : BitVec 32 := Scalar.addi c0_i32_1430 v1719
  v1720.toNat
def k0_dev42 : Nat :=
  let c0_i32_1439 : BitVec 32 := 0#32
  let c1_i32_1437 : BitVec 32 := 1#32
  let c1_i32_1438 : BitVec 32 := 1#32
  let v1727 : BitVec 32 := Scalar.muli c1_i32_1437 c1_i32_1438
  let v1728 : BitVec 32 := Scalar.addi c0_i32_1439 v1727
  v1728.toNat
def k0_dev43 : Nat :=
  let c0_i32_1457 : BitVec 32 := 0#32
  let c4_i32_1455 : BitVec 32 := 4#32
  let c1_i32_1456 : BitVec 32 := 1#32
  let v1747 : BitVec 32 := Scalar.muli c4_i32_1455 c1_i32_1456
  let v1748 : BitVec 32 := Scalar.addi c0_i32_1457 v1747
  v1748.toNat
def k0_dev44 : Nat :=
  let c0_i32_1465 : BitVec 32 := 0#32
  let c3_i32_1463 : BitVec 32 := 3#32
  let c1_i32_1464 : BitVec 32 := 1#32
  let v1755 : BitVec 32 := Scalar.muli c3_i32_1463 c1_i32_1464
  let v1756 : BitVec 32 := Scalar.addi c0_i32_1465 v1755
  v1756.toNat
def k0_dev45 : Nat :=
  let c0_i32_1474 : BitVec 32 := 0#32
  let c1_i32_1472 : BitVec 32 := 1#32
  let c1_i32_1473 : BitVec 32 := 1#32
  let v1763 : BitVec 32 := Scalar.muli c1_i32_1472 c1_i32_1473
  let v1764 : BitVec 32 := Scalar.addi c0_i32_1474 v1763
  v1764.toNat
def k0_dev46 : Nat :=
  let c0_i32_1492 : BitVec 32 := 0#32
  let c4_i32_1490 : BitVec 32 := 4#32
  let c1_i32_1491 : BitVec 32 := 1#32
  let v1783 : BitVec 32 := Scalar.muli c4_i32_1490 c1_i32_1491
  let v1784 : BitVec 32 := Scalar.addi c0_i32_1492 v1783
  v1784.toNat
def k0_dev47 : Nat :=
  let c0_i32_1500 : BitVec 32 := 0#32
  let c3_i32_1498 : BitVec 32 := 3#32
  let c1_i32_1499 : BitVec 32 := 1#32
  let v1791 : BitVec 32 := Scalar.muli c3_i32_1498 c1_i32_1499
  let v1792 : BitVec 32 := Scalar.addi c0_i32_1500 v1791
  v1792.toNat
def k0_dev48 : Nat :=
  let c0_i32_1509 : BitVec 32 := 0#32
  let c1_i32_1507 : BitVec 32 := 1#32
  let c1_i32_1508 : BitVec 32 := 1#32
  let v1799 : BitVec 32 := Scalar.muli c1_i32_1507 c1_i32_1508
  let v1800 : BitVec 32 := Scalar.addi c0_i32_1509 v1799
  v1800.toNat
def k0_cond13 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_790 : BitVec 32 := 3#32
  let v948 : BitVec 1 := Scalar.cmpi .eq v2 c3_i32_790
  let v949 : BitVec 32 := Scalar.extui v948
  let c0_i32_791 : BitVec 32 := 0#32
  let v950 : BitVec 1 := Scalar.cmpi .ne v949 c0_i32_791
  v950

def k0_dev49 : Nat :=
  let c0_i32_811 : BitVec 32 := 0#32
  let c2_i32_809 : BitVec 32 := 2#32
  let c1_i32_810 : BitVec 32 := 1#32
  let v969 : BitVec 32 := Scalar.muli c2_i32_809 c1_i32_810
  let v970 : BitVec 32 := Scalar.addi c0_i32_811 v969
  v970.toNat
def k0_dev50 : Nat :=
  let c0_i32_832 : BitVec 32 := 0#32
  let c2_i32_830 : BitVec 32 := 2#32
  let c1_i32_831 : BitVec 32 := 1#32
  let v988 : BitVec 32 := Scalar.muli c2_i32_830 c1_i32_831
  let v989 : BitVec 32 := Scalar.addi c0_i32_832 v988
  v989.toNat
def k0_dev51 : Nat :=
  let c0_i32_854 : BitVec 32 := 0#32
  let c2_i32_852 : BitVec 32 := 2#32
  let c1_i32_853 : BitVec 32 := 1#32
  let v1007 : BitVec 32 := Scalar.muli c2_i32_852 c1_i32_853
  let v1008 : BitVec 32 := Scalar.addi c0_i32_854 v1007
  v1008.toNat
def k0_dev52 : Nat :=
  let c0_i32_875 : BitVec 32 := 0#32
  let c2_i32_873 : BitVec 32 := 2#32
  let c1_i32_874 : BitVec 32 := 1#32
  let v1026 : BitVec 32 := Scalar.muli c2_i32_873 c1_i32_874
  let v1027 : BitVec 32 := Scalar.addi c0_i32_875 v1026
  v1027.toNat
def k0_dev53 : Nat :=
  let c0_i32_897 : BitVec 32 := 0#32
  let c2_i32_895 : BitVec 32 := 2#32
  let c1_i32_896 : BitVec 32 := 1#32
  let v1045 : BitVec 32 := Scalar.muli c2_i32_895 c1_i32_896
  let v1046 : BitVec 32 := Scalar.addi c0_i32_897 v1045
  v1046.toNat
def k0_dev54 : Nat :=
  let c0_i32_919 : BitVec 32 := 0#32
  let c2_i32_917 : BitVec 32 := 2#32
  let c1_i32_918 : BitVec 32 := 1#32
  let v1064 : BitVec 32 := Scalar.muli c2_i32_917 c1_i32_918
  let v1065 : BitVec 32 := Scalar.addi c0_i32_919 v1064
  v1065.toNat
def k0_dev55 : Nat :=
  let c0_i32_941 : BitVec 32 := 0#32
  let c2_i32_939 : BitVec 32 := 2#32
  let c1_i32_940 : BitVec 32 := 1#32
  let v1083 : BitVec 32 := Scalar.muli c2_i32_939 c1_i32_940
  let v1084 : BitVec 32 := Scalar.addi c0_i32_941 v1083
  v1084.toNat
def k0_dev56 : Nat :=
  let c0_i32_962 : BitVec 32 := 0#32
  let c2_i32_960 : BitVec 32 := 2#32
  let c1_i32_961 : BitVec 32 := 1#32
  let v1102 : BitVec 32 := Scalar.muli c2_i32_960 c1_i32_961
  let v1103 : BitVec 32 := Scalar.addi c0_i32_962 v1102
  v1103.toNat
def k0_cond14 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_792 : BitVec 32 := 4#32
  let v951 : BitVec 1 := Scalar.cmpi .eq v2 c4_i32_792
  let v952 : BitVec 32 := Scalar.extui v951
  let c0_i32_793 : BitVec 32 := 0#32
  let v953 : BitVec 1 := Scalar.cmpi .ne v952 c0_i32_793
  v953

def k0_dev57 : Nat :=
  let c0_i32_811 : BitVec 32 := 0#32
  let c7_i32_809 : BitVec 32 := 7#32
  let c1_i32_810 : BitVec 32 := 1#32
  let v969 : BitVec 32 := Scalar.muli c7_i32_809 c1_i32_810
  let v970 : BitVec 32 := Scalar.addi c0_i32_811 v969
  v970.toNat
def k0_dev58 : Nat :=
  let c0_i32_819 : BitVec 32 := 0#32
  let c5_i32_817 : BitVec 32 := 5#32
  let c1_i32_818 : BitVec 32 := 1#32
  let v977 : BitVec 32 := Scalar.muli c5_i32_817 c1_i32_818
  let v978 : BitVec 32 := Scalar.addi c0_i32_819 v977
  v978.toNat
def k0_dev59 : Nat :=
  let c0_i32_840 : BitVec 32 := 0#32
  let c7_i32_838 : BitVec 32 := 7#32
  let c1_i32_839 : BitVec 32 := 1#32
  let v996 : BitVec 32 := Scalar.muli c7_i32_838 c1_i32_839
  let v997 : BitVec 32 := Scalar.addi c0_i32_840 v996
  v997.toNat
def k0_dev60 : Nat :=
  let c0_i32_848 : BitVec 32 := 0#32
  let c5_i32_846 : BitVec 32 := 5#32
  let c1_i32_847 : BitVec 32 := 1#32
  let v1004 : BitVec 32 := Scalar.muli c5_i32_846 c1_i32_847
  let v1005 : BitVec 32 := Scalar.addi c0_i32_848 v1004
  v1005.toNat
def k0_dev61 : Nat :=
  let c0_i32_870 : BitVec 32 := 0#32
  let c7_i32_868 : BitVec 32 := 7#32
  let c1_i32_869 : BitVec 32 := 1#32
  let v1023 : BitVec 32 := Scalar.muli c7_i32_868 c1_i32_869
  let v1024 : BitVec 32 := Scalar.addi c0_i32_870 v1023
  v1024.toNat
def k0_dev62 : Nat :=
  let c0_i32_878 : BitVec 32 := 0#32
  let c5_i32_876 : BitVec 32 := 5#32
  let c1_i32_877 : BitVec 32 := 1#32
  let v1031 : BitVec 32 := Scalar.muli c5_i32_876 c1_i32_877
  let v1032 : BitVec 32 := Scalar.addi c0_i32_878 v1031
  v1032.toNat
def k0_dev63 : Nat :=
  let c0_i32_899 : BitVec 32 := 0#32
  let c7_i32_897 : BitVec 32 := 7#32
  let c1_i32_898 : BitVec 32 := 1#32
  let v1050 : BitVec 32 := Scalar.muli c7_i32_897 c1_i32_898
  let v1051 : BitVec 32 := Scalar.addi c0_i32_899 v1050
  v1051.toNat
def k0_dev64 : Nat :=
  let c0_i32_907 : BitVec 32 := 0#32
  let c5_i32_905 : BitVec 32 := 5#32
  let c1_i32_906 : BitVec 32 := 1#32
  let v1058 : BitVec 32 := Scalar.muli c5_i32_905 c1_i32_906
  let v1059 : BitVec 32 := Scalar.addi c0_i32_907 v1058
  v1059.toNat
def k0_dev65 : Nat :=
  let c0_i32_929 : BitVec 32 := 0#32
  let c7_i32_927 : BitVec 32 := 7#32
  let c1_i32_928 : BitVec 32 := 1#32
  let v1077 : BitVec 32 := Scalar.muli c7_i32_927 c1_i32_928
  let v1078 : BitVec 32 := Scalar.addi c0_i32_929 v1077
  v1078.toNat
def k0_dev66 : Nat :=
  let c0_i32_937 : BitVec 32 := 0#32
  let c5_i32_935 : BitVec 32 := 5#32
  let c1_i32_936 : BitVec 32 := 1#32
  let v1085 : BitVec 32 := Scalar.muli c5_i32_935 c1_i32_936
  let v1086 : BitVec 32 := Scalar.addi c0_i32_937 v1085
  v1086.toNat
def k0_dev67 : Nat :=
  let c0_i32_959 : BitVec 32 := 0#32
  let c7_i32_957 : BitVec 32 := 7#32
  let c1_i32_958 : BitVec 32 := 1#32
  let v1104 : BitVec 32 := Scalar.muli c7_i32_957 c1_i32_958
  let v1105 : BitVec 32 := Scalar.addi c0_i32_959 v1104
  v1105.toNat
def k0_dev68 : Nat :=
  let c0_i32_967 : BitVec 32 := 0#32
  let c5_i32_965 : BitVec 32 := 5#32
  let c1_i32_966 : BitVec 32 := 1#32
  let v1112 : BitVec 32 := Scalar.muli c5_i32_965 c1_i32_966
  let v1113 : BitVec 32 := Scalar.addi c0_i32_967 v1112
  v1113.toNat
def k0_dev69 : Nat :=
  let c0_i32_989 : BitVec 32 := 0#32
  let c7_i32_987 : BitVec 32 := 7#32
  let c1_i32_988 : BitVec 32 := 1#32
  let v1131 : BitVec 32 := Scalar.muli c7_i32_987 c1_i32_988
  let v1132 : BitVec 32 := Scalar.addi c0_i32_989 v1131
  v1132.toNat
def k0_dev70 : Nat :=
  let c0_i32_997 : BitVec 32 := 0#32
  let c5_i32_995 : BitVec 32 := 5#32
  let c1_i32_996 : BitVec 32 := 1#32
  let v1139 : BitVec 32 := Scalar.muli c5_i32_995 c1_i32_996
  let v1140 : BitVec 32 := Scalar.addi c0_i32_997 v1139
  v1140.toNat
def k0_dev71 : Nat :=
  let c0_i32_1018 : BitVec 32 := 0#32
  let c7_i32_1016 : BitVec 32 := 7#32
  let c1_i32_1017 : BitVec 32 := 1#32
  let v1158 : BitVec 32 := Scalar.muli c7_i32_1016 c1_i32_1017
  let v1159 : BitVec 32 := Scalar.addi c0_i32_1018 v1158
  v1159.toNat
def k0_dev72 : Nat :=
  let c0_i32_1026 : BitVec 32 := 0#32
  let c5_i32_1024 : BitVec 32 := 5#32
  let c1_i32_1025 : BitVec 32 := 1#32
  let v1166 : BitVec 32 := Scalar.muli c5_i32_1024 c1_i32_1025
  let v1167 : BitVec 32 := Scalar.addi c0_i32_1026 v1166
  v1167.toNat
def k0_cond17 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_798 : BitVec 32 := 7#32
  let v960 : BitVec 1 := Scalar.cmpi .eq v2 c7_i32_798
  let v961 : BitVec 32 := Scalar.extui v960
  let c0_i32_799 : BitVec 32 := 0#32
  let v962 : BitVec 1 := Scalar.cmpi .ne v961 c0_i32_799
  v962

def k0_dev73 : Nat :=
  let c0_i32_811 : BitVec 32 := 0#32
  let c6_i32_809 : BitVec 32 := 6#32
  let c1_i32_810 : BitVec 32 := 1#32
  let v969 : BitVec 32 := Scalar.muli c6_i32_809 c1_i32_810
  let v970 : BitVec 32 := Scalar.addi c0_i32_811 v969
  v970.toNat
def k0_dev74 : Nat :=
  let c0_i32_832 : BitVec 32 := 0#32
  let c6_i32_830 : BitVec 32 := 6#32
  let c1_i32_831 : BitVec 32 := 1#32
  let v988 : BitVec 32 := Scalar.muli c6_i32_830 c1_i32_831
  let v989 : BitVec 32 := Scalar.addi c0_i32_832 v988
  v989.toNat
def k0_dev75 : Nat :=
  let c0_i32_854 : BitVec 32 := 0#32
  let c6_i32_852 : BitVec 32 := 6#32
  let c1_i32_853 : BitVec 32 := 1#32
  let v1007 : BitVec 32 := Scalar.muli c6_i32_852 c1_i32_853
  let v1008 : BitVec 32 := Scalar.addi c0_i32_854 v1007
  v1008.toNat
def k0_dev76 : Nat :=
  let c0_i32_875 : BitVec 32 := 0#32
  let c6_i32_873 : BitVec 32 := 6#32
  let c1_i32_874 : BitVec 32 := 1#32
  let v1026 : BitVec 32 := Scalar.muli c6_i32_873 c1_i32_874
  let v1027 : BitVec 32 := Scalar.addi c0_i32_875 v1026
  v1027.toNat
def k0_dev77 : Nat :=
  let c0_i32_897 : BitVec 32 := 0#32
  let c6_i32_895 : BitVec 32 := 6#32
  let c1_i32_896 : BitVec 32 := 1#32
  let v1045 : BitVec 32 := Scalar.muli c6_i32_895 c1_i32_896
  let v1046 : BitVec 32 := Scalar.addi c0_i32_897 v1045
  v1046.toNat
def k0_dev78 : Nat :=
  let c0_i32_919 : BitVec 32 := 0#32
  let c6_i32_917 : BitVec 32 := 6#32
  let c1_i32_918 : BitVec 32 := 1#32
  let v1064 : BitVec 32 := Scalar.muli c6_i32_917 c1_i32_918
  let v1065 : BitVec 32 := Scalar.addi c0_i32_919 v1064
  v1065.toNat
def k0_dev79 : Nat :=
  let c0_i32_941 : BitVec 32 := 0#32
  let c6_i32_939 : BitVec 32 := 6#32
  let c1_i32_940 : BitVec 32 := 1#32
  let v1083 : BitVec 32 := Scalar.muli c6_i32_939 c1_i32_940
  let v1084 : BitVec 32 := Scalar.addi c0_i32_941 v1083
  v1084.toNat
def k0_dev80 : Nat :=
  let c0_i32_962 : BitVec 32 := 0#32
  let c6_i32_960 : BitVec 32 := 6#32
  let c1_i32_961 : BitVec 32 := 1#32
  let v1102 : BitVec 32 := Scalar.muli c6_i32_960 c1_i32_961
  let v1103 : BitVec 32 := Scalar.addi c0_i32_962 v1102
  v1103.toNat
abbrev stage0_0 : Fin 1 → Memref sig .tc .vmem S1x1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S1x1024x1024 : Shape := ⟨3, ![1, 1024, 1024]⟩
abbrev S1024x1024 : Shape := ⟨2, ![1024, 1024]⟩
abbrev S1x8192x8x128 : Shape := ⟨4, ![1, 8192, 8, 128]⟩
abbrev S1x1024x8x128 : Shape := ⟨4, ![1, 1024, 8, 128]⟩
abbrev S1024 : Shape := ⟨1, ![1024]⟩
abbrev S1024x1 : Shape := ⟨2, ![1024, 1]⟩
abbrev S8192 : Shape := ⟨1, ![8192]⟩
abbrev S1x8192 : Shape := ⟨2, ![1, 8192]⟩
abbrev S1024x8192 : Shape := ⟨2, ![1024, 8192]⟩
abbrev S_ : Shape := ⟨0, ![]⟩
abbrev S1x8x1024x8192 : Shape := ⟨4, ![1, 8, 1024, 8192]⟩
abbrev S1x1x1024x8192 : Shape := ⟨4, ![1, 1, 1024, 8192]⟩
abbrev S1x8x1024 : Shape := ⟨3, ![1, 8, 1024]⟩
abbrev S1x8x1024x1 : Shape := ⟨4, ![1, 8, 1024, 1]⟩
abbrev S1x1x1024x1 : Shape := ⟨4, ![1, 1, 1024, 1]⟩
abbrev S1x8x128x1024 : Shape := ⟨4, ![1, 8, 128, 1024]⟩

abbrev nBuf : Space → Nat
  | .hbm => 67
  | .vmem => 0
  | .smem => 0
  | _ => 0

abbrev bufTy : (tb : Table) → Fin (tcTables nBuf tb) → BufTy
  | .hbm, ⟨0, _⟩ => ⟨S1x1024x1024, .f32⟩
  | .hbm, ⟨1, _⟩ => ⟨S1024x1024, .f32⟩
  | .hbm, ⟨2, _⟩ => ⟨S1x8192x8x128, .f32⟩
  | .hbm, ⟨3, _⟩ => ⟨S1x8192x8x128, .f32⟩
  | .hbm, ⟨4, _⟩ => ⟨S1024x1024, .f32⟩
  | .hbm, ⟨5, _⟩ => ⟨S1x1024x1024, .f32⟩
  | .hbm, ⟨6, _⟩ => ⟨S1x1024x8x128, .f32⟩
  | .hbm, ⟨7, _⟩ => ⟨S1024, .i32⟩
  | .hbm, ⟨8, _⟩ => ⟨S1024x1, .i32⟩
  | .hbm, ⟨9, _⟩ => ⟨S8192, .i32⟩
  | .hbm, ⟨10, _⟩ => ⟨S1x8192, .i32⟩
  | .hbm, ⟨11, _⟩ => ⟨S1024x8192, .i32⟩
  | .hbm, ⟨12, _⟩ => ⟨S1024x8192, .i32⟩
  | .hbm, ⟨13, _⟩ => ⟨S1024x8192, .i32⟩
  | .hbm, ⟨14, _⟩ => ⟨S1024x8192, .i32⟩
  | .hbm, ⟨15, _⟩ => ⟨S_, .i32⟩
  | .hbm, ⟨16, _⟩ => ⟨S1024x8192, .i32⟩
  | .hbm, ⟨17, _⟩ => ⟨S1024x8192, .i1⟩
  | .hbm, ⟨18, _⟩ => ⟨S_, .i32⟩
  | .hbm, ⟨19, _⟩ => ⟨S1x8192, .i32⟩
  | .hbm, ⟨20, _⟩ => ⟨S1x8192, .i1⟩
  | .hbm, ⟨21, _⟩ => ⟨S_, .i32⟩
  | .hbm, ⟨22, _⟩ => ⟨S1024x1, .i32⟩
  | .hbm, ⟨23, _⟩ => ⟨S1024x1, .i1⟩
  | .hbm, ⟨24, _⟩ => ⟨S1024x8192, .i1⟩
  | .hbm, ⟨25, _⟩ => ⟨S1024x8192, .i1⟩
  | .hbm, ⟨26, _⟩ => ⟨S1024x8192, .i1⟩
  | .hbm, ⟨27, _⟩ => ⟨S1024x8192, .i1⟩
  | .hbm, ⟨28, _⟩ => ⟨S1x8x1024x8192, .f32⟩
  | .hbm, ⟨29, _⟩ => ⟨S_, .f32⟩
  | .hbm, ⟨30, _⟩ => ⟨S1x8x1024x8192, .f32⟩
  | .hbm, ⟨31, _⟩ => ⟨S1x8x1024x8192, .f32⟩
  | .hbm, ⟨32, _⟩ => ⟨S1x1x1024x8192, .i1⟩
  | .hbm, ⟨33, _⟩ => ⟨S_, .f32⟩
  | .hbm, ⟨34, _⟩ => ⟨S_, .f32⟩
  | .hbm, ⟨35, _⟩ => ⟨S1x8x1024x8192, .i1⟩
  | .hbm, ⟨36, _⟩ => ⟨S1x8x1024x8192, .f32⟩
  | .hbm, ⟨37, _⟩ => ⟨S1x8x1024x8192, .f32⟩
  | .hbm, ⟨38, _⟩ => ⟨S_, .f32⟩
  | .hbm, ⟨39, _⟩ => ⟨S1x8x1024, .f32⟩
  | .hbm, ⟨40, _⟩ => ⟨S1x8x1024x1, .f32⟩
  | .hbm, ⟨41, _⟩ => ⟨S1x8x1024x8192, .f32⟩
  | .hbm, ⟨42, _⟩ => ⟨S1x8x1024x8192, .f32⟩
  | .hbm, ⟨43, _⟩ => ⟨S1x8x1024x8192, .f32⟩
  | .hbm, ⟨44, _⟩ => ⟨S_, .i1⟩
  | .hbm, ⟨45, _⟩ => ⟨S1024, .i1⟩
  | .hbm, ⟨46, _⟩ => ⟨S1x1x1024x1, .i1⟩
  | .hbm, ⟨47, _⟩ => ⟨S_, .f32⟩
  | .hbm, ⟨48, _⟩ => ⟨S1x8x1024, .f32⟩
  | .hbm, ⟨49, _⟩ => ⟨S1x8x1024x1, .f32⟩
  | .hbm, ⟨50, _⟩ => ⟨S_, .f32⟩
  | .hbm, ⟨51, _⟩ => ⟨S_, .f32⟩
  | .hbm, ⟨52, _⟩ => ⟨S1x8x1024x1, .i1⟩
  | .hbm, ⟨53, _⟩ => ⟨S1x8x1024x1, .f32⟩
  | .hbm, ⟨54, _⟩ => ⟨S1x8x1024x1, .f32⟩
  | .hbm, ⟨55, _⟩ => ⟨S1x8x1024x8192, .f32⟩
  | .hbm, ⟨56, _⟩ => ⟨S1x8x1024x8192, .f32⟩
  | .hbm, ⟨57, _⟩ => ⟨S1x1x1024x1, .i1⟩
  | .hbm, ⟨58, _⟩ => ⟨S_, .f32⟩
  | .hbm, ⟨59, _⟩ => ⟨S_, .f32⟩
  | .hbm, ⟨60, _⟩ => ⟨S1x8x1024x8192, .i1⟩
  | .hbm, ⟨61, _⟩ => ⟨S1x8x1024x8192, .f32⟩
  | .hbm, ⟨62, _⟩ => ⟨S1x8x1024x8192, .f32⟩
  | .hbm, ⟨63, _⟩ => ⟨S1x8x128x1024, .f32⟩
  | .hbm, ⟨64, _⟩ => ⟨S1x1024x8x128, .f32⟩
  | .hbm, ⟨65, _⟩ => ⟨S1x1024x1024, .f32⟩
  | .hbm, ⟨66, _⟩ => ⟨S1x1024x1024, .f32⟩
  | _, _ => ⟨S1x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c : Ref sig .tc := ⟨.hbm, 15, rfl⟩
abbrev main_v10 : Ref sig .tc := ⟨.hbm, 16, rfl⟩
abbrev main_v11 : Ref sig .tc := ⟨.hbm, 17, rfl⟩
abbrev main_c_0 : Ref sig .tc := ⟨.hbm, 18, rfl⟩
abbrev main_v12 : Ref sig .tc := ⟨.hbm, 19, rfl⟩
abbrev main_v13 : Ref sig .tc := ⟨.hbm, 20, rfl⟩
abbrev main_c_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_2 : Ref sig .tc := ⟨.hbm, 33, rfl⟩
abbrev main_call0_v0 : Ref sig .tc := ⟨.hbm, 34, rfl⟩
abbrev main_call0_v1 : Ref sig .tc := ⟨.hbm, 35, rfl⟩
abbrev main_call0_v2 : Ref sig .tc := ⟨.hbm, 36, rfl⟩
abbrev main_v24 : Ref sig .tc := ⟨.hbm, 37, rfl⟩
abbrev main_cst_3 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_c_4 : Ref sig .tc := ⟨.hbm, 44, rfl⟩
abbrev main_v30 : Ref sig .tc := ⟨.hbm, 45, rfl⟩
abbrev main_v31 : Ref sig .tc := ⟨.hbm, 46, rfl⟩
abbrev main_cst_5 : Ref sig .tc := ⟨.hbm, 47, rfl⟩
abbrev main_v32 : Ref sig .tc := ⟨.hbm, 48, rfl⟩
abbrev main_v33 : Ref sig .tc := ⟨.hbm, 49, rfl⟩
abbrev main_cst_6 : Ref sig .tc := ⟨.hbm, 50, rfl⟩
abbrev main_call1_v0 : Ref sig .tc := ⟨.hbm, 51, rfl⟩
abbrev main_call1_v1 : Ref sig .tc := ⟨.hbm, 52, rfl⟩
abbrev main_call1_v2 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_7 : Ref sig .tc := ⟨.hbm, 58, rfl⟩
abbrev main_call2_v0 : Ref sig .tc := ⟨.hbm, 59, rfl⟩
abbrev main_call2_v1 : Ref sig .tc := ⟨.hbm, 60, rfl⟩
abbrev main_call2_v2 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩

abbrev nD : Nat := 1
abbrev τ : Topo := Topo.v7x

variable {F : FTy → Type} [FloatOps F]
-- ==== Proof.Fns.lean ====
/-
  The kernel's arithmetic, once for every block, head and device: each function below is what the
  kernel computes between two memory operations.
-/
module

public import proofs.«01_k».proof.Proof.Gen.KernelIdeal

@[expose] public section

noncomputable section

namespace Cert.Proof

open Cert.KernelIdeal Cert.KernelIdeal.Gen
open Idealize.ShloMosaic Idealize.ShloMosaic.TcCoe
open Idealize.SL Idealize.SL.Sem

variable {F : FTy → Type} [FloatOps F] [Named F]

/-- Device `c`'s number as the kernel's word. -/
def devWord (c : Dev nD) : BitVec 32 := Scalar.remsi (Scalar.divsi (Dev.word c) 1#32) 8#32

/-- 256 rows of the scaled queries. -/
def qRows (x : Vec F S1x256x1024 .f32) (w : Vec F S1024x1024 .f32) : FVec F S256x1024 .bf16 :=
  shapeCast S256x1024 (truncf .bf16 (mulf (matmul dot_S256x1024_S1024x1024_S256x1024_1_0_0_1_n_n none
    (truncf .bf16 (shapeCast S256x1024 x shapeCasts_S1x256x1024_S256x1024) bitsLt_bf16_f32)
    (truncf .bf16 (shapeCast S1024x1024 w shapeCasts_S1024x1024_S1024x1024) bitsLt_bf16_f32)
    (constant S256x1024 .f32 0x00000000#32)) (broadcast S256x1024 (Scalar.ofBits .f32 0x3DB504F3#32))) bitsLt_bf16_f32)
    shapeCasts_S256x1024_S256x1024

/-- The mask's bias on rows `r0 ..` and the device's keys `k0 ..`, 512 of them. -/
def biasW (v2 r0 k0 : BitVec 32) : FVec F S256x512 .f32 :=
  have rows : IVec S256x512 32 := addi (broadcast S256x512 r0) (iota .tc S256x512 32 [0] iota_S256x512_d0_w32)
  have cols : IVec S256x512 32 := addi (addi (iota .tc S256x512 32 [1] iota_S256x512_d1_w32) (broadcast S256x512 k0))
    (broadcast S256x512 (Scalar.muli v2 1024#32))
  select (ori (ori (cmpi .sle (absi (subi rows cols)) (broadcast S256x512 128#32))
      (cmpi .slt cols (broadcast S256x512 32#32))) (cmpi .slt rows (broadcast S256x512 32#32)))
    (broadcast S256x512 (Scalar.ofBits .f32 0x00000000#32)) (broadcast S256x512 (Named.named κ "mask" 0xCE6E6B28#32))

/-- The same on 128 keys. -/
def biasH (v2 r0 k0 : BitVec 32) : FVec F S256x128 .f32 :=
  have rows : IVec S256x128 32 := addi (broadcast S256x128 r0) (iota .tc S256x128 32 [0] iota_S256x128_d0_w32)
  have cols : IVec S256x128 32 := addi (addi (iota .tc S256x128 32 [1] iota_S256x128_d1_w32) (broadcast S256x128 k0))
    (broadcast S256x128 (Scalar.muli v2 1024#32))
  select (ori (ori (cmpi .sle (absi (subi rows cols)) (broadcast S256x128 128#32))
      (cmpi .slt cols (broadcast S256x128 32#32))) (cmpi .slt rows (broadcast S256x128 32#32)))
    (broadcast S256x128 (Scalar.ofBits .f32 0x00000000#32)) (broadcast S256x128 (Named.named κ "mask" 0xCE6E6B28#32))

/-- One head's 512 keys (or values) in the narrow type. -/
def cutW (k : Vec F S1x512x128 .f32) : FVec F S512x128 .bf16 :=
  truncf .bf16 (shapeCast S512x128 k shapeCasts_S1x512x128_S512x128) bitsLt_bf16_f32

/-- One head's 128 keys (or values) in the narrow type. -/
def cutH (k : Vec F S1x128x128 .f32) : FVec F S128x128 .bf16 :=
  truncf .bf16 (shapeCast S128x128 k shapeCasts_S1x128x128_S128x128) bitsLt_bf16_f32

/-- The weights of 256 rows on 512 keys, -/
def expW (b : FVec F S256x512 .f32) (q : Vec F S256x128 .bf16) (k : Vec F S1x512x128 .f32) : FVec F S256x512 .f32 :=
  exp (addf (matmul dot_S256x128_S512x128_S256x512_1_1_0_0_n_n none q (cutW k) (constant S256x512 .f32 0x00000000#32)) b)

/-- their sums, -/
def denW (w : FVec F S256x512 .f32) : FVec F S256x1 .f32 :=
  shapeCast S256x1 (multiReduction .add [1] S256 w 0x00000000#32 reduces_S256x512_S256 (.inl rfl) rfl) shapeCasts_S256_S256x1

/-- and the values weighted by them. -/
def numW (w : FVec F S256x512 .f32) (v : Vec F S1x512x128 .f32) : FVec F S256x128 .f32 :=
  matmul dot_S256x512_S512x128_S256x128_1_0_0_1_n_n none (truncf .bf16 w bitsLt_bf16_f32) (cutW v)
    (constant S256x128 .f32 0x00000000#32)

/-- The weights of 256 rows on the first 128 keys, -/
def expH (b : FVec F S256x128 .f32) (q : Vec F S256x128 .bf16) (k : Vec F S1x128x128 .f32) : FVec F S256x128 .f32 :=
  exp (addf (matmul dot_S256x128_S128x128_S256x128_1_1_0_0_n_n none q (cutH k) (constant S256x128 .f32 0x00000000#32)) b)

/-- their sums, -/
def denH (w : FVec F S256x128 .f32) : FVec F S256x1 .f32 :=
  shapeCast S256x1 (multiReduction .add [1] S256 w 0x00000000#32 reduces_S256x128_S256 (.inl rfl) rfl) shapeCasts_S256_S256x1

/-- and the values weighted by them. -/
def numH (w : FVec F S256x128 .f32) (v : Vec F S1x128x128 .f32) : FVec F S256x128 .f32 :=
  matmul dot_S256x128_S128x128_S256x128_1_0_0_1_n_n none (truncf .bf16 w bitsLt_bf16_f32) (cutH v)
    (constant S256x128 .f32 0x00000000#32)

/-- The weights of the 32 global rows on 512 keys (no mask there), -/
def expG (q : Vec F S32x128 .bf16) (k : Vec F S1x512x128 .f32) : FVec F S32x512 .f32 :=
  exp (matmul dot_S32x128_S512x128_S32x512_1_1_0_0_n_n none q (cutW k) (constant S32x512 .f32 0x00000000#32))

/-- the old sums and the new ones, -/
def denG (w : FVec F S32x512 .f32) (d : Vec F S32x1 .f32) : FVec F S32x1 .f32 :=
  shapeCast S32x1 (addf d (shapeCast S32x1 (multiReduction .add [1] S32 w 0x00000000#32 reduces_S32x512_S32 (.inl rfl) rfl)
    shapeCasts_S32_S32x1)) shapeCasts_S32x1_S32x1

/-- and the old weighted values and the new ones. -/
def numG (w : FVec F S32x512 .f32) (v : Vec F S1x512x128 .f32) (n : Vec F S32x128 .f32) : FVec F S32x128 .f32 :=
  shapeCast S32x128 (addf n (matmul dot_S32x512_S512x128_S32x128_1_0_0_1_n_n none (truncf .bf16 w bitsLt_bf16_f32) (cutW v)
    (constant S32x128 .f32 0x00000000#32))) shapeCasts_S32x128_S32x128

/-- What a block's store writes: the values as they are. -/
def keepN (n : FVec F S256x128 .f32) : FVec F S256x128 .f32 := shapeCast S256x128 n shapeCasts_S256x128_S256x128
def keepD (d : FVec F S256x1 .f32) : FVec F S256x1 .f32 := shapeCast S256x1 d shapeCasts_S256x1_S256x1

/-- The global rows' part as it is sent, -/
def narrowG (n : Vec F S32x1024 .f32) : FVec F S32x1024 .bf16 :=
  shapeCast S32x1024 (truncf .bf16 n bitsLt_bf16_f32) shapeCasts_S32x1024_S32x1024

/-- and the band's. -/
def narrowB (n : Vec F S128x1024 .f32) : FVec F S128x1024 .bf16 :=
  shapeCast S128x1024 (truncf .bf16 n bitsLt_bf16_f32) shapeCasts_S128x1024_S128x1024

/-- One head's context on 256 rows. -/
def ctxRows (n : Vec F S256x128 .f32) (d : Vec F S256x1 .f32) : FVec F S256x128 .bf16 :=
  shapeCast S256x128 (truncf .bf16 (divf n (broadcastTo S256x128 d broadcasts_S256x1_S256x128)) bitsLt_bf16_f32)
    shapeCasts_S256x128_S256x128

/-- 128 rows of the result, -/
def projRows (x : Vec F S128x1024 .bf16) (w : Vec F S1024x1024 .f32) : FVec F S128x1024 .f32 :=
  matmul dot_S128x1024_S1024x1024_S128x1024_1_0_0_1_n_n none x
    (truncf .bf16 (shapeCast S1024x1024 w shapeCasts_S1024x1024_S1024x1024) bitsLt_bf16_f32) (constant S128x1024 .f32 0x00000000#32)

/-- as they are stored, -/
def outRows (o : FVec F S128x1024 .f32) : FVec F S1x128x1024 .f32 :=
  shapeCast S1x128x1024 o shapeCasts_S128x1024_S1x128x1024

/-- as they are sent, -/
def castRows (o : FVec F S128x1024 .f32) : FVec F S128x1024 .bf16 :=
  shapeCast S128x1024 (truncf .bf16 o bitsLt_bf16_f32) shapeCasts_S128x1024_S128x1024

/-- and as a receiver stores them. -/
def recvRows (o : Vec F S128x1024 .bf16) : FVec F S1x128x1024 .f32 :=
  shapeCast S1x128x1024 (extf .f32 o bitsLt_bf16_f32) shapeCasts_S128x1024_S1x128x1024

/-- One more device's part of the global rows: the weighted values, -/
def addGn (n : FVec F S32x1024 .f32) (g : Vec F S1x32x1024 .bf16) : FVec F S32x1024 .f32 :=
  addf n (extf .f32 (shapeCast S32x1024 g shapeCasts_S1x32x1024_S32x1024) bitsLt_bf16_f32)

/-- and the sums. -/
def addGd (d : FVec F S32x8 .f32) (g : Vec F S1x32x8 .f32) : FVec F S32x8 .f32 :=
  addf d (shapeCast S32x8 g shapeCasts_S1x32x8_S32x8)

/-- The second device's part of the band: the weighted values, -/
def addBn (n : Vec F S128x1024 .f32) (g : Vec F S128x1024 .bf16) : FVec F S128x1024 .f32 :=
  addf n (extf .f32 g bitsLt_bf16_f32)

/-- and the sums. -/
def addBd (d : Vec F S128x8 .f32) (g : Vec F S128x8 .f32) : FVec F S128x8 .f32 := addf d g

theorem slicesGn (h : Fin 8) : S32x1024.Slices ![0, 128 * h.val] S32x128 := by revert h; decide
theorem slicesGd (h : Fin 8) : S32x8.Slices ![0, h.val] S32x1 := by revert h; decide
theorem slicesBn (h : Fin 8) : S128x1024.Slices ![0, 128 * h.val] S128x128 := by revert h; decide
theorem slicesBd (h : Fin 8) : S128x8.Slices ![0, h.val] S128x1 := by revert h; decide

/-- Head `h`'s context on the global rows, -/
def ctxG (n : FVec F S32x1024 .f32) (d : FVec F S32x8 .f32) (h : Fin 8) : FVec F S32x128 .bf16 :=
  shapeCast S32x128 (truncf .bf16 (divf (extractStridedSlice S32x128 ![0, 128 * h.val] n (slicesGn h))
    (broadcastTo S32x128 (extractStridedSlice S32x1 ![0, h.val] d (slicesGd h)) broadcasts_S32x1_S32x128)) bitsLt_bf16_f32)
    shapeCasts_S32x128_S32x128

/-- and on the band. -/
def ctxB (n : FVec F S128x1024 .f32) (d : FVec F S128x8 .f32) (h : Fin 8) : FVec F S128x128 .bf16 :=
  shapeCast S128x128 (truncf .bf16 (divf (extractStridedSlice S128x128 ![0, 128 * h.val] n (slicesBn h))
    (broadcastTo S128x128 (extractStridedSlice S128x1 ![0, h.val] d (slicesBd h)) broadcasts_S128x1_S128x128)) bitsLt_bf16_f32)
    shapeCasts_S128x128_S128x128

end Cert.Proof

end
-- ==== Proof.Prog.lean ====
/-
  The kernel as a program written once: its copies, loads, stores and waits over the heads, the blocks
  and the devices, in the kernel's order. `Same.lean` proves that the printed kernel is this program.
-/
module

public import proofs.«01_k».proof.Proof.Fns

@[expose] public section

noncomputable section

namespace Cert.Proof

open Cert.KernelIdeal Cert.KernelIdeal.Gen
open Idealize.ShloMosaic Idealize.ShloMosaic.TcCoe
open Idealize.SL Idealize.SL.Sem

/-! ## The buffers, their parts and the semaphores -/

abbrev bX : Memref sig .tc .vmem S1x1024x1024 .f32 := Memref.whole cc0_stg0_0
abbrev bWq : Memref sig .tc .vmem S1024x1024 .f32 := Memref.whole cc0_stg1_0
abbrev bWo : Memref sig .tc .vmem S1024x1024 .f32 := Memref.whole cc0_stg2_0
abbrev bOut : Memref sig .tc .vmem S1x1024x1024 .f32 := Memref.whole cc0_stg3_0
abbrev bQ : Memref sig .tc .vmem S1024x1024 .bf16 := Memref.whole cc0_scratch0
abbrev bPn : Memref sig .tc .vmem S1024x1024 .f32 := Memref.whole cc0_scratch1
abbrev bPd : Memref sig .tc .vmem S1024x8 .f32 := Memref.whole cc0_scratch2
abbrev bSg : Memref sig .tc .vmem S32x1024 .bf16 := Memref.whole cc0_scratch3
abbrev bSb : Memref sig .tc .vmem S128x1024 .bf16 := Memref.whole cc0_scratch4
abbrev bGn : Memref sig .tc .vmem S8x32x1024 .bf16 := Memref.whole cc0_scratch5
abbrev bGd : Memref sig .tc .vmem S8x32x8 .f32 := Memref.whole cc0_scratch6
abbrev bBn : Memref sig .tc .vmem S128x1024 .bf16 := Memref.whole cc0_scratch7
abbrev bBd : Memref sig .tc .vmem S128x8 .f32 := Memref.whole cc0_scratch8
abbrev bCtx : Memref sig .tc .vmem S1024x1024 .bf16 := Memref.whole cc0_scratch9
abbrev bCast : Memref sig .tc .vmem S1024x1024 .bf16 := Memref.whole cc0_scratch10
abbrev bK : Memref sig .tc .vmem S8x1024x128 .f32 := Memref.whole cc0_scratch11
abbrev bV : Memref sig .tc .vmem S8x1024x128 .f32 := Memref.whole cc0_scratch12
abbrev hK : Memref sig .tc .hbm S1x1024x8x128 .f32 := Memref.whole main_arg2
abbrev hV : Memref sig .tc .hbm S1x1024x8x128 .f32 := Memref.whole main_arg3

theorem inb1 {n : Nat} (i : Fin n) : ∀ a, (![i.val] : Fin 1 → Nat) a + S1.size a ≤ (⟨1, ![n]⟩ : Shape).size a := by
  intro a; fin_cases a; simp
theorem inbHbm (h : Fin 8) : ∀ a, (![0, 0, h.val, 0] : Fin 4 → Nat) a + S1x1024x1x128.size a ≤ S1x1024x8x128.size a := by
  revert h; decide
theorem inbHead (h : Fin 8) : ∀ a, (![h.val, 0, 0] : Fin 3 → Nat) a + S1x1024x128.size a ≤ S8x1024x128.size a := by
  revert h; decide
theorem inbKeys {n : Nat} (h : Fin 8) {k : Nat} (hk : k + n ≤ 1024) :
    ∀ a, (![h.val, k, 0] : Fin 3 → Nat) a + (⟨3, ![1, n, 128]⟩ : Shape).size a ≤ S8x1024x128.size a := by
  intro a; fin_cases a <;> simp <;> omega
theorem inbCols {n m c : Nat} {r k : Nat} (hr : r + n ≤ 1024) (hk : k + m ≤ c) :
    ∀ a, (![r, k] : Fin 2 → Nat) a + (⟨2, ![n, m]⟩ : Shape).size a ≤ (⟨2, ![1024, c]⟩ : Shape).size a := by
  intro a; fin_cases a <;> simp <;> omega
theorem inbOut {n : Nat} {r : Nat} (hr : r + n ≤ 1024) :
    ∀ a, (![0, r, 0] : Fin 3 → Nat) a + (⟨3, ![1, n, 1024]⟩ : Shape).size a ≤ S1x1024x1024.size a := by
  intro a; fin_cases a <;> simp <;> omega
theorem inbGat {m : Nat} (s : Fin 8) :
    ∀ a, (![s.val, 0, 0] : Fin 3 → Nat) a + (⟨3, ![1, 32, m]⟩ : Shape).size a ≤ (⟨3, ![8, 32, m]⟩ : Shape).size a := by
  intro a; fin_cases a <;> simp

/-- Head `h` of the device's keys and values, and where it is copied to. -/
abbrev kSrc (h : Fin 8) : Memref sig .tc .hbm S1024x128 .f32 :=
  (hK.slice (Rect.unit (s := S1x1024x8x128) ![0, 0, h.val, 0] S1x1024x1x128.size (inbHbm h)) (fun _ => rfl)).squeeze S1024x128 squeezes_S1x1024x1x128_S1024x128
abbrev vSrc (h : Fin 8) : Memref sig .tc .hbm S1024x128 .f32 :=
  (hV.slice (Rect.unit (s := S1x1024x8x128) ![0, 0, h.val, 0] S1x1024x1x128.size (inbHbm h)) (fun _ => rfl)).squeeze S1024x128 squeezes_S1x1024x1x128_S1024x128
abbrev kDst (h : Fin 8) : Memref sig .tc .vmem S1024x128 .f32 :=
  (bK.slice (Rect.unit (s := S8x1024x128) ![h.val, 0, 0] S1x1024x128.size (inbHead h)) (fun _ => rfl)).squeeze S1024x128 squeezes_S1x1024x128_S1024x128
abbrev vDst (h : Fin 8) : Memref sig .tc .vmem S1024x128 .f32 :=
  (bV.slice (Rect.unit (s := S8x1024x128) ![h.val, 0, 0] S1x1024x128.size (inbHead h)) (fun _ => rfl)).squeeze S1024x128 squeezes_S1x1024x128_S1024x128

/-- Device `s`'s place among the gathered parts. -/
abbrev gnAt (s : Fin 8) : Memref sig .tc .vmem S32x1024 .bf16 :=
  (bGn.slice (Rect.unit (s := S8x32x1024) ![s.val, 0, 0] S1x32x1024.size (inbGat s)) (fun _ => rfl)).squeeze S32x1024 squeezes_S1x32x1024_S32x1024
abbrev gdAt (s : Fin 8) : Memref sig .tc .vmem S32x8 .f32 :=
  (bGd.slice (Rect.unit (s := S8x32x8) ![s.val, 0, 0] S1x32x8.size (inbGat s)) (fun _ => rfl)).squeeze S32x8 squeezes_S1x32x8_S32x8
/-- The sums on the global rows and on the band. -/
abbrev pdG : Memref sig .tc .vmem S32x8 .f32 :=
  bPd.slice (Rect.unit (s := S1024x8) ![0, 0] S32x8.size (inbCols (by decide) (by decide))) (fun _ => rfl)
abbrev pdB : Memref sig .tc .vmem S128x8 .f32 :=
  bPd.slice (Rect.unit (s := S1024x8) ![896, 0] S128x8.size (inbCols (by decide) (by decide))) (fun _ => rfl)
/-- Block `b` of the broadcast buffer. -/
abbrev castAt (b : Fin 8) : Memref sig .tc .vmem S128x1024 .bf16 :=
  bCast.slice (Rect.unit (s := S1024x1024) ![128 * b.val, 0] S128x1024.size (inbCols (by omega) (by decide))) (fun _ => rfl)

abbrev semAt {n : Nat} (a : DmaSems sig ⟨1, ![n]⟩) (i : Fin n) : DmaSem sig :=
  ((a.slice (Rect.unit (s := ⟨1, ![n]⟩) ![i.val] S1.size (inb1 i))).squeeze S_ squeezes_S1_S_).sem

/-- The semaphores: of the copies in, -/
def kvS (i : Fin 16) : DmaSem sig := semAt cc0_scratch19 i
/-- of the sends to device 0, -/
def gsS (i : Fin 4) : DmaSem sig := semAt cc0_scratch13 i
/-- of their arrivals: the weighted values and the sums of the global rows, and the band's two, -/
def gnS (s : Fin 8) : DmaSem sig := semAt cc0_scratch14 s
def gdS (s : Fin 8) : DmaSem sig := semAt cc0_scratch15 s
def gbS (i : Fin 2) : DmaSem sig := semAt cc0_scratch16 i
/-- of the broadcast: a send of block `b` to device `c`, and its arrival. -/
def bsS (c b : Fin 8) : DmaSem sig := semAt cc0_scratch17 (⟨c.val * 8 + b.val, by omega⟩ : Fin 64)
def brS (b : Fin 8) : DmaSem sig := semAt cc0_scratch18 b
/-- The barrier's semaphore. -/
def barS : Sem sig := (SemArray.scalar (sig.barrier 0 rfl) : Sems sig S_).sem

theorem packedQ (b : Fin 4) : (Rect.unit (s := S1024x1024) ![256 * b.val, 0] S256x1024.size (inbCols (by omega) (by decide))).PackedRows (EltTy.packing .bf16) := by
  revert b; decide
theorem packedCtx (b : Fin 4) (h : Fin 8) : (Rect.unit (s := S1024x1024) ![256 * b.val, 128 * h.val] S256x128.size (inbCols (by omega) (by omega))).PackedRows (EltTy.packing .bf16) := by
  revert b h; decide
theorem packedCtxG (h : Fin 8) : (Rect.unit (s := S1024x1024) ![0, 128 * h.val] S32x128.size (inbCols (by omega) (by omega))).PackedRows (EltTy.packing .bf16) := by
  revert h; decide
theorem packedCtxB (h : Fin 8) : (Rect.unit (s := S1024x1024) ![896, 128 * h.val] S128x128.size (inbCols (by omega) (by omega))).PackedRows (EltTy.packing .bf16) := by
  revert h; decide
theorem packedCast (b : Fin 8) : (Rect.unit (s := S1024x1024) ![128 * b.val, 0] S128x1024.size (inbCols (by omega) (by decide))).PackedRows (EltTy.packing .bf16) := by
  revert b; decide
theorem wordsGn (s : Fin 8) : (Rect.unit (s := S8x32x1024) ![s.val, 0, 0] S1x32x1024.size (inbGat s)).WholeWords (EltTy.packing .bf16) := by
  revert s; decide
theorem wholeM (b : Ref sig .tc) : (Memref.whole b).IsWhole := Memref.isWhole_whole _
theorem wxGn (s : Fin 8) : (gnAt s).view.WordExact :=
  ((wholeM cc0_scratch5).wordExact_slice rfl _ (wordsGn s)).reshape _ _
theorem wxCast (b : Fin 8) : (castAt b).view.WordExact := (wholeM cc0_scratch10).wordExact_slice rfl _ (packedCast b).wholeWords

/-! ## The program -/

variable (F : FTy → Type) [FloatOps F] [Named F]

/-- The kernel's programs. -/
abbrev P1 (α : Type) : Type 1 := Prog (TpuEff nD τ sig (Elt F) Λ₀ .tc) α

variable {F}

/-- A program for each entry of a list, in order. -/
def each {α : Type} (f : α → P1 F PUnit) : List α → P1 F PUnit
  | [] => pure ⟨⟩
  | x :: xs => f x >>= fun _ => each f xs

/-- A result for each entry of a list, in order. -/
def collect {α β : Type} (f : α → P1 F β) : List α → P1 F (List β)
  | [] => pure []
  | x :: xs => f x >>= fun y => collect f xs >>= fun ys => pure (y :: ys)

/-- The copies of one head's keys and values into the kernel's memory, -/
def copyKV (h : Fin 8) : P1 F PUnit := do
  Prog.lift (.enqueueDma (kSrc h) (.here (kDst h)) (.dma (kvS ⟨h.val, by omega⟩)) ((View.wordExact_bits rfl).reshape _ _) ((View.wordExact_bits rfl).reshape _ _) ⟨Or.inl rfl, trivial⟩)
  Prog.lift (.enqueueDma (vSrc h) (.here (vDst h)) (.dma (kvS ⟨8 + h.val, by omega⟩)) ((View.wordExact_bits rfl).reshape _ _) ((View.wordExact_bits rfl).reshape _ _) ⟨Or.inl rfl, trivial⟩)

/-- and the waits for them. -/
def waitKV (h : Fin 8) : P1 F PUnit := do
  Prog.lift (.waitDma2 (kvS ⟨h.val, by omega⟩) (kSrc h) (kDst h) ((View.wordExact_bits rfl).reshape _ _) ((View.wordExact_bits rfl).reshape _ _))
  Prog.lift (.waitDma2 (kvS ⟨8 + h.val, by omega⟩) (vSrc h) (vDst h) ((View.wordExact_bits rfl).reshape _ _) ((View.wordExact_bits rfl).reshape _ _))

/-- One of the barrier's signals. -/
def signalTo (d : Dev nD) : P1 F PUnit := semSignalWord d barS 1#32

/-- 256 rows of the queries. -/
def queryStep (b : Fin 4) : P1 F PUnit := do
  let x ← Prog.lift (.load bX (Rect.unit (s := S1x1024x1024) ![0, 256 * b.val, 0] S1x256x1024.size (inbOut (by omega))).toLoadRect (View.loadsAt_vmem h_S1x256x1024))
  let w ← Prog.lift (.load bWq (Rect.unit (s := S1024x1024) ![0, 0] S1024x1024.size (inbCols (by decide) (by decide))).toLoadRect (View.loadsAt_vmem h_S1024x1024))
  let _ ← Prog.lift (.load bQ (Rect.unit (s := S1024x1024) ![256 * b.val, 0] S256x1024.size (inbCols (by omega) (by decide))).toLoadRect (View.loadsAt_vmem h_S256x1024))
  Prog.lift (.store bQ (Rect.unit (s := S1024x1024) ![256 * b.val, 0] S256x1024.size (inbCols (by omega) (by decide))) (qRows x w) Finset.univ (View.stores_vmem h_S256x1024 ((wholeM cc0_scratch0).storeExact_slice rfl _ (packedQ b)) (fun _ => rfl)) (.inl rfl))

/-- The first key of block `b`'s window. -/
def wlo (b : Fin 4) : Nat := if b.val = 0 then 0 else if b.val = 3 then 512 else 256 * b.val - 128
theorem wlo_le (b : Fin 4) : wlo b + 512 ≤ 1024 := by revert b; decide

/-- Head `h` of block `b` on its window of keys, -/
def windowHead (v2 : BitVec 32) (b : Fin 4) (h : Fin 8) : P1 F (Fin 8 × FVec F S256x128 .f32 × FVec F S256x1 .f32) := do
  let k ← Prog.lift (.load bK (Rect.unit (s := S8x1024x128) ![h.val, wlo b, 0] S1x512x128.size (inbKeys h (wlo_le b))).toLoadRect (View.loadsAt_vmem h_S1x512x128))
  let q ← Prog.lift (.load bQ (Rect.unit (s := S1024x1024) ![256 * b.val, 128 * h.val] S256x128.size (inbCols (by omega) (by omega))).toLoadRect (View.loadsAt_vmem h_S256x128))
  let v ← Prog.lift (.load bV (Rect.unit (s := S8x1024x128) ![h.val, wlo b, 0] S1x512x128.size (inbKeys h (wlo_le b))).toLoadRect (View.loadsAt_vmem h_S1x512x128))
  let w := expW (biasW v2 (BitVec.ofNat 32 (256 * b.val)) (BitVec.ofNat 32 (wlo b))) q k
  pure (h, numW w v, denW w)

/-- and on the first 128 keys besides. -/
def firstHead (v2 : BitVec 32) (b : Fin 4) (r : Fin 8 × FVec F S256x128 .f32 × FVec F S256x1 .f32) :
    P1 F (Fin 8 × FVec F S256x128 .f32 × FVec F S256x1 .f32) := do
  let k ← Prog.lift (.load bK (Rect.unit (s := S8x1024x128) ![r.1.val, 0, 0] S1x128x128.size (inbKeys r.1 (by decide))).toLoadRect (View.loadsAt_vmem h_S1x128x128))
  let q ← Prog.lift (.load bQ (Rect.unit (s := S1024x1024) ![256 * b.val, 128 * r.1.val] S256x128.size (inbCols (by omega) (by omega))).toLoadRect (View.loadsAt_vmem h_S256x128))
  let v ← Prog.lift (.load bV (Rect.unit (s := S8x1024x128) ![r.1.val, 0, 0] S1x128x128.size (inbKeys r.1 (by decide))).toLoadRect (View.loadsAt_vmem h_S1x128x128))
  let w := expH (biasH v2 (BitVec.ofNat 32 (256 * b.val)) 0#32) q k
  pure (r.1, addf r.2.1 (numH w v), addf r.2.2 (denH w))

/-- The stores of one head of block `b`. -/
def keepHead (b : Fin 4) (r : Fin 8 × FVec F S256x128 .f32 × FVec F S256x1 .f32) : P1 F PUnit := do
  let _ ← Prog.lift (.load bPn (Rect.unit (s := S1024x1024) ![256 * b.val, 128 * r.1.val] S256x128.size (inbCols (by omega) (by omega))).toLoadRect (View.loadsAt_vmem h_S256x128))
  Prog.lift (.store bPn (Rect.unit (s := S1024x1024) ![256 * b.val, 128 * r.1.val] S256x128.size (inbCols (by omega) (by omega))) (keepN r.2.1) Finset.univ (View.stores_vmem_bits_univ h_S256x128 rfl) (.inl rfl))
  let _ ← Prog.lift (.load bPd (Rect.unit (s := S1024x8) ![256 * b.val, r.1.val] S256x1.size (inbCols (by omega) (by omega))).toLoadRect (View.loadsAt_vmem h_S256x1))
  Prog.lift (.store bPd (Rect.unit (s := S1024x8) ![256 * b.val, r.1.val] S256x1.size (inbCols (by omega) (by omega))) (keepD r.2.2) Finset.univ (View.stores_vmem_bits_univ h_S256x1 rfl) (.inl rfl))

/-- The heads. -/
def heads : List (Fin 8) := [0, 1, 2, 3, 4, 5, 6, 7]

/-- Block `b`, without the first keys, -/
def blockPlain (v2 : BitVec 32) (b : Fin 4) : P1 F PUnit := do
  let rs ← collect (windowHead v2 b) heads
  each (keepHead b) rs

/-- and with them. -/
def blockFirst (v2 : BitVec 32) (b : Fin 4) : P1 F PUnit := do
  let rs ← collect (windowHead v2 b) heads
  let rs' ← collect (firstHead v2 b) rs
  each (keepHead b) rs'

/-- Head `h` of the global rows on the device's last 512 keys. -/
def globalHead (h : Fin 8) : P1 F PUnit := do
  let k ← Prog.lift (.load bK (Rect.unit (s := S8x1024x128) ![h.val, 512, 0] S1x512x128.size (inbKeys h (by decide))).toLoadRect (View.loadsAt_vmem h_S1x512x128))
  let q ← Prog.lift (.load bQ (Rect.unit (s := S1024x1024) ![0, 128 * h.val] S32x128.size (inbCols (by decide) (by omega))).toLoadRect (View.loadsAt_vmem h_S32x128))
  let v ← Prog.lift (.load bV (Rect.unit (s := S8x1024x128) ![h.val, 512, 0] S1x512x128.size (inbKeys h (by decide))).toLoadRect (View.loadsAt_vmem h_S1x512x128))
  let n ← Prog.lift (.load bPn (Rect.unit (s := S1024x1024) ![0, 128 * h.val] S32x128.size (inbCols (by decide) (by omega))).toLoadRect (View.loadsAt_vmem h_S32x128))
  let _ ← Prog.lift (.load bPn (Rect.unit (s := S1024x1024) ![0, 128 * h.val] S32x128.size (inbCols (by decide) (by omega))).toLoadRect (View.loadsAt_vmem h_S32x128))
  Prog.lift (.store bPn (Rect.unit (s := S1024x1024) ![0, 128 * h.val] S32x128.size (inbCols (by decide) (by omega))) (numG (expG q k) v n) Finset.univ (View.stores_vmem_bits_univ h_S32x128 rfl) (.inl rfl))
  let d ← Prog.lift (.load bPd (Rect.unit (s := S1024x8) ![0, h.val] S32x1.size (inbCols (by decide) (by omega))).toLoadRect (View.loadsAt_vmem h_S32x1))
  let _ ← Prog.lift (.load bPd (Rect.unit (s := S1024x8) ![0, h.val] S32x1.size (inbCols (by decide) (by omega))).toLoadRect (View.loadsAt_vmem h_S32x1))
  Prog.lift (.store bPd (Rect.unit (s := S1024x8) ![0, h.val] S32x1.size (inbCols (by decide) (by omega))) (denG (expG q k) d) Finset.univ (View.stores_vmem_bits_univ h_S32x1 rfl) (.inl rfl))

/-- A device other than 0 narrows its part of the global rows and sends it to device 0, -/
def sendGlobal (s : Fin 8) : P1 F PUnit := do
  let n ← Prog.lift (.load bPn (Rect.unit (s := S1024x1024) ![0, 0] S32x1024.size (inbCols (by decide) (by decide))).toLoadRect (View.loadsAt_vmem h_S32x1024))
  let _ ← Prog.lift (.load bSg (Rect.unit (s := S32x1024) ![0, 0] S32x1024.size inb_S32x1024_S32x1024_0_0).toLoadRect (View.loadsAt_vmem h_S32x1024))
  Prog.lift (.store bSg (Rect.unit (s := S32x1024) ![0, 0] S32x1024.size inb_S32x1024_S32x1024_0_0) (narrowG n) Finset.univ (View.stores_vmem h_S32x1024 ((wholeM cc0_scratch3).storeExact_slice rfl _ packedbf16_S32x1024_S32x1024_0_0) (fun _ => rfl)) (.inl rfl))
  Prog.lift (.enqueueDma bSg (.remote (Dev.tc (⟨0, by decide⟩ : Dev nD)) (gnAt s) (.dma (gsS 0))) (.dma (gnS s)) (wholeM cc0_scratch3).wordExact (wxGn s) ⟨⟨rfl, Or.inl rfl⟩, trivial⟩)
  Prog.lift (.enqueueDma pdG (.remote (Dev.tc (⟨0, by decide⟩ : Dev nD)) (gdAt s) (.dma (gsS 1))) (.dma (gdS s)) (View.wordExact_bits rfl) ((View.wordExact_bits rfl).reshape _ _) ⟨⟨rfl, Or.inl rfl⟩, trivial⟩)
  Prog.lift (.waitDma2 (gsS 0) (gnAt s) bSg (wxGn s) (wholeM cc0_scratch3).wordExact)
  Prog.lift (.waitDma2 (gsS 1) (gdAt s) pdG ((View.wordExact_bits rfl).reshape _ _) (View.wordExact_bits rfl))

/-- and device 1 the band as well. -/
def sendBand : P1 F PUnit := do
  let n ← Prog.lift (.load bPn (Rect.unit (s := S1024x1024) ![896, 0] S128x1024.size (inbCols (by decide) (by decide))).toLoadRect (View.loadsAt_vmem h_S128x1024))
  let _ ← Prog.lift (.load bSb (Rect.unit (s := S128x1024) ![0, 0] S128x1024.size inb_S128x1024_S128x1024_0_0).toLoadRect (View.loadsAt_vmem h_S128x1024))
  Prog.lift (.store bSb (Rect.unit (s := S128x1024) ![0, 0] S128x1024.size inb_S128x1024_S128x1024_0_0) (narrowB n) Finset.univ (View.stores_vmem h_S128x1024 ((wholeM cc0_scratch4).storeExact_slice rfl _ packedbf16_S128x1024_S128x1024_0_0) (fun _ => rfl)) (.inl rfl))
  Prog.lift (.enqueueDma bSb (.remote (Dev.tc (⟨0, by decide⟩ : Dev nD)) bBn (.dma (gsS 2))) (.dma (gbS 0)) (wholeM cc0_scratch4).wordExact (wholeM cc0_scratch7).wordExact ⟨⟨rfl, Or.inl rfl⟩, trivial⟩)
  Prog.lift (.enqueueDma pdB (.remote (Dev.tc (⟨0, by decide⟩ : Dev nD)) bBd (.dma (gsS 3))) (.dma (gbS 1)) (View.wordExact_bits rfl) (wholeM cc0_scratch8).wordExact ⟨⟨rfl, Or.inl rfl⟩, trivial⟩)
  Prog.lift (.waitDma2 (gsS 2) bBn bSb (wholeM cc0_scratch7).wordExact (wholeM cc0_scratch4).wordExact)
  Prog.lift (.waitDma2 (gsS 3) bBd pdB (wholeM cc0_scratch8).wordExact (View.wordExact_bits rfl))

/-- Device 0 divides block `b`, head `h`. -/
def normHead (b : Fin 4) (h : Fin 8) : P1 F PUnit := do
  let n ← Prog.lift (.load bPn (Rect.unit (s := S1024x1024) ![256 * b.val, 128 * h.val] S256x128.size (inbCols (by omega) (by omega))).toLoadRect (View.loadsAt_vmem h_S256x128))
  let d ← Prog.lift (.load bPd (Rect.unit (s := S1024x8) ![256 * b.val, h.val] S256x1.size (inbCols (by omega) (by omega))).toLoadRect (View.loadsAt_vmem h_S256x1))
  let _ ← Prog.lift (.load bCtx (Rect.unit (s := S1024x1024) ![256 * b.val, 128 * h.val] S256x128.size (inbCols (by omega) (by omega))).toLoadRect (View.loadsAt_vmem h_S256x128))
  Prog.lift (.store bCtx (Rect.unit (s := S1024x1024) ![256 * b.val, 128 * h.val] S256x128.size (inbCols (by omega) (by omega))) (ctxRows n d) Finset.univ (View.stores_vmem h_S256x128 ((wholeM cc0_scratch9).storeExact_slice rfl _ (packedCtx b h)) (fun _ => rfl)) (.inl rfl))

/-- The tree of the broadcast: whom a device sends to. -/
def kids (c : Dev nD) : List (Fin 8) :=
  if c.val = 0 then [4, 3, 1] else if c.val = 4 then [7, 5] else if c.val = 3 then [2] else if c.val = 7 then [6] else []

/-- A send of block `b` to device `k`, -/
def castTo (b k : Fin 8) : P1 F PUnit :=
  Prog.lift (.enqueueDma (castAt b) (.remote (Dev.tc (⟨k.val, k.isLt⟩ : Dev nD)) (castAt b) (.dma (bsS k b))) (.dma (brS b)) (wxCast b) (wxCast b) ⟨⟨rfl, Or.inl rfl⟩, trivial⟩)

/-- the wait for that it has been sent, -/
def sentTo (r : Fin 8 × Fin 8) : P1 F PUnit :=
  Prog.lift (.waitDma2 (bsS r.2 r.1) (castAt r.1) (castAt r.1) (wxCast r.1) (wxCast r.1))

/-- the wait for its arrival. -/
def arrived (b : Fin 8) : P1 F PUnit :=
  Prog.lift (.waitDma2 (brS b) (castAt b) (castAt b) (wxCast b) (wxCast b))

/-- The order in which the blocks are broadcast. -/
def border : List (Fin 8) := [2, 3, 4, 5, 0, 1, 6, 7]

/-- All sends of device `c`, in order. -/
def sends (c : Dev nD) : List (Fin 8 × Fin 8) := border.flatMap fun b => (kids c).map fun k => (b, k)

/-- Device 0 computes block `b` of the result, keeps it and sends it. -/
def projBlock (c : Dev nD) (b : Fin 8) : P1 F PUnit := do
  let x ← Prog.lift (.load bCtx (Rect.unit (s := S1024x1024) ![128 * b.val, 0] S128x1024.size (inbCols (by omega) (by decide))).toLoadRect (View.loadsAt_vmem h_S128x1024))
  let w ← Prog.lift (.load bWo (Rect.unit (s := S1024x1024) ![0, 0] S1024x1024.size (inbCols (by decide) (by decide))).toLoadRect (View.loadsAt_vmem h_S1024x1024))
  let _ ← Prog.lift (.load bOut (Rect.unit (s := S1x1024x1024) ![0, 128 * b.val, 0] S1x128x1024.size (inbOut (by omega))).toLoadRect (View.loadsAt_vmem h_S1x128x1024))
  Prog.lift (.store bOut (Rect.unit (s := S1x1024x1024) ![0, 128 * b.val, 0] S1x128x1024.size (inbOut (by omega))) (outRows (projRows x w)) Finset.univ (View.stores_vmem_bits_univ h_S1x128x1024 rfl) (.inl rfl))
  let _ ← Prog.lift (.load bCast (Rect.unit (s := S1024x1024) ![128 * b.val, 0] S128x1024.size (inbCols (by omega) (by decide))).toLoadRect (View.loadsAt_vmem h_S128x1024))
  Prog.lift (.store bCast (Rect.unit (s := S1024x1024) ![128 * b.val, 0] S128x1024.size (inbCols (by omega) (by decide))) (castRows (projRows x w)) Finset.univ (View.stores_vmem h_S128x1024 ((wholeM cc0_scratch10).storeExact_slice rfl _ (packedCast b)) (fun _ => rfl)) (.inl rfl))
  each (castTo b) (kids c)

/-- Device 0 waits for what device `s` sent, -/
def waitGlobal (s : Fin 8) : P1 F PUnit := do
  Prog.lift (.waitDma2 (gnS s) (gnAt s) (gnAt s) (wxGn s) (wxGn s))
  Prog.lift (.waitDma2 (gdS s) pdG (gdAt s) (View.wordExact_bits rfl) ((View.wordExact_bits rfl).reshape _ _))

/-- for the band, -/
def waitBand : P1 F PUnit := do
  Prog.lift (.waitDma2 (gbS 0) bBn bBn (wholeM cc0_scratch7).wordExact (wholeM cc0_scratch7).wordExact)
  Prog.lift (.waitDma2 (gbS 1) pdB bBd (View.wordExact_bits rfl) (wholeM cc0_scratch8).wordExact)

/-- adds up the global rows, -/
def sumGlobal : List (Fin 8) → FVec F S32x1024 .f32 × FVec F S32x8 .f32 → P1 F (FVec F S32x1024 .f32 × FVec F S32x8 .f32)
  | [], a => pure a
  | s :: ss, a => do
    let n ← Prog.lift (.load bGn (Rect.unit (s := S8x32x1024) ![s.val, 0, 0] S1x32x1024.size (inbGat s)).toLoadRect (View.loadsAt_vmem h_S1x32x1024))
    let d ← Prog.lift (.load bGd (Rect.unit (s := S8x32x8) ![s.val, 0, 0] S1x32x8.size (inbGat s)).toLoadRect (View.loadsAt_vmem h_S1x32x8))
    sumGlobal ss (addGn a.1 n, addGd a.2 d)

/-- and divides one head of the global rows and of the band. -/
def fixHead (ng : FVec F S32x1024 .f32) (dg : FVec F S32x8 .f32) (nb : FVec F S128x1024 .f32) (db : FVec F S128x8 .f32)
    (h : Fin 8) : P1 F PUnit := do
  let _ ← Prog.lift (.load bCtx (Rect.unit (s := S1024x1024) ![0, 128 * h.val] S32x128.size (inbCols (by omega) (by omega))).toLoadRect (View.loadsAt_vmem h_S32x128))
  Prog.lift (.store bCtx (Rect.unit (s := S1024x1024) ![0, 128 * h.val] S32x128.size (inbCols (by omega) (by omega))) (ctxG ng dg h) Finset.univ (View.stores_vmem h_S32x128 ((wholeM cc0_scratch9).storeExact_slice rfl _ (packedCtxG h)) (fun _ => rfl)) (.inl rfl))
  let _ ← Prog.lift (.load bCtx (Rect.unit (s := S1024x1024) ![896, 128 * h.val] S128x128.size (inbCols (by omega) (by omega))).toLoadRect (View.loadsAt_vmem h_S128x128))
  Prog.lift (.store bCtx (Rect.unit (s := S1024x1024) ![896, 128 * h.val] S128x128.size (inbCols (by omega) (by omega))) (ctxB nb db h) Finset.univ (View.stores_vmem h_S128x128 ((wholeM cc0_scratch9).storeExact_slice rfl _ (packedCtxB h)) (fun _ => rfl)) (.inl rfl))

/-- The devices other than 0. -/
def others : List (Fin 8) := [1, 2, 3, 4, 5, 6, 7]

/-- Device 0 puts the parts together. -/
def fixRows : P1 F PUnit := do
  let n ← Prog.lift (.load bPn (Rect.unit (s := S1024x1024) ![0, 0] S32x1024.size (inbCols (by decide) (by decide))).toLoadRect (View.loadsAt_vmem h_S32x1024))
  let d ← Prog.lift (.load bPd (Rect.unit (s := S1024x8) ![0, 0] S32x8.size (inbCols (by decide) (by decide))).toLoadRect (View.loadsAt_vmem h_S32x8))
  let g ← sumGlobal others ((n : Vec F S32x1024 .f32), (d : Vec F S32x8 .f32))
  let nb ← Prog.lift (.load bPn (Rect.unit (s := S1024x1024) ![896, 0] S128x1024.size (inbCols (by decide) (by decide))).toLoadRect (View.loadsAt_vmem h_S128x1024))
  let nb' ← Prog.lift (.load bBn (Rect.unit (s := S128x1024) ![0, 0] S128x1024.size inb_S128x1024_S128x1024_0_0).toLoadRect (View.loadsAt_vmem h_S128x1024))
  let db ← Prog.lift (.load bPd (Rect.unit (s := S1024x8) ![896, 0] S128x8.size (inbCols (by decide) (by decide))).toLoadRect (View.loadsAt_vmem h_S128x8))
  let db' ← Prog.lift (.load bBd (Rect.unit (s := S128x8) ![0, 0] S128x8.size (by decide)).toLoadRect (View.loadsAt_vmem h_S128x8))
  each (fixHead g.1 g.2 (addBn nb nb') (addBd db db')) heads

/-- Device 0's end. -/
def rootEnd (c : Dev nD) : P1 F PUnit := do
  each (normHead 1) heads
  each (projBlock c) [2, 3]
  each (normHead 2) heads
  each (projBlock c) [4, 5]
  each waitGlobal others
  waitBand
  each (normHead 0) heads
  each (normHead 3) heads
  fixRows
  each (projBlock c) [0, 1, 6, 7]
  each sentTo (sends c)

/-- Another device takes block `b`, sends it on and keeps it, -/
def takeBlock (c : Dev nD) (b : Fin 8) : P1 F PUnit := do
  arrived b
  each (castTo b) (kids c)
  let o ← Prog.lift (.load bCast (Rect.unit (s := S1024x1024) ![128 * b.val, 0] S128x1024.size (inbCols (by omega) (by decide))).toLoadRect (View.loadsAt_vmem h_S128x1024))
  let _ ← Prog.lift (.load bOut (Rect.unit (s := S1x1024x1024) ![0, 128 * b.val, 0] S1x128x1024.size (inbOut (by omega))).toLoadRect (View.loadsAt_vmem h_S1x128x1024))
  Prog.lift (.store bOut (Rect.unit (s := S1x1024x1024) ![0, 128 * b.val, 0] S1x128x1024.size (inbOut (by omega))) (recvRows o) Finset.univ (View.stores_vmem_bits_univ h_S1x128x1024 rfl) (.inl rfl))

/-- which is its end. -/
def leafEnd (c : Dev nD) : P1 F PUnit := do
  each (takeBlock c) border
  each sentTo (sends c)

/-- What every device does first, -/
def front (c : Dev nD) : P1 F PUnit := do
  each copyKV heads
  each signalTo heads
  semWaitWord barS 8#32
  each queryStep [0, 1, 2, 3]
  each waitKV heads
  blockPlain (devWord c) 0
  each globalHead heads
  blockFirst (devWord c) 3

/-- the parts it sends, -/
def sendParts (c : Dev nD) : P1 F PUnit := do
  if c.val = 0 then pure ⟨⟩ else sendGlobal c
  if c.val = 1 then sendBand else pure ⟨⟩

/-- and all of it. -/
def prog (c : Dev nD) : P1 F PUnit := do
  front c
  sendParts c
  each (blockFirst (devWord c)) [1, 2]
  if c.val = 0 then rootEnd c else leafEnd c

end Cert.Proof

end
-- ==== Proof.Mem.lean ====
/-
  What the proof says of a device's memory: a buffer, or a part of one, held at contents known on a set
  of its places; and the rules of loads, stores and loops in that form.
-/
module

public import proofs.«01_k».proof.Proof.Prog
public import proofs.«01_k».proof.Proof.Gen.KernelIdeal.Launch
public import Idealize.ShloMosaic.Lib.Pipeline.Launch
public import Idealize.ShloMosaic.Lib.Pipeline.Kit
public import Idealize.ShloMosaic.Lib.ShareLeaves
public import Idealize.ShloMosaic.Lib.Tactic

@[expose] public section

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-- The resources of the protocol: its rounds, whose duties are named by devices, beside the pipeline's. -/
abbrev UB : Type := URounds (GSem nD τ sig) (Fin 8)
abbrev UU : Type := UR sig nD τ × UB

local notation "𝕄" => MT nD τ sig Unit (Elt F) ℕ UU ℕ

abbrev 𝒱₀ : Variants := Variants.none

omit [Named F] in
/-- Every element type has a value. -/
theorem elt_nonempty (e : EltTy) : Nonempty (Elt F e) := by
  cases e
  case fp8e4m3 => exact ⟨(Scalar.ofBits .fp8e4m3 0 : F .fp8e4m3)⟩
  case fp8e5m2 => exact ⟨(Scalar.ofBits .fp8e5m2 0 : F .fp8e5m2)⟩
  case bf16 => exact ⟨(Scalar.ofBits .bf16 0 : F .bf16)⟩
  case f16 => exact ⟨(Scalar.ofBits .f16 0 : F .f16)⟩
  case f32 => exact ⟨(Scalar.ofBits .f32 0 : F .f32)⟩
  all_goals exact ⟨(0 : BitVec _)⟩

instance : ∀ e, Nonempty (Elt F e) := elt_nonempty

omit [FloatOps F] [Named F] in
theorem both {P Q : sProp 𝕄} (h : P ⊢ Q) (h' : Q ⊢ P) : P = Q := BI.Entails.antisymm h h'

/-- Device `c`'s program `p` ends in `Q`. -/
abbrev run (c : Dev nD) {α : Type} (p : P1 F α) (Q : α → sProp 𝕄) : sProp 𝕄 :=
  wp frame (wpE (defs₀ (F := F)) 𝒱₀ (c : Thread nD τ) none) Set.univ p Q

theorem run_bind (c : Dev nD) {α β : Type} (p : P1 F α) (f : α → P1 F β) (Q : β → sProp 𝕄) :
    run c (p >>= f) Q = run c p (fun a => run c (f a) Q) := wp_bind ..

theorem run_pure (c : Dev nD) {α : Type} (a : α) (Q : α → sProp 𝕄) : Q a ⊢ run c (pure a) Q := by
  unfold run; rw [wp_pure]; exact fupd_intro

/-! ## Held memory -/

section Held
variable {sp : Space} {s : Shape} {e : EltTy}

/-- `m` on device `c` held in full, its contents `X` on the set `S`. -/
def on (c : Dev nD) (m : Memref sig .tc sp s e) (S : s.Idx → Prop) (X : s.Idx → Elt F e) : sProp 𝕄 :=
  iprop(∃ Y : s.Idx → Elt F e, ⌜∀ i, S i → Y i = X i⌝ ∗ owns (c : Thread nD τ) m fullShare Y)

/-- Held at all of `X`. -/
abbrev full (c : Dev nD) (m : Memref sig .tc sp s e) (X : s.Idx → Elt F e) : sProp 𝕄 :=
  owns (c : Thread nD τ) m fullShare X

/-- Held at some contents. -/
def some' (c : Dev nD) (m : Memref sig .tc sp s e) : sProp 𝕄 := iprop(∃ Y, full (F := F) c m Y)

instance (c : Dev nD) (m : Memref sig .tc sp s e) : BI.Storable (upEmb : UEmb _ 𝕄) (some' (F := F) c m) := by
  unfold some'; infer_instance

omit [FloatOps F] [Named F] in
theorem on_mono (c : Dev nD) (m : Memref sig .tc sp s e) {S S' : s.Idx → Prop} {X X' : s.Idx → Elt F e}
    (h : ∀ i, S' i → S i ∧ X i = X' i) : on c m S X ⊢ (on c m S' X' : sProp 𝕄) := by
  unfold on; iintro ⟨%Y, %hY, H⟩
  iexists Y; isplitr
  · ipureintro; exact fun i hi => (hY i (h i hi).1).trans (h i hi).2
  · iexact H

omit [FloatOps F] [Named F] in
theorem on_full (c : Dev nD) (m : Memref sig .tc sp s e) {S : s.Idx → Prop} {X X' : s.Idx → Elt F e}
    (h : ∀ i, S i ∧ X i = X' i) : on c m S X ⊢ (full c m X' : sProp 𝕄) := by
  unfold on; iintro ⟨%Y, %hY, H⟩
  have : Y = X' := funext fun i => (hY i (h i).1).trans (h i).2
  subst this; iexact H

omit [FloatOps F] [Named F] in
theorem full_on (c : Dev nD) (m : Memref sig .tc sp s e) {S : s.Idx → Prop} {X X' : s.Idx → Elt F e}
    (h : ∀ i, S i → X i = X' i) : full c m X ⊢ (on c m S X' : sProp 𝕄) := by
  unfold on; iintro H
  iexists X; isplitr
  · ipureintro; exact h
  · iexact H

omit [FloatOps F] [Named F] in
theorem some_on (c : Dev nD) (m : Memref sig .tc sp s e) {S : s.Idx → Prop} {X : s.Idx → Elt F e}
    (h : ∀ i, ¬ S i) : some' c m ⊢ (on c m S X : sProp 𝕄) := by
  unfold some'; iintro ⟨%Y, H⟩
  iapply (full_on c m (X := Y) fun i hi => absurd hi (h i)); iexact H

omit [FloatOps F] [Named F] in
theorem on_some (c : Dev nD) (m : Memref sig .tc sp s e) {S : s.Idx → Prop} {X : s.Idx → Elt F e} :
    on c m S X ⊢ (some' c m : sProp 𝕄) := by
  unfold on some'; iintro ⟨%Y, -, H⟩; iexists Y; iexact H

omit [FloatOps F] [Named F] in
theorem full_some (c : Dev nD) (m : Memref sig .tc sp s e) {X : s.Idx → Elt F e} :
    full c m X ⊢ (some' c m : sProp 𝕄) := by
  unfold some'; iintro H; iexists X; iexact H

omit [FloatOps F] [Named F] in
theorem owns_open (c : Dev nD) (m : Memref sig .tc sp s e) (q : PosShare TreeShare) (X : s.Idx → Elt F e) :
    owns (c : Thread nD τ) m q X ⊢ (iprop(∃ f, ⌜m.view.read (Elt F) f = X⌝ ∗ (m.view.loc (c : Thread nD τ) ↦[m.view.set]{q} f)) : sProp 𝕄) := .rfl

/-- The part of `X` on the rectangle `r`. -/
abbrev rd {α : Type} (r : Rect s) (X : s.Idx → α) : r.shape.Idx → α := fun j => X (r.emb j)

end Held

/-! ## Loads and stores -/

section Access
variable {cs : CoreSpace} {s : Shape} {e : EltTy} {c : Dev nD} {α : Type}

/-- A load of a held part. -/
theorem load_owns {m : Memref sig .tc cs s e} {r : Rect s} {hl : m.view.LoadsAt r.toLoadRect}
    {k : (r.shape.Idx → Elt F e) → P1 F α} {q : PosShare TreeShare} (X : s.Idx → Elt F e) {Q : α → sProp 𝕄} :
    owns (c : Thread nD τ) m q X
      ⊢ iprop((owns (c : Thread nD τ) m q X -∗ run c (k (rd r X)) Q) -∗ run c (.op (.load m r.toLoadRect hl) k) Q) := by
  iintro H Hk
  ihave H := (owns_open c m q X) $$ H
  icases H with ⟨%f, %hf, H⟩
  iapply (wp_load 𝒱₀ (c : Thread nD τ) none Set.univ (m := m) (S := m.view.set)
    (Finset.map_subset_map.mpr (Finset.subset_univ _))) $$ H
  iintro H
  subst hf
  iapply Hk
  iapply (owns_intro (c : Thread nD τ) m q f); iexact H

/-- A load where the contents are known: -/
theorem load_on {m : Memref sig .tc cs s e} {r : Rect s} {hl : m.view.LoadsAt r.toLoadRect}
    {k : (r.shape.Idx → Elt F e) → P1 F α} {S : s.Idx → Prop} {X : s.Idx → Elt F e} (h : ∀ j, S (r.emb j)) {Q : α → sProp 𝕄} :
    on c m S X ⊢ iprop((on c m S X -∗ run c (k (rd r X)) Q) -∗ run c (.op (.load m r.toLoadRect hl) k) Q) := by
  unfold on
  iintro ⟨%Y, %hY, H⟩ Hk
  iapply (load_owns Y) $$ H
  iintro H
  rw [show rd r Y = rd r X from funext fun j => hY _ (h j)]
  iapply Hk
  iexists Y; isplitr; · ipureintro; exact hY
  iexact H

/-- where they are not, and what is loaded is not used: -/
theorem load_skip {m : Memref sig .tc cs s e} {r : Rect s} {hl : m.view.LoadsAt r.toLoadRect}
    {p : P1 F α} {S : s.Idx → Prop} {X : s.Idx → Elt F e} {Q : α → sProp 𝕄} :
    on c m S X ⊢ iprop((on c m S X -∗ run c p Q) -∗ run c (.op (.load m r.toLoadRect hl) (fun _ => p)) Q) := by
  unfold on
  iintro ⟨%Y, %hY, H⟩ Hk
  iapply (load_owns Y) $$ H
  iintro H
  iapply Hk
  iexists Y; isplitr; · ipureintro; exact hY
  iexact H

/-- and a load through the whole buffer of a part held by itself. -/
theorem load_part {m : Memref sig .tc cs s e} {r : Rect s} {hr : ∀ a, r.stride a = 1} {hl : m.view.LoadsAt r.toLoadRect}
    {k : (r.shape.Idx → Elt F e) → P1 F α} {q : PosShare TreeShare} (X : r.shape.Idx → Elt F e) {Q : α → sProp 𝕄} :
    owns (c : Thread nD τ) (m.slice r hr) q X
      ⊢ iprop((owns (c : Thread nD τ) (m.slice r hr) q X -∗ run c (k X) Q) -∗ run c (.op (.load m r.toLoadRect hl) k) Q) := by
  iintro H Hk
  ihave H := (owns_open c (m.slice r hr) q X) $$ H
  icases H with ⟨%f, %hf, H⟩
  iapply (wp_load 𝒱₀ (c : Thread nD τ) none Set.univ (m := m) (S := (m.slice r hr).view.set)
    (by rw [show (m.slice r hr).view.set = (m.view.slice r).set from rfl, View.set_slice]; exact Finset.Subset.refl _)) $$ H
  iintro H
  subst hf
  iapply Hk
  iapply (owns_intro (c : Thread nD τ) (m.slice r hr) q f); iexact H

/-- A store: what it writes is known afterwards, and the rest as before. -/
theorem store_on {m : Memref sig .tc cs s e} {r : Rect s} {w : r.shape.Idx → Elt F e}
    {hx : (m.access r).Stores Finset.univ} {hm : (Finset.univ : Finset r.shape.Idx) = Finset.univ ∨ ∀ a, r.stride a = 1}
    {k : PUnit → P1 F α} {S S' : s.Idx → Prop} {X X' : s.Idx → Elt F e}
    (hw : ∀ j, X' (r.emb j) = w j) (ho : ∀ i, S' i → i ∉ r.set → S i ∧ X i = X' i) {Q : α → sProp 𝕄} :
    on c m S X ⊢ iprop((on c m S' X' -∗ run c (k ⟨⟩) Q) -∗ run c (.op (.store m r w Finset.univ hx hm) k) Q) := by
  unfold on
  iintro ⟨%Y, %hY, H⟩ Hk
  ihave H := (owns_open c m fullShare Y) $$ H
  icases H with ⟨%f, %hf, H⟩
  iapply (wp_store 𝒱₀ (c : Thread nD τ) none Set.univ (m := m) (r := r) (S := m.view.set)
    (m.view.set_slice_subset r)) $$ H
  iintro H
  iapply Hk
  iexists _; isplitr
  rotate_left
  · iapply (owns_intro (c : Thread nD τ) m fullShare); iexact H
  · ipureintro
    intro i hi
    by_cases h : i ∈ r.set
    · obtain ⟨j, -, rfl⟩ := Finset.mem_map.mp (by rw [Rect.map_emb_univ]; exact h : i ∈ Finset.univ.map r.emb)
      exact (View.read_slice_write_emb r f w (Finset.mem_univ j)).trans (hw j).symm
    · refine (View.read_slice_write_of_not_mem r f w Finset.univ (by rw [Rect.map_emb_univ]; exact h)).trans ?_
      rw [hf]; exact (hY i (ho i hi h).1).trans (ho i hi h).2

/-- A store into a part held by itself. -/
theorem store_part {m : Memref sig .tc cs s e} {r : Rect s} {hr : ∀ a, r.stride a = 1} {w : r.shape.Idx → Elt F e}
    {hx : (m.access r).Stores Finset.univ} {hm : (Finset.univ : Finset r.shape.Idx) = Finset.univ ∨ ∀ a, r.stride a = 1}
    {k : PUnit → P1 F α} {Q : α → sProp 𝕄} :
    some' c (m.slice r hr) ⊢ iprop((full c (m.slice r hr) w -∗ run c (k ⟨⟩) Q) -∗ run c (.op (.store m r w Finset.univ hx hm) k) Q) := by
  unfold some'
  iintro ⟨%Y, H⟩ Hk
  ihave H := (owns_open c (m.slice r hr) fullShare Y) $$ H
  icases H with ⟨%f, %hf, H⟩
  iapply (wp_store 𝒱₀ (c : Thread nD τ) none Set.univ (m := m) (r := r) (S := (m.slice r hr).view.set)
    (Finset.Subset.refl _)) $$ H
  iintro H
  iapply Hk
  ihave H := (owns_intro (c : Thread nD τ) (m.slice r hr) fullShare _) $$ H
  rw [show (m.slice r hr).view.read (Elt F) ((m.access r).write (Elt F) f w Finset.univ) = w from View.read_write_univ _ _]
  iexact H

/-- A load of a part held by itself at some contents, which are not used. -/
theorem load_part_skip {m : Memref sig .tc cs s e} {r : Rect s} {hr : ∀ a, r.stride a = 1} {hl : m.view.LoadsAt r.toLoadRect}
    {p : P1 F α} {Q : α → sProp 𝕄} :
    some' c (m.slice r hr)
      ⊢ iprop((some' c (m.slice r hr) -∗ run c p Q) -∗ run c (.op (.load m r.toLoadRect hl) (fun _ => p)) Q) := by
  unfold some'
  iintro ⟨%Y, H⟩ Hk
  iapply (load_part Y) $$ H
  iintro H
  iapply Hk
  iexists Y; iexact H

end Access

/-! ## Views of parts -/

section Parts
variable {sp : Space} {s s' : Shape} {e : EltTy}

omit [FloatOps F] [Named F] in
/-- A part seen in another shape. -/
theorem owns_squeeze (c : Dev nD) (m : Memref sig .tc sp s e) (h : s.Squeezes s') (q : PosShare TreeShare) (X : s.Idx → Elt F e) :
    (owns (c : Thread nD τ) (m.squeeze s' h) q (fun y => X (Shape.reshapeEquiv h.numel_eq y)) : sProp 𝕄) = owns (c : Thread nD τ) m q X := by
  have hr (f : m.view.ty.Contents (Elt F)) : (m.squeeze s' h).view.read (Elt F) f = fun y => m.view.read (Elt F) f (Shape.reshapeEquiv h.numel_eq y) := rfl
  unfold owns
  refine both ?_ ?_
  · iintro ⟨%f, %hf, H⟩
    iexists f; isplitr
    · ipureintro
      funext x
      have := congrFun hf ((Shape.reshapeEquiv h.numel_eq).symm x)
      simpa [hr] using this
    · rw [show (m.squeeze s' h).view.set = m.view.set from View.set_reshape _ _]; iexact H
  · iintro ⟨%f, %hf, H⟩
    iexists f; isplitr
    · ipureintro; subst hf; rfl
    · rw [show (m.squeeze s' h).view.set = m.view.set from View.set_reshape _ _]; iexact H

end Parts

/-! ## Lists -/

section Lists

variable {α β : Type}

/-- `Φ` for every entry of a list. -/
def all : List α → (α → sProp 𝕄) → sProp 𝕄
  | [], _ => iprop(emp)
  | x :: l, Φ => iprop(Φ x ∗ all l Φ)

omit [FloatOps F] [Named F] in
theorem all_nil (Φ : α → sProp 𝕄) : all [] Φ = iprop(emp) := rfl
omit [FloatOps F] [Named F] in
theorem all_cons (x : α) (l : List α) (Φ : α → sProp 𝕄) : all (x :: l) Φ = iprop(Φ x ∗ all l Φ) := rfl
omit [FloatOps F] [Named F] in
theorem emp_left (P : sProp 𝕄) : iprop(emp ∗ P) = P := equiv_iff.mp BI.emp_sep
omit [FloatOps F] [Named F] in
theorem all_append (l l' : List α) (Φ : α → sProp 𝕄) : all (l ++ l') Φ = iprop(all l Φ ∗ all l' Φ) := by
  induction l with
  | nil => rw [List.nil_append, all_nil, emp_left]
  | cons x l ih =>
    rw [List.cons_append, all_cons, all_cons, ih]
    refine both ?_ ?_
    · iintro ⟨H1, H2, H3⟩
      isplitr [H3]
      · isplitl [H1] <;> iassumption
      · iexact H3
    · iintro ⟨⟨H1, H2⟩, H3⟩
      isplitl [H1]; · iexact H1
      isplitl [H2] <;> iassumption
omit [FloatOps F] [Named F] in
theorem all_flatMap (l : List α) (f : α → List β) (Φ : β → sProp 𝕄) : all (l.flatMap f) Φ = all l (fun x => all (f x) Φ) := by
  induction l with
  | nil => rw [List.flatMap_nil, all_nil, all_nil]
  | cons x l ih => rw [List.flatMap_cons, all_append, all_cons, ih]
omit [FloatOps F] [Named F] in
theorem all_map (l : List α) (f : α → β) (Φ : β → sProp 𝕄) : all (l.map f) Φ = all l (fun x => Φ (f x)) := by
  induction l with
  | nil => rw [List.map_nil, all_nil, all_nil]
  | cons x l ih => rw [List.map_cons, all_cons, all_cons, ih]
omit [FloatOps F] [Named F] in
theorem all_perm {l l' : List α} (h : l.Perm l') (Φ : α → sProp 𝕄) : all l Φ = all l' Φ := by
  induction h with
  | nil => rfl
  | cons x _ ih => rw [all_cons, all_cons, ih]
  | swap x y l =>
    rw [all_cons, all_cons, all_cons, all_cons]
    refine both ?_ ?_
    · iintro ⟨H1, H2, H3⟩
      isplitl [H2]; · iexact H2
      isplitl [H1] <;> iassumption
    · iintro ⟨H1, H2, H3⟩
      isplitl [H2]; · iexact H2
      isplitl [H1] <;> iassumption
  | trans _ _ h h' => exact h.trans h'
omit [FloatOps F] [Named F] in
theorem all_sep (l : List α) (Φ Ψ : α → sProp 𝕄) : all l (fun x => iprop(Φ x ∗ Ψ x)) = iprop(all l Φ ∗ all l Ψ) := by
  induction l with
  | nil => rw [all_nil, all_nil, all_nil]; rw [emp_left]
  | cons x l ih =>
    rw [all_cons, all_cons, all_cons, ih]
    refine both ?_ ?_
    · iintro ⟨⟨H1, H2⟩, H3, H4⟩
      isplitl [H1 H3]
      · isplitl [H1] <;> iassumption
      · isplitl [H2] <;> iassumption
    · iintro ⟨⟨H1, H2⟩, H3, H4⟩
      isplitl [H1 H3]
      · isplitl [H1] <;> iassumption
      · isplitl [H2] <;> iassumption
omit [FloatOps F] [Named F] in
theorem all_mono {l : List α} {Φ Ψ : α → sProp 𝕄} (h : ∀ x ∈ l, Φ x ⊢ Ψ x) : all l Φ ⊢ all l Ψ := by
  induction l with
  | nil => rw [all_nil, all_nil]
  | cons x l ih =>
    rw [all_cons, all_cons]
    exact BI.sep_mono (h x (List.mem_cons_self ..)) (ih fun y hy => h y (List.mem_cons_of_mem _ hy))
omit [FloatOps F] [Named F] in
theorem all_congr {l : List α} {Φ Ψ : α → sProp 𝕄} (h : ∀ x ∈ l, Φ x = Ψ x) : all l Φ = all l Ψ :=
  both (all_mono fun x hx => Entails.of_eq (h x hx)) (all_mono fun x hx => Entails.of_eq (h x hx).symm)
omit [FloatOps F] [Named F] in
theorem all_univ {n : Type} [Fintype n] [DecidableEq n] {l : List n} (hl : l.Nodup) (h : ∀ x, x ∈ l) (Φ : n → sProp 𝕄) :
    bigSep Finset.univ Φ = all l Φ := by
  rw [show (Finset.univ : Finset n) = l.toFinset by ext x; simp [h]]
  clear h
  induction l with
  | nil => rfl
  | cons i l ih =>
    obtain ⟨hi, hl⟩ := List.nodup_cons.mp hl
    rw [List.toFinset_cons, bigSep_insert (fun h => hi (List.mem_toFinset.mp h)), ih hl]; rfl

omit [FloatOps F] [Named F] in
/-- With something that may be kept. -/
theorem all_mono_with {R : sProp 𝕄} [BI.Persistent R] {l : List α} {Φ Ψ : α → sProp 𝕄} (h : ∀ x ∈ l, iprop(R ∗ Φ x) ⊢ Ψ x) :
    iprop(R ∗ all l Φ) ⊢ all l Ψ := by
  induction l with
  | nil => rw [all_nil, all_nil]; iintro ⟨-, H⟩; iexact H
  | cons x l ih =>
    rw [all_cons, all_cons]
    iintro ⟨#HR, H1, H2⟩
    isplitl [H1]
    · iapply (h x (List.mem_cons_self ..)); isplitr; · iexact HR
      iexact H1
    · iapply (ih fun y hy => h y (List.mem_cons_of_mem _ hy)); isplitr; · iexact HR
      iexact H2

end Lists

/-! ## Loops -/

section Loops
variable {α β : Type} {c : Dev nD}

/-- A program for each entry of a list: each takes its own `R x` to `R' x`, and what they share from one state to the next. -/
theorem each_run (f : α → P1 F PUnit) (L : List α) (R R' : α → sProp 𝕄) (J : List α → sProp 𝕄)
    (h : ∀ x rest, (x :: rest) <:+ L → ∀ Q : PUnit → sProp 𝕄,
      iprop(R x ∗ J (x :: rest)) ⊢ iprop((iprop(R' x ∗ J rest) -∗ Q ⟨⟩) -∗ run c (f x) Q)) :
    ∀ Q : PUnit → sProp 𝕄, iprop(all L R ∗ J L) ⊢ iprop((iprop(all L R' ∗ J []) -∗ Q ⟨⟩) -∗ run c (each f L) Q) := by
  suffices H : ∀ l, l <:+ L → ∀ Q : PUnit → sProp 𝕄, iprop(all l R ∗ J l) ⊢ iprop((iprop(all l R' ∗ J []) -∗ Q ⟨⟩) -∗ run c (each f l) Q) from
    H L List.suffix_rfl
  intro l
  induction l with
  | nil =>
    intro _ Q
    rw [all_nil, all_nil]
    iintro H Hk
    iapply (run_pure c (⟨⟩ : PUnit) Q)
    iapply Hk; iexact H
  | cons x l ih =>
    intro hs Q
    rw [all_cons, all_cons]
    iintro ⟨⟨Hx, Hl⟩, HJ⟩ Hk
    rw [show each f (x :: l) = (f x >>= fun _ => each f l) from rfl, run_bind]
    iapply (h x l hs _) $$ [Hx HJ]
    · isplitl [Hx] <;> iassumption
    iintro ⟨Hx, HJ⟩
    iapply (ih ((List.suffix_cons x l).trans hs) Q) $$ [Hl HJ]
    · isplitl [Hl] <;> iassumption
    iintro ⟨Hl, HJ⟩
    iapply Hk
    isplitr [HJ]
    · isplitl [Hx] <;> iassumption
    · iexact HJ

/-- A loop that only moves a shared state on. -/
theorem each_run' (f : α → P1 F PUnit) (L : List α) (J : List α → sProp 𝕄)
    (h : ∀ x rest, (x :: rest) <:+ L → ∀ Q : PUnit → sProp 𝕄, J (x :: rest) ⊢ iprop((J rest -∗ Q ⟨⟩) -∗ run c (f x) Q)) :
    ∀ Q : PUnit → sProp 𝕄, J L ⊢ iprop((J [] -∗ Q ⟨⟩) -∗ run c (each f L) Q) := by
  suffices H : ∀ l, l <:+ L → ∀ Q : PUnit → sProp 𝕄, J l ⊢ iprop((J [] -∗ Q ⟨⟩) -∗ run c (each f l) Q) from
    H L List.suffix_rfl
  intro l
  induction l with
  | nil =>
    intro _ Q
    iintro H Hk
    iapply (run_pure c (⟨⟩ : PUnit) Q)
    iapply Hk; iexact H
  | cons x l ih =>
    intro hs Q
    iintro HJ Hk
    rw [show each f (x :: l) = (f x >>= fun _ => each f l) from rfl, run_bind]
    iapply (h x l hs _) $$ HJ
    iintro HJ
    iapply (ih ((List.suffix_cons x l).trans hs) Q) $$ HJ
    iexact Hk

/-- Results computed one by one from a state that stays. -/
theorem collect_run (f : α → P1 F β) (g : α → β) (J : sProp 𝕄) (L : List α)
    (h : ∀ x ∈ L, ∀ Q : β → sProp 𝕄, J ⊢ iprop((J -∗ Q (g x)) -∗ run c (f x) Q)) (Q : List β → sProp 𝕄) :
    J ⊢ iprop((J -∗ Q (L.map g)) -∗ run c (collect f L) Q) := by
  induction L generalizing Q with
  | nil =>
    iintro H Hk
    iapply (run_pure c ([] : List β) Q)
    rw [List.map_nil]
    iapply Hk; iexact H
  | cons x l ih =>
    iintro HJ Hk
    rw [show collect f (x :: l) = (f x >>= fun y => collect f l >>= fun ys => pure (y :: ys)) from rfl, run_bind]
    iapply (h x (List.mem_cons_self ..) _) $$ HJ
    iintro HJ
    rw [run_bind]
    iapply (ih (fun y hy => h y (List.mem_cons_of_mem _ hy)) _) $$ HJ
    iintro HJ
    iapply (run_pure c (g x :: l.map g) Q)
    rw [List.map_cons]
    iapply Hk; iexact HJ

end Loops

end Cert.Proof

end
-- ==== Proof.Contents.lean ====
/-
  What every buffer holds, as functions of the arguments of all devices.
-/
module

public import proofs.«01_k».proof.Proof.Mem
public import Idealize.ShloMosaic.Lib.ValueIdx
public import Idealize.ShloMosaic.Lib.Pointwise

@[expose] public section

noncomputable section

namespace Cert.Proof

open Cert.KernelIdeal Cert.KernelIdeal.Gen
open Idealize.ShloMosaic Idealize.ShloMosaic.TcCoe
open Idealize.ShloMosaic.ValueIdx (idx2_lt0 idx2_lt1)

/-! ## Arrays put together from tiles -/

section Tiles
variable {α : Type}

/-- The array whose tile `(b, h)`, of `n` rows and `m` columns, is `val b h`. -/
def tile2 {R C B H n m : Nat} (hR : R = B * n) (hC : C = H * m)
    (val : Fin B → Fin H → (⟨2, ![n, m]⟩ : Shape).Idx → α) : (⟨2, ![R, C]⟩ : Shape).Idx → α := fun i =>
  have h0 : (i 0).val < B * n := hR ▸ idx2_lt0 i
  have h1 : (i 1).val < H * m := hC ▸ idx2_lt1 i
  val ⟨(i 0).val / n, Nat.div_lt_of_lt_mul (by rw [Nat.mul_comm]; exact h0)⟩ ⟨(i 1).val / m, Nat.div_lt_of_lt_mul (by rw [Nat.mul_comm]; exact h1)⟩
    (ix2 ⟨(i 0).val % n, Nat.mod_lt _ (Nat.pos_of_ne_zero fun h => by simp [h] at h0)⟩
      ⟨(i 1).val % m, Nat.mod_lt _ (Nat.pos_of_ne_zero fun h => by simp [h] at h1)⟩)

theorem tile2_at {R C B H n m : Nat} (hR : R = B * n) (hC : C = H * m)
    (val : Fin B → Fin H → (⟨2, ![n, m]⟩ : Shape).Idx → α) (i : (⟨2, ![R, C]⟩ : Shape).Idx) (b : Fin B) (h : Fin H)
    (j : (⟨2, ![n, m]⟩ : Shape).Idx) (h0 : (i 0).val = n * b.val + (j 0).val) (h1 : (i 1).val = m * h.val + (j 1).val) :
    tile2 hR hC val i = val b h j := by
  have j0 := idx2_lt0 j
  have j1 := idx2_lt1 j
  have e0 : (i 0).val / n = b.val := by
    rw [h0, Nat.mul_add_div (by omega), Nat.div_eq_of_lt j0, Nat.add_zero]
  have e1 : (i 1).val / m = h.val := by
    rw [h1, Nat.mul_add_div (by omega), Nat.div_eq_of_lt j1, Nat.add_zero]
  have m0 : (i 0).val % n = (j 0).val := by rw [h0, Nat.mul_add_mod, Nat.mod_eq_of_lt j0]
  have m1 : (i 1).val % m = (j 1).val := by rw [h1, Nat.mul_add_mod, Nat.mod_eq_of_lt j1]
  unfold tile2
  have a0 : ∀ p, (⟨(i 0).val / n, p⟩ : Fin B) = b := fun p => Fin.ext e0
  have a1 : ∀ p, (⟨(i 1).val / m, p⟩ : Fin H) = h := fun p => Fin.ext e1
  have a2 : ∀ p p', (ix2 ⟨(i 0).val % n, p⟩ ⟨(i 1).val % m, p'⟩ : (⟨2, ![n, m]⟩ : Shape).Idx) = j := fun p p' => by
    rw [eq_ix2 j]
    exact congrArg₂ ix2 (Fin.ext m0) (Fin.ext m1)
  simp only [a0, a1, a2]

/-- The array `X` with the rows `lo ..` replaced by `w`. -/
def patch {R C n : Nat} (lo : Nat) (w : (⟨2, ![n, C]⟩ : Shape).Idx → α) (X : (⟨2, ![R, C]⟩ : Shape).Idx → α) :
    (⟨2, ![R, C]⟩ : Shape).Idx → α := fun i =>
  if h : lo ≤ (i 0).val ∧ (i 0).val < lo + n then w (ix2 ⟨(i 0).val - lo, by omega⟩ (i 1)) else X i

theorem patch_at {R C n : Nat} (lo : Nat) (w : (⟨2, ![n, C]⟩ : Shape).Idx → α) (X : (⟨2, ![R, C]⟩ : Shape).Idx → α)
    (i : (⟨2, ![R, C]⟩ : Shape).Idx) (j : (⟨2, ![n, C]⟩ : Shape).Idx) (h0 : (i 0).val = lo + (j 0).val) (h1 : (i 1).val = (j 1).val) :
    patch lo w X i = w j := by
  have := idx2_lt0 j
  unfold patch
  rw [dif_pos ⟨by omega, by omega⟩]
  refine congrArg w (Eq.trans ?_ (eq_ix2 j).symm)
  exact congrArg₂ ix2 (Fin.ext (by show (i 0).val - lo = (j 0).val; omega)) (Fin.ext h1)

theorem patch_out {R C n : Nat} (lo : Nat) (w : (⟨2, ![n, C]⟩ : Shape).Idx → α) (X : (⟨2, ![R, C]⟩ : Shape).Idx → α)
    (i : (⟨2, ![R, C]⟩ : Shape).Idx) (h : ¬(lo ≤ (i 0).val ∧ (i 0).val < lo + n)) : patch lo w X i = X i := by
  unfold patch; rw [dif_neg h]

/-- The result put together from its blocks of 128 rows. -/
def rows3 (val : Fin 8 → S1x128x1024.Idx → α) : S1x1024x1024.Idx → α := fun i =>
  have h1 : (i 1).val < 1024 := (i 1).isLt
  val ⟨(i 1).val / 128, by omega⟩ (ix3 0 ⟨(i 1).val % 128, by omega⟩ (i 2))

theorem rows3_at (val : Fin 8 → S1x128x1024.Idx → α) (i : S1x1024x1024.Idx) (b : Fin 8) (j : S1x128x1024.Idx)
    (h1 : (i 1).val = 128 * b.val + (j 1).val) (h2 : (i 2).val = (j 2).val) : rows3 val i = val b j := by
  have j1 : (j 1).val < 128 := (j 1).isLt
  have e1 : (i 1).val / 128 = b.val := by omega
  have m1 : (i 1).val % 128 = (j 1).val := by omega
  unfold rows3
  have a0 : ∀ p, (⟨(i 1).val / 128, p⟩ : Fin 8) = b := fun p => Fin.ext e1
  have a1 : ∀ p, (ix3 0 ⟨(i 1).val % 128, p⟩ (i 2) : S1x128x1024.Idx) = j := fun p => by
    rw [eq_ix3 j]
    exact congr (congrArg₂ ix3 (Fin.ext (by have : (j 0).val < 1 := (j 0).isLt; show 0 = (j 0).val; omega)) (Fin.ext m1)) (Fin.ext h2)
  simp only [a0, a1]

end Tiles

/-! ## The rectangles of the loads and stores -/

abbrev rX (b : Fin 4) : Rect S1x1024x1024 := Rect.unit (s := S1x1024x1024) ![0, 256 * b.val, 0] S1x256x1024.size (inbOut (by omega))
abbrev rAll : Rect S1024x1024 := Rect.unit (s := S1024x1024) ![0, 0] S1024x1024.size (inbCols (by decide) (by decide))
abbrev rRows (b : Fin 4) : Rect S1024x1024 := Rect.unit (s := S1024x1024) ![256 * b.val, 0] S256x1024.size (inbCols (by omega) (by decide))
abbrev rBH (b : Fin 4) (h : Fin 8) : Rect S1024x1024 := Rect.unit (s := S1024x1024) ![256 * b.val, 128 * h.val] S256x128.size (inbCols (by omega) (by omega))
abbrev rBD (b : Fin 4) (h : Fin 8) : Rect S1024x8 := Rect.unit (s := S1024x8) ![256 * b.val, h.val] S256x1.size (inbCols (by omega) (by omega))
abbrev rWin (b : Fin 4) (h : Fin 8) : Rect S8x1024x128 := Rect.unit (s := S8x1024x128) ![h.val, wlo b, 0] S1x512x128.size (inbKeys h (wlo_le b))
abbrev rFst (h : Fin 8) : Rect S8x1024x128 := Rect.unit (s := S8x1024x128) ![h.val, 0, 0] S1x128x128.size (inbKeys h (by decide))
abbrev rTop (h : Fin 8) : Rect S8x1024x128 := Rect.unit (s := S8x1024x128) ![h.val, 512, 0] S1x512x128.size (inbKeys h (by decide))
abbrev rGH (h : Fin 8) : Rect S1024x1024 := Rect.unit (s := S1024x1024) ![0, 128 * h.val] S32x128.size (inbCols (by decide) (by omega))
abbrev rGD (h : Fin 8) : Rect S1024x8 := Rect.unit (s := S1024x8) ![0, h.val] S32x1.size (inbCols (by decide) (by omega))
abbrev rG : Rect S1024x1024 := Rect.unit (s := S1024x1024) ![0, 0] S32x1024.size (inbCols (by decide) (by decide))
abbrev rGd : Rect S1024x8 := Rect.unit (s := S1024x8) ![0, 0] S32x8.size (inbCols (by decide) (by decide))
abbrev rB : Rect S1024x1024 := Rect.unit (s := S1024x1024) ![896, 0] S128x1024.size (inbCols (by decide) (by decide))
abbrev rBd : Rect S1024x8 := Rect.unit (s := S1024x8) ![896, 0] S128x8.size (inbCols (by decide) (by decide))
abbrev rBB (h : Fin 8) : Rect S1024x1024 := Rect.unit (s := S1024x1024) ![896, 128 * h.val] S128x128.size (inbCols (by omega) (by omega))
abbrev rBlk (b : Fin 8) : Rect S1024x1024 := Rect.unit (s := S1024x1024) ![128 * b.val, 0] S128x1024.size (inbCols (by omega) (by decide))
abbrev rOut (b : Fin 8) : Rect S1x1024x1024 := Rect.unit (s := S1x1024x1024) ![0, 128 * b.val, 0] S1x128x1024.size (inbOut (by omega))
abbrev rHbm (h : Fin 8) : Rect S1x1024x8x128 := Rect.unit (s := S1x1024x8x128) ![0, 0, h.val, 0] S1x1024x1x128.size (inbHbm h)
abbrev rHead (h : Fin 8) : Rect S8x1024x128 := Rect.unit (s := S8x1024x128) ![h.val, 0, 0] S1x1024x128.size (inbHead h)
abbrev rGn (s : Fin 8) : Rect S8x32x1024 := Rect.unit (s := S8x32x1024) ![s.val, 0, 0] S1x32x1024.size (inbGat s)
abbrev rGs (s : Fin 8) : Rect S8x32x8 := Rect.unit (s := S8x32x8) ![s.val, 0, 0] S1x32x8.size (inbGat s)

/-! ## The contents -/

variable (F : FTy → Type)

/-- The arguments, of every device. -/
structure Data where
  x : Dev nD → Vec F S1x1024x1024 .f32
  wq : Dev nD → Vec F S1024x1024 .f32
  wo : Dev nD → Vec F S1024x1024 .f32
  k : Dev nD → Vec F S1x1024x8x128 .f32
  v : Dev nD → Vec F S1x1024x8x128 .f32

variable {F} [FloatOps F] [Named F] (D : Data F) (c : Dev nD)

/-- The queries, -/
def QF : Vec F S1024x1024 .bf16 :=
  tile2 (B := 4) (H := 1) (n := 256) (m := 1024) rfl rfl fun b _ => qRows (rd (rX b) (D.x c)) (rd rAll (D.wq c))

/-- the keys and the values by heads. -/
def KF : Vec F S8x1024x128 .f32 := fun i => D.k c (ix4 0 (i 1) (i 0) (i 2))
def VF : Vec F S8x1024x128 .f32 := fun i => D.v c (ix4 0 (i 1) (i 0) (i 2))

/-- The weights of block `b` on its window, for head `h`, the weighted values and the sums: -/
def winE (b : Fin 4) (h : Fin 8) : FVec F S256x512 .f32 :=
  expW (biasW (devWord c) (BitVec.ofNat 32 (256 * b.val)) (BitVec.ofNat 32 (wlo b))) (rd (rBH b h) (QF D c)) (rd (rWin b h) (KF D c))
def winN (b : Fin 4) (h : Fin 8) : FVec F S256x128 .f32 := numW (winE D c b h) (rd (rWin b h) (VF D c))
def winD (b : Fin 4) (h : Fin 8) : FVec F S256x1 .f32 := denW (winE D c b h)
/-- the same on the first keys, -/
def fstE (b : Fin 4) (h : Fin 8) : FVec F S256x128 .f32 :=
  expH (biasH (devWord c) (BitVec.ofNat 32 (256 * b.val)) 0#32) (rd (rBH b h) (QF D c)) (rd (rFst h) (KF D c))
def fstN (b : Fin 4) (h : Fin 8) : FVec F S256x128 .f32 := addf (winN D c b h) (numH (fstE D c b h) (rd (rFst h) (VF D c)))
def fstD (b : Fin 4) (h : Fin 8) : FVec F S256x1 .f32 := addf (winD D c b h) (denH (fstE D c b h))

/-- and what is stored of a block. -/
def blkN (b : Fin 4) (h : Fin 8) : FVec F S256x128 .f32 := if b = 0 then winN D c b h else fstN D c b h
def blkD (b : Fin 4) (h : Fin 8) : FVec F S256x1 .f32 := if b = 0 then winD D c b h else fstD D c b h
def PnA : Vec F S1024x1024 .f32 := tile2 (B := 4) (H := 8) (n := 256) (m := 128) rfl rfl fun b h => keepN (blkN D c b h)
def PdA : Vec F S1024x8 .f32 := tile2 (B := 4) (H := 8) (n := 256) (m := 1) rfl rfl fun b h => keepD (blkD D c b h)

/-- The global rows with the later keys. -/
def gloE (h : Fin 8) : FVec F S32x512 .f32 := expG (rd (rGH h) (QF D c)) (rd (rTop h) (KF D c))
def gloN (h : Fin 8) : FVec F S32x128 .f32 := numG (gloE D c h) (rd (rTop h) (VF D c)) (rd (rGH h) (PnA D c))
def gloD (h : Fin 8) : FVec F S32x1 .f32 := denG (gloE D c h) (rd (rGD h) (PdA D c))
def PnF : Vec F S1024x1024 .f32 :=
  patch (n := 32) 0 (tile2 (B := 1) (H := 8) (n := 32) (m := 128) rfl rfl fun _ h => gloN D c h) (PnA D c)
def PdF : Vec F S1024x8 .f32 :=
  patch (n := 32) 0 (tile2 (B := 1) (H := 8) (n := 32) (m := 1) rfl rfl fun _ h => gloD D c h) (PdA D c)

/-- What a device sends to device 0. -/
def SgF : Vec F S32x1024 .bf16 := narrowG (rd rG (PnF D c))
def PdG : Vec F S32x8 .f32 := rd rGd (PdF D c)
def SbF : Vec F S128x1024 .bf16 := narrowB (rd rB (PnF D c))
def PdB : Vec F S128x8 .f32 := rd rBd (PdF D c)

/-- The global rows added up over the devices of a list. -/
def sumG : List (Fin 8) → FVec F S32x1024 .f32 × FVec F S32x8 .f32 → FVec F S32x1024 .f32 × FVec F S32x8 .f32
  | [], a => a
  | s :: ss, a => sumG ss (addGn a.1 (shapeCast S1x32x1024 (SgF D s) (by decide)), addGd a.2 (shapeCast S1x32x8 (PdG D s) (by decide)))
def allG : FVec F S32x1024 .f32 × FVec F S32x8 .f32 := sumG D others (rd rG (PnF D 0), rd rGd (PdF D 0))
/-- The band's. -/
def allBn : FVec F S128x1024 .f32 := addBn (rd rB (PnF D 0)) (SbF D 1)
def allBd : FVec F S128x8 .f32 := addBd (rd rBd (PdF D 0)) (PdB D 1)

/-- The context on device 0: as the blocks give it, -/
def CtxA : Vec F S1024x1024 .bf16 :=
  tile2 (B := 4) (H := 8) (n := 256) (m := 128) rfl rfl fun b h => ctxRows (rd (rBH b h) (PnF D 0)) (rd (rBD b h) (PdF D 0))
/-- and with the global rows and the band. -/
def CtxF : Vec F S1024x1024 .bf16 :=
  patch (n := 32) 0 (tile2 (B := 1) (H := 8) (n := 32) (m := 128) rfl rfl fun _ h => ctxG (allG D).1 (allG D).2 h)
    (patch (n := 128) 896 (tile2 (B := 1) (H := 8) (n := 128) (m := 128) rfl rfl fun _ h => ctxB (allBn D) (allBd D) h) (CtxA D))

/-- The result's blocks: as computed, -/
def projF (b : Fin 8) : FVec F S128x1024 .f32 := projRows (rd (rBlk b) (CtxF D)) (rd rAll (D.wo 0))
/-- as sent, -/
def CastF (b : Fin 8) : Vec F S128x1024 .bf16 := castRows (projF D b)
/-- and the result. -/
def OutF : Vec F S1x1024x1024 .f32 := rows3 fun b => if c.val = 0 then outRows (projF D b) else recvRows (CastF D b)

/-! ## Which place lies where -/

/-- A row's block of 256, a column's head. -/
def blkOf {n : Nat} (i : (⟨2, ![1024, n]⟩ : Shape).Idx) : Fin 4 := ⟨(i 0).val / 256, by have := idx2_lt0 i; omega⟩
def hdOf {n : Nat} (i : (⟨2, ![n, 1024]⟩ : Shape).Idx) : Fin 8 := ⟨(i 1).val / 128, by have := idx2_lt1 i; omega⟩
def hdOf1 {n : Nat} (i : (⟨2, ![n, 8]⟩ : Shape).Idx) : Fin 8 := i 1

theorem mem_unit2 {R C n m a b : Nat} {inb : ∀ x, (![a, b] : Fin 2 → Nat) x + (⟨2, ![n, m]⟩ : Shape).size x ≤ (⟨2, ![R, C]⟩ : Shape).size x}
    (i : (⟨2, ![R, C]⟩ : Shape).Idx) :
    i ∈ (Rect.unit (s := ⟨2, ![R, C]⟩) ![a, b] (⟨2, ![n, m]⟩ : Shape).size inb).set
      ↔ (a ≤ (i 0).val ∧ (i 0).val < a + n) ∧ (b ≤ (i 1).val ∧ (i 1).val < b + m) := by
  rw [Rect.mem_set_unit]; exact Fin.forall_fin_two

theorem mem_rBH (b : Fin 4) (h : Fin 8) (i : S1024x1024.Idx) : i ∈ (rBH b h).set ↔ blkOf i = b ∧ hdOf i = h := by
  refine (mem_unit2 i).trans ?_
  unfold blkOf hdOf; simp only [Fin.ext_iff]; omega
theorem mem_rBD (b : Fin 4) (h : Fin 8) (i : S1024x8.Idx) : i ∈ (rBD b h).set ↔ blkOf i = b ∧ hdOf1 i = h := by
  refine (mem_unit2 i).trans ?_
  unfold blkOf hdOf1; simp only [Fin.ext_iff]; omega
theorem mem_rGH (h : Fin 8) (i : S1024x1024.Idx) : i ∈ (rGH h).set ↔ (i 0).val < 32 ∧ hdOf i = h := by
  refine (mem_unit2 i).trans ?_
  unfold hdOf; simp only [Fin.ext_iff]; omega
theorem mem_rGD (h : Fin 8) (i : S1024x8.Idx) : i ∈ (rGD h).set ↔ (i 0).val < 32 ∧ hdOf1 i = h := by
  refine (mem_unit2 i).trans ?_
  unfold hdOf1; simp only [Fin.ext_iff]; omega
theorem mem_rBB (h : Fin 8) (i : S1024x1024.Idx) : i ∈ (rBB h).set ↔ 896 ≤ (i 0).val ∧ hdOf i = h := by
  refine (mem_unit2 i).trans ?_
  have := idx2_lt0 i
  unfold hdOf; simp only [Fin.ext_iff]; omega
theorem mem_rRows (b : Fin 4) (i : S1024x1024.Idx) : i ∈ (rRows b).set ↔ blkOf i = b := by
  refine (mem_unit2 i).trans ?_
  have := idx2_lt1 i
  unfold blkOf; simp only [Fin.ext_iff]; omega
theorem mem_rBlk (b : Fin 8) (i : S1024x1024.Idx) : i ∈ (rBlk b).set ↔ (i 0).val / 128 = b.val := by
  refine (mem_unit2 i).trans ?_
  have := idx2_lt1 i
  omega
theorem mem_rG (i : S1024x1024.Idx) : i ∈ rG.set ↔ (i 0).val < 32 := by
  refine (mem_unit2 i).trans ?_
  have := idx2_lt1 i
  omega
theorem mem_rGd (i : S1024x8.Idx) : i ∈ rGd.set ↔ (i 0).val < 32 := by
  refine (mem_unit2 i).trans ?_
  have := idx2_lt1 i
  omega
theorem mem_rB (i : S1024x1024.Idx) : i ∈ rB.set ↔ 896 ≤ (i 0).val := by
  refine (mem_unit2 i).trans ?_
  have := idx2_lt1 i
  have := idx2_lt0 i
  omega
theorem mem_rBd (i : S1024x8.Idx) : i ∈ rBd.set ↔ 896 ≤ (i 0).val := by
  refine (mem_unit2 i).trans ?_
  have := idx2_lt1 i
  have := idx2_lt0 i
  omega
theorem mem_rOut (b : Fin 8) (i : S1x1024x1024.Idx) : i ∈ (rOut b).set ↔ (i 1).val / 128 = b.val := by
  have h0 : (i 0).val < 1 := (i 0).isLt
  have h2 : (i 2).val < 1024 := (i 2).isLt
  rw [Rect.mem_set_unit]
  constructor
  · intro h
    have := h 1
    simp at this; omega
  · intro h a
    fin_cases a <;> simp <;> omega

theorem emb_mem {s : Shape} (r : Rect s) (j : r.shape.Idx) : r.emb j ∈ r.set := r.idx_mem j

/-- A head's copy in the kernel's memory is that head of the argument. -/
theorem kv_same {α : Type} (X : S1x1024x8x128.Idx → α) (h : Fin 8) :
    (fun y => rd (rHbm h) X (Shape.reshapeEquiv squeezes_S1x1024x1x128_S1024x128.numel_eq y))
      = fun y => rd (rHead h) (fun i : S8x1024x128.Idx => X (ix4 0 (i 1) (i 0) (i 2))) (Shape.reshapeEquiv squeezes_S1x1024x128_S1024x128.numel_eq y) := by
  funext y
  have e1 : ∀ Z : S1x1024x1x128.Idx → α, Z (Shape.reshapeEquiv squeezes_S1x1024x1x128_S1024x128.numel_eq y) = Z (ix4 0 (y 0) 0 (y 1)) := fun Z => by
    have : shapeCast S1024x128 Z (by decide) y = Z (ix4 0 (y 0) 0 (y 1)) := by simp only [pointwise]
    exact this
  have e2 : ∀ Z : S1x1024x128.Idx → α, Z (Shape.reshapeEquiv squeezes_S1x1024x128_S1024x128.numel_eq y) = Z (ix3 0 (y 0) (y 1)) := fun Z => by
    have : shapeCast S1024x128 Z (by decide) y = Z (ix3 0 (y 0) (y 1)) := by simp only [pointwise]
    exact this
  refine (e1 (rd (rHbm h) X)).trans (Eq.trans ?_ (e2 _).symm)
  refine congrArg X ?_
  funext a
  fin_cases a <;> refine Fin.ext ?_ <;> simp

end Cert.Proof

end
-- ==== Proof.Protocol.lean ====
/-
  The protocol of the semaphores: which transfers and signals each of them counts, what memory each
  hands over, and in which order the devices may wait.
-/
module

public import proofs.«01_k».proof.Proof.Contents

@[expose] public section

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

/-! ## The semaphores -/

/-- A device's semaphores: the barrier's; those of the copies in; of the sends of the global rows and the
    band, and of their arrivals; of the sends of the broadcast, by target and block, and of its arrivals. -/
inductive Cell where
  | bar
  | kk (h : Fin 8)
  | kw (h : Fin 8)
  | sgn
  | sgd
  | sbn
  | sbd
  | gn (s : Fin 8)
  | gd (s : Fin 8)
  | rbn
  | rbd
  | bs (k b : Fin 8)
  | br (b : Fin 8)
deriving DecidableEq, Fintype

def Cell.loc : Cell → SemLoc sig
  | .bar => .reg barS
  | .kk h => .dma (kvS ⟨h.val, by omega⟩)
  | .kw h => .dma (kvS ⟨8 + h.val, by omega⟩)
  | .sgn => .dma (gsS 0)
  | .sgd => .dma (gsS 1)
  | .sbn => .dma (gsS 2)
  | .sbd => .dma (gsS 3)
  | .gn s => .dma (gnS s)
  | .gd s => .dma (gdS s)
  | .rbn => .dma (gbS 0)
  | .rbd => .dma (gbS 1)
  | .bs k b => .dma (bsS k b)
  | .br b => .dma (brS b)

def numOf : SemLoc sig → Nat
  | .reg _ => 200
  | .dma s => s.val

def Cell.num : Cell → Nat
  | .bar => 200
  | .kk h => 98 + h.val
  | .kw h => 106 + h.val
  | .sgn => 4
  | .sgd => 5
  | .sbn => 6
  | .sbd => 7
  | .gn s => 8 + s.val
  | .gd s => 16 + s.val
  | .rbn => 24
  | .rbd => 25
  | .bs k b => 26 + 8 * k.val + b.val
  | .br b => 90 + b.val

theorem num_loc (x : Cell) : numOf x.loc = x.num := by
  cases x with
  | bar => rfl
  | kk h => revert h; decide
  | kw h => revert h; decide
  | sgn => decide
  | sgd => decide
  | sbn => decide
  | sbd => decide
  | gn s => revert s; decide
  | gd s => revert s; decide
  | rbn => decide
  | rbd => decide
  | bs k b => revert k b; decide
  | br b => revert b; decide

theorem num_inj {x y : Cell} (h : x.num = y.num) : x = y := by
  cases x <;> cases y <;> simp only [Cell.num] at h <;> first | rfl | (exfalso; omega) | skip
  case bs.bs k b k' b' =>
    have e1 : k = k' := Fin.ext (by omega)
    have e2 : b = b' := Fin.ext (by omega)
    rw [e1, e2]
  all_goals exact congrArg _ (Fin.ext (by omega))

theorem loc_inj {x y : Cell} (h : x.loc = y.loc) : x = y :=
  num_inj (by rw [← num_loc, ← num_loc, h])

open Classical in
/-- Which of these a semaphore is. -/
def cellAt (l : SemLoc sig) : Option Cell := if h : ∃ x : Cell, x.loc = l then some h.choose else none

theorem cellAt_loc (x : Cell) : cellAt x.loc = some x := by
  have h : ∃ y : Cell, y.loc = x.loc := ⟨x, rfl⟩
  unfold cellAt; rw [dif_pos h]; exact congrArg some (loc_inj h.choose_spec)

/-- The semaphore `x` of device `c`. -/
abbrev cell (c : Dev nD) (x : Cell) : GSem nD τ sig := ((c : Thread nD τ), x.loc)

/-! ## What they count -/

/-- The contributions a semaphore of device `c` waits for: the barrier one of every device; the others at most one. -/
def dut (c : Dev nD) : Cell → Finset (Fin 8)
  | .bar => Finset.univ
  | .kk _ => {0}
  | .kw _ => {0}
  | .sgn => if c.val = 0 then ∅ else {0}
  | .sgd => if c.val = 0 then ∅ else {0}
  | .sbn => if c.val = 1 then {0} else ∅
  | .sbd => if c.val = 1 then {0} else ∅
  | .gn s => if c.val = 0 ∧ s.val ≠ 0 then {0} else ∅
  | .gd s => if c.val = 0 ∧ s.val ≠ 0 then {0} else ∅
  | .rbn => if c.val = 0 then {0} else ∅
  | .rbd => if c.val = 0 then {0} else ∅
  | .bs k _ => if k ∈ kids c then {0} else ∅
  | .br _ => if c.val = 0 then ∅ else {0}

/-- How much each adds. -/
def amt : Cell → Nat
  | .bar => 1
  | .kk h => (kDst h).view.dmaCredit
  | .kw h => (vDst h).view.dmaCredit
  | .sgn => bSg.view.dmaCredit
  | .sgd => pdG.view.dmaCredit
  | .sbn => bSb.view.dmaCredit
  | .sbd => pdB.view.dmaCredit
  | .gn s => (gnAt s).view.dmaCredit
  | .gd s => (gdAt s).view.dmaCredit
  | .rbn => bBn.view.dmaCredit
  | .rbd => bBd.view.dmaCredit
  | .bs _ b => (castAt b).view.dmaCredit
  | .br b => (castAt b).view.dmaCredit

theorem amt_pos (x : Cell) : 0 < amt x := by
  cases x <;> first | exact Nat.one_pos | exact View.dmaCredit_pos _ (by decide)

variable {F : FTy → Type} [FloatOps F] [Named F]

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-- The broadcast's blocks on device `d`, at any contents. -/
def castBox (d : Dev nD) : sProp 𝕄 := all heads fun b => some' (F := F) d (castAt b)
/-- Device `e`'s places among the gathered parts on device 0, at any contents. -/
def gatBox (e : Dev nD) : sProp 𝕄 := iprop(some' (F := F) (0 : Dev nD) (gnAt e) ∗ some' (F := F) (0 : Dev nD) (gdAt e))
def bandBox (e : Dev nD) : sProp 𝕄 := if e.val = 1 then iprop(some' (F := F) (0 : Dev nD) bBn ∗ some' (F := F) (0 : Dev nD) bBd) else iprop(emp)

/-- What device `d`'s signal at the barrier hands device `e`: the memory on `d` that `e` will write. -/
def mail (d e : Dev nD) : sProp 𝕄 :=
  if d.val = 0 then (if e.val = 0 then iprop(emp) else iprop(gatBox (F := F) e ∗ bandBox (F := F) e))
  else if d ∈ kids e then castBox (F := F) d else iprop(emp)

instance all_storable {α : Type} (l : List α) (Φ : α → sProp 𝕄) [h : ∀ x, BI.Storable (upEmb : UEmb _ 𝕄) (Φ x)] :
    BI.Storable (upEmb : UEmb _ 𝕄) (all l Φ) := by
  induction l with
  | nil => rw [all_nil]; infer_instance
  | cons x l ih => rw [all_cons]; infer_instance

instance mail_storable (d e : Dev nD) : BI.Storable (upEmb : UEmb _ 𝕄) (mail (F := F) d e) := by
  unfold mail gatBox bandBox castBox; (repeat' split) <;> infer_instance

variable (D : Data F)

/-- Head `h` of the keys and values of device `c`, as it lies in the argument. -/
def kHead (c : Dev nD) (h : Fin 8) : S1024x128.Idx → Elt F .f32 :=
  fun y => rd (rHbm h) (D.k c) (Shape.reshapeEquiv squeezes_S1x1024x1x128_S1024x128.numel_eq y)
def vHead (c : Dev nD) (h : Fin 8) : S1024x128.Idx → Elt F .f32 :=
  fun y => rd (rHbm h) (D.v c) (Shape.reshapeEquiv squeezes_S1x1024x1x128_S1024x128.numel_eq y)

/-- What a contribution hands the semaphore's device. -/
def pay (c : Dev nD) : Cell → Fin 8 → sProp 𝕄
  | .bar, d => mail d c
  | .kk h, _ => iprop(full c (kDst h) (kHead D c h) ∗ full c (kSrc h) (kHead D c h))
  | .kw h, _ => iprop(full c (vDst h) (vHead D c h) ∗ full c (vSrc h) (vHead D c h))
  | .sgn, _ => some' c bSg
  | .sgd, _ => some' c pdG
  | .sbn, _ => some' c bSb
  | .sbd, _ => some' c pdB
  | .gn s, _ => full c (gnAt s) (SgF D s)
  | .gd s, _ => full c (gdAt s) (PdG D s)
  | .rbn, _ => full c bBn (SbF D 1)
  | .rbd, _ => full c bBd (PdB D 1)
  | .bs k b, _ => owns (c : Thread nD τ) (castAt b) (ShareLeaves.leaf 3 fullShare k) (CastF D b)
  | .br b, _ => full c (castAt b) (CastF D b)

instance pay_storable (c : Dev nD) (x : Cell) (d : Fin 8) : BI.Storable (upEmb : UEmb _ 𝕄) (pay D c x d) := by
  cases x <;> unfold pay <;> infer_instance

/-- The schedule: everything happens in round 0. -/
def Rd : Rounds.Schedule (GSem nD τ sig) (Fin 8) 𝕄 where
  duties g r := if r = 0 ∧ g.1.2 = .tc then (match cellAt g.2 with | some x => dut g.1.1 x | none => ∅) else ∅
  unitless _ := False
  amount g _ _ := match cellAt g.2 with | some x => amt x | none => 1
  payload g _ d := match cellAt g.2 with | some x => pay D g.1.1 x d | none => iprop(emp)
  amount_pos g _ _ _ := by
    split
    · exact amt_pos _
    · exact Nat.one_pos

instance Rd_payload_storable (g : GSem nD τ sig) (r : ℕ) (d : Fin 8) :
    BI.Storable (upEmb : UEmb _ 𝕄) ((Rd D).payload g r d) := by
  show BI.Storable upEmb (match cellAt g.2 with | some x => pay D g.1.1 x d | none => iprop(emp))
  split <;> infer_instance

theorem duties_cell (c : Dev nD) (x : Cell) : (Rd D).duties (cell c x) 0 = dut c x := by
  dsimp only [Rd]; rw [if_pos ⟨rfl, rfl⟩, cellAt_loc]
theorem duties_later (g : GSem nD τ sig) : ∀ r, 1 ≤ r → (Rd D).duties g r = ∅ := fun r hr => by
  dsimp only [Rd]; rw [if_neg fun h => by omega]
theorem amount_cell (c : Dev nD) (x : Cell) (d : Fin 8) : (Rd D).amount (cell c x) 0 d = amt x := by
  dsimp only [Rd]; rw [cellAt_loc]
theorem payload_cell (c : Dev nD) (x : Cell) (d : Fin 8) : (Rd D).payload (cell c x) 0 d = pay D c x d := by
  dsimp only [Rd]; rw [cellAt_loc]

theorem expect_one (c : Dev nD) (x : Cell) (h : dut c x = {0}) : (Rd D).expect (cell c x) 0 = amt x := by
  unfold Schedule.expect Schedule.amountOf; rw [duties_cell, h, Finset.sum_singleton, amount_cell]
theorem expect_bar (c : Dev nD) : (Rd D).expect (cell c .bar) 0 = 8 := by
  unfold Schedule.expect Schedule.amountOf
  rw [duties_cell, Finset.sum_congr rfl fun d _ => amount_cell D c .bar d]; rfl

/-! ## What a device owes, and the order of waiting -/

/-- How far from device 0 a device lies in the broadcast's tree. -/
def depth (c : Dev nD) : Nat :=
  if c.val = 0 then 0 else if c.val = 4 ∨ c.val = 3 ∨ c.val = 1 then 1 else if c.val = 6 then 3 else 2

def lvl (c : Dev nD) : Cell → Nat
  | .bar => 1
  | .gn _ => 2
  | .gd _ => 2
  | .rbn => 2
  | .rbd => 2
  | .br _ => 2 + depth c
  | _ => 0

def L (g : GSem nD τ sig) : Finset Unit := if g.1.2 = .tc then {()} else ∅
def lv (g : GSem nD τ sig) (_ : Unit) : ℕ := match cellAt g.2 with | some x => lvl g.1.1 x | none => 0

theorem L_of_ne (g : GSem nD τ sig) (h : g.1.2 ≠ .tc) : L g = ∅ := if_neg h
theorem L_tc (c : Dev nD) (sm : SemLoc sig) : L ((c : Thread nD τ), sm) = {()} := if_pos rfl
theorem lv_cell (c : Dev nD) (x : Cell) (u : Unit) : lv (cell c x) u = lvl c x := by
  unfold lv; rw [cellAt_loc]

/-- The credits of a list of semaphores. -/
def dues : List (Dev nD × Cell) → CellTallies nD τ sig Unit
  | [] => 0
  | p :: l => dues l + tallyAt (cell p.1 p.2) () (amt p.2)

theorem dues_pos {l : List (Dev nD × Cell)} {g : GSem nD τ sig} {u : Unit} (h : 0 < dues l g u) :
    ∃ p ∈ l, g = cell p.1 p.2 := by
  induction l with
  | nil => exact absurd h (Nat.lt_irrefl 0)
  | cons p l ih =>
    unfold dues at h
    rw [Pi.add_apply, Finsupp.add_apply, tallyAt_apply] at h
    by_cases hg : g = cell p.1 p.2 ∧ u = ()
    · exact ⟨p, List.mem_cons_self .., hg.1⟩
    · rw [if_neg hg, Nat.add_zero] at h
      obtain ⟨q, hq, e⟩ := ih h
      exact ⟨q, List.mem_cons_of_mem _ hq, e⟩

/-- Device `c` owes what the list says. -/
def ow (c : Dev nD) (l : List (Dev nD × Cell)) : sProp 𝕄 := iprop(∃ W, owes (c : Thread nD τ) (dues l) W)

omit [FloatOps F] [Named F] in
theorem may_wait (c : Dev nD) (sm : SemLoc sig) (n : Nat) (hn : lv ((c : Thread nD τ), sm) () ≤ n) (l : List (Dev nD × Cell))
    (h : ∀ p ∈ l, n < lvl p.1 p.2) : (levAts L lv : sProp 𝕄) ⊢ MayWait (c : Thread nD τ) sm () (dues l) :=
  MayOwe.of_cut (L := L) (lev := lv) n (fun p hp => by rw [Finset.mem_singleton.mp hp, L_tc]; exact Finset.mem_singleton_self _)
    (fun g u hg => by obtain ⟨p, -, rfl⟩ := dues_pos hg; rw [L_tc]; exact Finset.mem_singleton_self _)
    (fun p hp => by rw [Finset.mem_singleton.mp hp]; exact hn)
    (fun g u hg => by obtain ⟨p, hp, rfl⟩ := dues_pos hg; rw [lv_cell]; exact h p hp)

/-! ## The rules -/

/-- The semaphores' invariants, that their round is open, and the order of waiting. -/
def Rec (K : Dev nD × Cell → ℕ) : sProp 𝕄 :=
  iprop(levAts L lv ∗ (bigSep Finset.univ fun p : Dev nD × Cell => cellInv ER (Rd D) (K p) (cell p.1 p.2))
    ∗ bigSep Finset.univ fun p : Dev nD × Cell => reached ER (cell p.1 p.2) 0)

instance Rec_persistent (K : Dev nD × Cell → ℕ) : BI.Persistent (Rec D K) := by unfold Rec; infer_instance

variable {D} {K : Dev nD × Cell → ℕ}

theorem rec_lev : Rec D K ⊢ (levAts L lv : sProp 𝕄) := by
  unfold Rec; iintro ⟨H, -, -⟩; iexact H
theorem rec_inv (c : Dev nD) (x : Cell) : Rec D K ⊢ (cellInv ER (Rd D) (K (c, x)) (cell c x) : sProp 𝕄) := by
  unfold Rec; iintro ⟨-, H, -⟩
  have h : (bigSep Finset.univ fun p : Dev nD × Cell => cellInv ER (Rd D) (K p) (cell p.1 p.2))
      ⊢ (cellInv ER (Rd D) (K (c, x)) (cell c x) : sProp 𝕄) := BI.bigSep_elim (Finset.mem_univ (c, x))
  iapply h; iexact H
theorem rec_reached (c : Dev nD) (x : Cell) : Rec D K ⊢ (reached ER (cell c x) 0 : sProp 𝕄) := by
  unfold Rec; iintro ⟨-, -, H⟩
  have h : (bigSep Finset.univ fun p : Dev nD × Cell => reached ER (cell p.1 p.2) 0)
      ⊢ (reached ER (cell c x) 0 : sProp 𝕄) := BI.bigSep_elim (Finset.mem_univ (c, x))
  iapply h; iexact H

/-- The right to contribute, the place in the rounds, the credit to wait with. -/
abbrev tok (c : Dev nD) (x : Cell) (d : Fin 8) : sProp 𝕄 := dutyTok ER (cell c x) 0 d
abbrev pos (c : Dev nD) (x : Cell) (r : ℕ) : sProp 𝕄 := atPos ER (cell c x) r ∅ 0
abbrev crd (c : Dev nD) (x : Cell) : sProp 𝕄 := cred (tallyAt (cell c x) () (amt x))

section Rules
variable {sp sp' : Space} {s : Shape} {e : EltTy} {α : Type} {c : Dev nD}

omit [FloatOps F] [Named F] in
/-- What a transfer leaves behind. -/
theorem landed_src (c : Dev nD) (src : Memref sig .tc sp s e) (q : PosShare TreeShare) (X : s.Idx → Elt F e) (fs : Buf (Elt F) (src.view.loc (c : Thread nD τ)))
    (h : src.view.read (Elt F) fs = X) : (src.view.loc (c : Thread nD τ) ↦[src.view.set]{q} fs) ⊢ (owns (c : Thread nD τ) src q X : sProp 𝕄) := by
  subst h; exact owns_intro (c : Thread nD τ) src q fs
omit [FloatOps F] [Named F] in
theorem landed_dst (c k : Dev nD) (src : Memref sig .tc sp s e) (dst : Memref sig .tc sp' s e) (X : s.Idx → Elt F e) (fs : Buf (Elt F) (src.view.loc (c : Thread nD τ)))
    (fd : Buf (Elt F) (dst.view.loc (k : Thread nD τ))) (h : src.view.read (Elt F) fs = X) :
    (dst.view.loc (k : Thread nD τ) ↦[dst.view.set]{fullShare} (dst.view.write (Elt F) fd (src.view.read (Elt F) fs) Finset.univ))
      ⊢ (full k dst X : sProp 𝕄) := by
  refine BI.Entails.trans (owns_intro (k : Thread nD τ) dst fullShare _) ?_
  rw [View.read_write_univ, h]; exact BI.Entails.refl _
omit [FloatOps F] [Named F] in
theorem landed_copy (c : Dev nD) (src : Memref sig .tc sp s e) (dst : Memref sig .tc sp' s e) (q : PosShare TreeShare) (X : s.Idx → Elt F e)
    (fs : Buf (Elt F) (src.view.loc (c : Thread nD τ)))
    (fd : Buf (Elt F) (dst.view.loc (c : Thread nD τ))) (h : src.view.read (Elt F) fs = X) :
    iprop((dst.view.loc (c : Thread nD τ) ↦[dst.view.set]{fullShare} (dst.view.write (Elt F) fd (src.view.read (Elt F) fs) Finset.univ))
        ∗ (src.view.loc (c : Thread nD τ) ↦[src.view.set]{q} fs))
      ⊢ (iprop(full c dst X ∗ owns (c : Thread nD τ) src q X) : sProp 𝕄) :=
  BI.sep_mono (landed_dst c c src dst X fs fd h) (landed_src c src q X fs h)

theorem rest_one (c : Dev nD) (x : Cell) (hd : dut c x = {0}) :
    (bigSep ((Rd D).duties (cell c x) 0 \ ∅) fun d => (Rd D).payload (cell c x) 0 d) = pay D c x 0 := by
  rw [Finset.sdiff_empty, duties_cell, hd, bigSep_singleton, payload_cell]
theorem rest_bar (c : Dev nD) :
    (bigSep ((Rd D).duties (cell c .bar) 0 \ ∅) fun d => (Rd D).payload (cell c .bar) 0 d) = all heads fun d => mail (F := F) d c := by
  rw [Finset.sdiff_empty, duties_cell,
    show dut c .bar = Finset.univ from rfl, all_univ (l := heads) (by decide) (by decide)]
  exact all_congr (l := heads) fun d _ => payload_cell D c .bar d

/-- A copy within a device. -/
theorem copy_run {src : Memref sig .tc sp s e} {dst : Memref sig .tc sp' s e} (x : Cell) {sem : SemLoc sig} (hx : x.loc = sem)
    {hsrc : src.view.WordExact} {hdst : dst.view.WordExact} {hsem : DmaTarget.Typed (nD := nD) (τ := τ) (p := (.tc : Proc τ)) sp sem (.here dst)}
    {k : PUnit → P1 F α} (X : s.Idx → Elt F e) (hd : dut c x = {0}) (hN : dst.view.amount x.loc = amt x)
    (hpay : iprop(full c dst X ∗ full c src X) ⊢ pay D c x 0) {Q : α → sProp 𝕄} :
    iprop(Rec D K ∗ full c src X ∗ some' c dst ∗ tok c x 0)
      ⊢ iprop((crd c x -∗ run c (k ⟨⟩) Q) -∗ run c (.op (.enqueueDma src (.here dst) sem hsrc hdst hsem) k) Q) := by
  subst hx
  unfold some'
  iintro ⟨#HR, Hs, ⟨%Y, Hd⟩, Ht⟩ Hk
  ihave Hs := (owns_open c src fullShare X) $$ Hs
  icases Hs with ⟨%fs, %hfs, Hs⟩
  ihave Hd := (owns_open c dst fullShare Y) $$ Hd
  icases Hd with ⟨%fd, -, Hd⟩
  iapply (Rounds.wp_copy_pointsTo 𝒱₀ ER (Rd D) (c : Thread nD τ) none (κ := K (c, x)) (r := 0) (d := 0)
    (by rw [duties_cell, hd]; exact Finset.mem_singleton_self _) () (amt x) hN (amount_cell D c x 0)
    (hpay := by
      rw [payload_cell]
      exact BI.Entails.trans (landed_copy c src dst fullShare X fs fd hfs) hpay)) $$ [Hs Hd Ht]
  · isplitr; · iapply (rec_inv c x); iexact HR
    isplitl [Hs]; · iexact Hs
    isplitl [Hd]; · iexact Hd
    isplitl [Ht]; · iexact Ht
    iapply (rec_reached c x); iexact HR
  iexact Hk

/-- A send to another device. -/
theorem send_run {src : Memref sig .tc sp s e} {dst : Memref sig .tc sp' s e} (x y : Cell) (k : Dev nD) {sS sem : SemLoc sig} (hx : x.loc = sS) (hy : y.loc = sem)
    {hsc : dst.view.ref.isScScratch = false}
    {hsrc : src.view.WordExact} {hdst : dst.view.WordExact} {hsem : DmaTarget.Typed sp sem (.remote (Dev.tc k : Thread nD τ) dst sS hsc)}
    {kt : PUnit → P1 F α} (q : PosShare TreeShare) (X : s.Idx → Elt F e) (l : List (Dev nD × Cell)) (hd : dut c x = {0}) (hd' : dut k y = {0})
    (hN : dst.view.amount y.loc = amt y) (ha : amt x = amt y)
    (hpay : owns (c : Thread nD τ) src q X ⊢ pay D c x 0) (hpay' : full k dst X ⊢ pay D k y 0) {Q : α → sProp 𝕄} :
    iprop(Rec D K ∗ owns (c : Thread nD τ) src q X ∗ some' k dst ∗ ow c ((k, y) :: l) ∗ tok c x 0 ∗ tok k y 0)
      ⊢ iprop((iprop(crd c x ∗ ow c l) -∗ run c (kt ⟨⟩) Q)
          -∗ run c (.op (.enqueueDma src (.remote (Dev.tc k : Thread nD τ) dst sS hsc) sem hsrc hdst hsem) kt) Q) := by
  subst hx hy
  unfold some' ow
  iintro ⟨#HR, Hs, ⟨%Y, Hd⟩, ⟨%W, HO⟩, Ht, Ht'⟩ Hk
  ihave Hs := (owns_open c src q X) $$ Hs
  icases Hs with ⟨%fs, %hfs, Hs⟩
  ihave Hd := (owns_open k dst fullShare Y) $$ Hd
  icases Hd with ⟨%fd, -, Hd⟩
  iapply (Rounds.wp_send_pointsTo 𝒱₀ ER (Rd D) (c : Thread nD τ) none (c' := (Dev.tc k : Thread nD τ)) (dst := dst) (fd := fd) (κ₁ := K (c, x)) (κ₂ := K (k, y))
    (r₁ := 0) (r₂ := 0) (d₁ := 0) (d₂ := 0)
    (by rw [duties_cell, hd]; exact Finset.mem_singleton_self _)
    (by rw [show (((Dev.tc k : Thread nD τ), y.loc) : GSem nD τ sig) = cell k y from rfl, duties_cell, hd']; exact Finset.mem_singleton_self _)
    () () (amt y) hN ((amount_cell D c x 0).trans ha) (amount_cell D k y 0) (dues l) rfl (W := W)
    (by
      rw [payload_cell]
      exact BI.Entails.trans (landed_src c src q X fs hfs) hpay)
    (by
      rw [show (((Dev.tc k : Thread nD τ), y.loc) : GSem nD τ sig) = cell k y from rfl, payload_cell]
      exact BI.Entails.trans (landed_dst c k src dst X fs fd hfs) hpay')) $$ [Hs Hd HO Ht Ht']
  · isplitr; · iapply (rec_inv c x); iexact HR
    isplitr; · iapply (rec_inv k y); iexact HR
    isplitl [Hs]; · iexact Hs
    isplitl [Hd]; · iexact Hd
    isplitl [HO]; · iexact HO
    isplitl [Ht]; · iexact Ht
    isplitr; · iapply (rec_reached c x); iexact HR
    isplitl [Ht']; · iexact Ht'
    iapply (rec_reached k y); iexact HR
  iintro ⟨Hc, HO⟩
  iapply Hk
  isplitl [Hc]; · unfold crd; rw [ha]; iexact Hc
  iexists W; iexact HO

/-- A wait for a transfer. -/
theorem wait_run {s' : Shape} {e' : EltTy} {src : Memref sig .tc sp' s' e'} {dst : Memref sig .tc sp s e} (x : Cell) {sem : DmaSem sig} (hx : x.loc = .dma sem)
    {hsrc : src.view.WordExact} {hdst : dst.view.WordExact}
    {k : PUnit → P1 F α} (l : List (Dev nD × Cell)) (hd : dut c x = {0}) (hN : dst.view.dmaCredit = amt x)
    (hl : ∀ p ∈ l, lvl c x < lvl p.1 p.2) {Q : α → sProp 𝕄} :
    iprop(Rec D K ∗ crd c x ∗ ow c l ∗ pos c x 0)
      ⊢ iprop((iprop(ow c l ∗ pos c x 1 ∗ pay D c x 0) -∗ run c (k ⟨⟩) Q)
          -∗ run c (.op (.waitDma2 sem src dst hsrc hdst) k) Q) := by
  unfold ow
  iintro ⟨#HR, Hc, ⟨%W, HO⟩, Hp⟩ Hk
  iapply (Rounds.wp_wait_rest_token 𝒱₀ ER (Rd D) (c : Thread nD τ) none (κ := K (c, x)) (sm := .dma sem) (k' := dst.view.dmaCredit)
    (wpE_waitDma2_eq 𝒱₀ (c : Thread nD τ) none Set.univ) (Set.mem_univ _) () (O := dues l) (W := W) (R := 0) (m := 0) (T := ∅)
    (by rw [Nat.zero_add, ← hx, expect_one D c x hd, hN])) $$ [Hc HO Hp]
  · rw [← hx, hN]
    isplitr; · iapply (rec_inv c x); iexact HR
    isplitl [Hc]; · iexact Hc
    isplitl [HO]; · iexact HO
    isplitr
    · iapply (may_wait c x.loc (lvl c x) (le_of_eq (lv_cell c x ())) l hl); iapply rec_lev; iexact HR
    iexact Hp
  rw [← hx]
  iintro ⟨HO, Hp, -, Hpay⟩
  iapply Hk
  isplitl [HO]; · iexists _; iexact HO
  isplitl [Hp]; · iexact Hp
  iapply (Entails.of_eq (rest_one (D := D) c x hd)); iexact Hpay

/-- A signal at the barrier. -/
theorem signal_run (e : Dev nD) (l : List (Dev nD × Cell)) {Q : PUnit → sProp 𝕄} :
    iprop(Rec D K ∗ ow c ((e, .bar) :: l) ∗ tok e .bar c ∗ mail c e) ⊢ iprop((ow c l -∗ Q ⟨⟩) -∗ run c (signalTo e) Q) := by
  unfold ow signalTo
  simp only [semSignalWord, Prog.lift]
  iintro ⟨#HR, ⟨%W, HO⟩, Ht, Hm⟩ Hk
  iapply (Rounds.wp_signal 𝒱₀ ER (Rd D) (c : Thread nD τ) none (dst := (e : Thread nD τ)) (κ := K (e, .bar)) (r := 0) (d := c)
    (by rw [show (((e : Thread nD τ), SemLoc.reg barS) : GSem nD τ sig) = cell e .bar from rfl, duties_cell]; exact Finset.mem_univ _)
    ((amount_cell D e .bar c).trans (by decide)) () (dues l) rfl (W := W)) $$ [HO Ht Hm]
  · isplitr; · iapply (rec_inv e .bar); iexact HR
    isplitl [HO]; · iexact HO
    isplitl [Ht]; · iexact Ht
    isplitl [Hm]
    · rw [show (((e : Thread nD τ), SemLoc.reg barS) : GSem nD τ sig) = cell e .bar from rfl, payload_cell]
      iapply (Entails.of_eq (show mail c e = pay D e .bar c from rfl)); iexact Hm
    iapply (rec_reached e .bar); iexact HR
  iintro HO
  iapply (run_pure c (⟨⟩ : PUnit) Q)
  iapply Hk
  iexists W; iexact HO

/-- The wait for all eight. -/
theorem barrier_run (l : List (Dev nD × Cell)) (hl : ∀ p ∈ l, 1 < lvl p.1 p.2) {Q : PUnit → sProp 𝕄} :
    iprop(Rec D K ∗ cred (tallyAt (cell c .bar) () 8) ∗ ow c l ∗ pos c .bar 0)
      ⊢ iprop((iprop(ow c l ∗ pos c .bar 1 ∗ all heads fun d => mail (F := F) d c) -∗ Q ⟨⟩) -∗ run c (semWaitWord barS 8#32) Q) := by
  unfold ow
  simp only [semWaitWord, Prog.lift]
  iintro ⟨#HR, Hc, ⟨%W, HO⟩, Hp⟩ Hk
  iapply (Rounds.wp_wait_rest_token 𝒱₀ ER (Rd D) (c : Thread nD τ) none (κ := K (c, .bar)) (sm := .reg barS)
    (wpE_semWait_eq 𝒱₀ (c : Thread nD τ) none Set.univ) (Set.mem_univ _) () (O := dues l) (W := W) (R := 0) (m := 0) (T := ∅)
    (by rw [Nat.zero_add]; exact (by decide : (8#32 : BitVec 32).toNat = 8).trans (expect_bar D c).symm)) $$ [Hc HO Hp]
  · isplitr; · iapply (rec_inv c .bar); iexact HR
    isplitl [Hc]; · iexact Hc
    isplitl [HO]; · iexact HO
    isplitr
    · iapply (may_wait c (Cell.bar).loc 1 (le_of_eq (lv_cell c .bar ())) l hl); iapply rec_lev; iexact HR
    iexact Hp
  iintro ⟨HO, Hp, -, Hpay⟩
  iapply (run_pure c (⟨⟩ : PUnit) Q)
  iapply Hk
  isplitl [HO]; · iexists _; iexact HO
  isplitl [Hp]; · iexact Hp
  iapply (Entails.of_eq (rest_bar (D := D) c)); iexact Hpay

end Rules

end Cert.Proof

end
-- ==== Proof.Compute.lean ====
/-
  What the kernel computes, piece by piece, on memory a device holds: the queries, the blocks, the global
  rows, and device 0's divisions.
-/
module

public import proofs.«01_k».proof.Proof.Contents

@[expose] public section

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.ValueIdx (idx2_lt0 idx2_lt1)

variable {F : FTy → Type} [FloatOps F] [Named F]

local notation "𝕄" => MT nD τ sig Unit (Elt F) ℕ UU ℕ

/-! ## Places in rectangles -/

section Places

theorem emb2_0 {R C n m a b : Nat} {inb : ∀ x, (![a, b] : Fin 2 → Nat) x + (⟨2, ![n, m]⟩ : Shape).size x ≤ (⟨2, ![R, C]⟩ : Shape).size x}
    (j : (⟨2, ![n, m]⟩ : Shape).Idx) :
    ((Rect.unit (s := ⟨2, ![R, C]⟩) ![a, b] (⟨2, ![n, m]⟩ : Shape).size inb).emb j 0).val = a + (j 0).val := by simp
theorem emb2_1 {R C n m a b : Nat} {inb : ∀ x, (![a, b] : Fin 2 → Nat) x + (⟨2, ![n, m]⟩ : Shape).size x ≤ (⟨2, ![R, C]⟩ : Shape).size x}
    (j : (⟨2, ![n, m]⟩ : Shape).Idx) :
    ((Rect.unit (s := ⟨2, ![R, C]⟩) ![a, b] (⟨2, ![n, m]⟩ : Shape).size inb).emb j 1).val = b + (j 1).val := by simp

theorem emb2_self {n m : Nat} {inb : ∀ x, (![0, 0] : Fin 2 → Nat) x + (⟨2, ![n, m]⟩ : Shape).size x ≤ (⟨2, ![n, m]⟩ : Shape).size x}
    (j : (⟨2, ![n, m]⟩ : Shape).Idx) : (Rect.unit (s := ⟨2, ![n, m]⟩) ![0, 0] (⟨2, ![n, m]⟩ : Shape).size inb).emb j = j := by
  funext a
  fin_cases a
  · exact Fin.ext ((emb2_0 j).trans (Nat.zero_add _))
  · exact Fin.ext ((emb2_1 j).trans (Nat.zero_add _))

theorem rd_self {α : Type} {n m : Nat} {inb : ∀ x, (![0, 0] : Fin 2 → Nat) x + (⟨2, ![n, m]⟩ : Shape).size x ≤ (⟨2, ![n, m]⟩ : Shape).size x}
    (X : (⟨2, ![n, m]⟩ : Shape).Idx → α) : rd (Rect.unit (s := ⟨2, ![n, m]⟩) ![0, 0] (⟨2, ![n, m]⟩ : Shape).size inb) X = X :=
  funext fun j => congrArg X (emb2_self j)

end Places

variable (D : Data F) (c : Dev nD)

/-! ## The queries -/

theorem QF_at (b : Fin 4) (j : S256x1024.Idx) : QF D c ((rRows b).emb j) = qRows (rd (rX b) (D.x c)) (rd rAll (D.wq c)) j := by
  unfold QF
  refine tile2_at _ _ _ _ b 0 j (emb2_0 j) ?_
  have h := emb2_1 (R := 1024) (C := 1024) (n := 256) (m := 1024) (a := 256 * b.val) (b := 0) (inb := inbCols (by omega) (by decide)) j
  omega

theorem query_step (b : Fin 4) (rest : List (Fin 4)) {Q : PUnit → sProp 𝕄} :
    iprop(full c bX (D.x c) ∗ full c bWq (D.wq c) ∗ on c bQ (fun i => blkOf i ∉ b :: rest) (QF D c))
      ⊢ iprop((iprop(full c bX (D.x c) ∗ full c bWq (D.wq c) ∗ on c bQ (fun i => blkOf i ∉ rest) (QF D c)) -∗ Q ⟨⟩) -∗ run c (queryStep b) Q) := by
  unfold queryStep
  simp only [Prog.lift, Prog.bind_op, Prog.bind_ret]
  iintro ⟨Hx, Hw, Hq⟩ Hk
  iapply (load_owns (D.x c)) $$ Hx; iintro Hx
  iapply (load_owns (D.wq c)) $$ Hw; iintro Hw
  iapply load_skip $$ Hq; iintro Hq
  iapply (store_on (r := rRows b) (w := qRows (rd (rX b) (D.x c)) (rd rAll (D.wq c))) (S := fun i => blkOf i ∉ b :: rest) (X := QF D c) (S' := fun i => blkOf i ∉ rest) (X' := QF D c) (fun j => QF_at D c b j) (fun i hi hn => ⟨by
    rw [List.mem_cons, not_or]; exact ⟨fun h => hn ((mem_rRows b i).mpr h), hi⟩, rfl⟩)) $$ Hq
  iintro Hq
  iapply (run_pure c (⟨⟩ : PUnit) Q)
  iapply Hk
  isplitl [Hx]; · iexact Hx
  isplitl [Hw]; · iexact Hw
  iexact Hq

theorem queries_run {Q : PUnit → sProp 𝕄} :
    iprop(full c bX (D.x c) ∗ full c bWq (D.wq c) ∗ some' c bQ)
      ⊢ iprop((iprop(full c bX (D.x c) ∗ full c bWq (D.wq c) ∗ full c bQ (QF D c)) -∗ Q ⟨⟩) -∗ run c (each queryStep [0, 1, 2, 3]) Q) := by
  iintro ⟨Hx, Hw, Hq⟩ Hk
  iapply (each_run' queryStep [0, 1, 2, 3] (fun rest => iprop(full c bX (D.x c) ∗ full c bWq (D.wq c) ∗ on c bQ (fun i => blkOf i ∉ rest) (QF D c)))
    (fun b rest _ Q => query_step D c b rest) Q) $$ [Hx Hw Hq]
  · isplitl [Hx]; · iexact Hx
    isplitl [Hw]; · iexact Hw
    iapply (some_on c bQ (fun i => by generalize blkOf i = b; revert b; decide)); iexact Hq
  iintro ⟨Hx, Hw, Hq⟩
  iapply Hk
  isplitl [Hx]; · iexact Hx
  isplitl [Hw]; · iexact Hw
  iapply (on_full c bQ (fun i => ⟨List.not_mem_nil, rfl⟩)); iexact Hq

/-! ## The blocks -/

/-- What the blocks read. -/
def kvq : sProp 𝕄 := iprop(full c bK (KF D c) ∗ full c bV (VF D c) ∗ full c bQ (QF D c))

theorem window_run (b : Fin 4) (h : Fin 8) {Q : Fin 8 × FVec F S256x128 .f32 × FVec F S256x1 .f32 → sProp 𝕄} :
    kvq D c ⊢ iprop((kvq D c -∗ Q (h, winN D c b h, winD D c b h)) -∗ run c (windowHead (devWord c) b h) Q) := by
  unfold windowHead kvq
  simp only [Prog.lift, Prog.bind_op, Prog.bind_ret]
  iintro ⟨HK, HV, Hq⟩ Hk
  iapply (load_owns (KF D c)) $$ HK; iintro HK
  iapply (load_owns (QF D c)) $$ Hq; iintro Hq
  iapply (load_owns (VF D c)) $$ HV; iintro HV
  iapply (run_pure c (h, winN D c b h, winD D c b h) Q)
  iapply Hk
  isplitl [HK]; · iexact HK
  isplitl [HV]; · iexact HV
  iexact Hq

theorem first_run (b : Fin 4) (h : Fin 8) {Q : Fin 8 × FVec F S256x128 .f32 × FVec F S256x1 .f32 → sProp 𝕄} :
    kvq D c ⊢ iprop((kvq D c -∗ Q (h, fstN D c b h, fstD D c b h)) -∗ run c (firstHead (devWord c) b (h, winN D c b h, winD D c b h)) Q) := by
  unfold firstHead kvq
  simp only [Prog.lift, Prog.bind_op, Prog.bind_ret]
  iintro ⟨HK, HV, Hq⟩ Hk
  iapply (load_owns (KF D c)) $$ HK; iintro HK
  iapply (load_owns (QF D c)) $$ Hq; iintro Hq
  iapply (load_owns (VF D c)) $$ HV; iintro HV
  iapply (run_pure c (h, fstN D c b h, fstD D c b h) Q)
  iapply Hk
  isplitl [HK]; · iexact HK
  isplitl [HV]; · iexact HV
  iexact Hq

theorem mem_heads (h : Fin 8) : h ∈ heads := by revert h; decide

section Keep
variable {c} (b : Fin 4) (N : Fin 8 → FVec F S256x128 .f32) (M : Fin 8 → FVec F S256x1 .f32)
  (S : S1024x1024.Idx → Prop) (S' : S1024x8.Idx → Prop) (X : S1024x1024.Idx → Elt F .f32) (X' : S1024x8.Idx → Elt F .f32)

/-- The blocks' stores, the heads of a list still to come. -/
def kept (c : Dev nD) (l : List (Fin 8)) : sProp 𝕄 :=
  iprop(on c bPn (fun i => S i ∨ (blkOf i = b ∧ hdOf i ∉ l)) X ∗ on c bPd (fun i => S' i ∨ (blkOf i = b ∧ hdOf1 i ∉ l)) X')

theorem keep_step (hX : ∀ h j, X ((rBH b h).emb j) = keepN (N h) j) (hX' : ∀ h j, X' ((rBD b h).emb j) = keepD (M h) j)
    (h : Fin 8) (rest : List (Fin 8)) {Q : PUnit → sProp 𝕄} :
    kept b S S' X X' c (h :: rest) ⊢ iprop((kept b S S' X X' c rest -∗ Q ⟨⟩) -∗ run c (keepHead b (h, N h, M h)) Q) := by
  unfold keepHead kept
  simp only [Prog.lift, Prog.bind_op, Prog.bind_ret]
  iintro ⟨Hn, Hd⟩ Hk
  iapply load_skip $$ Hn; iintro Hn
  iapply (store_on (S' := fun i => S i ∨ (blkOf i = b ∧ hdOf i ∉ rest)) (X' := X) (fun j => hX h j) (fun i hi hn => ⟨by
    rcases hi with hi | ⟨hi, hr⟩
    · exact Or.inl hi
    · refine Or.inr ⟨hi, ?_⟩
      rw [List.mem_cons, not_or]; exact ⟨fun e => hn ((mem_rBH b h i).mpr ⟨hi, e⟩), hr⟩, rfl⟩)) $$ Hn
  iintro Hn
  iapply load_skip $$ Hd; iintro Hd
  iapply (store_on (S' := fun i => S' i ∨ (blkOf i = b ∧ hdOf1 i ∉ rest)) (X' := X') (fun j => hX' h j) (fun i hi hn => ⟨by
    rcases hi with hi | ⟨hi, hr⟩
    · exact Or.inl hi
    · refine Or.inr ⟨hi, ?_⟩
      rw [List.mem_cons, not_or]; exact ⟨fun e => hn ((mem_rBD b h i).mpr ⟨hi, e⟩), hr⟩, rfl⟩)) $$ Hd
  iintro Hd
  iapply (run_pure c (⟨⟩ : PUnit) Q)
  iapply Hk
  isplitl [Hn]; · iexact Hn
  iexact Hd

theorem keep_run (hX : ∀ h j, X ((rBH b h).emb j) = keepN (N h) j) (hX' : ∀ h j, X' ((rBD b h).emb j) = keepD (M h) j) {Q : PUnit → sProp 𝕄} :
    iprop(on c bPn S X ∗ on c bPd S' X')
      ⊢ iprop((iprop(on c bPn (fun i => S i ∨ blkOf i = b) X ∗ on c bPd (fun i => S' i ∨ blkOf i = b) X') -∗ Q ⟨⟩)
          -∗ run c (each (keepHead b) (heads.map fun h => (h, N h, M h))) Q) := by
  have hm : (heads.map fun h => (h, N h, M h)).map Prod.fst = heads := by rw [List.map_map]; exact List.map_id _
  iintro ⟨Hn, Hd⟩ Hk
  iapply (each_run' (keepHead b) (heads.map fun h => (h, N h, M h)) (fun rest => kept b S S' X X' c (rest.map Prod.fst))
    (fun x rest hs Q => by
      obtain ⟨h, -, rfl⟩ := List.mem_map.mp (hs.subset (List.mem_cons_self ..))
      exact keep_step b N M S S' X X' hX hX' h (rest.map Prod.fst)) Q) $$ [Hn Hd]
  · unfold kept
    isplitl [Hn]
    · iapply (on_mono c bPn (fun i hi => ⟨hi.resolve_right fun h => absurd h.2 (by rw [hm, not_not]; exact mem_heads _), rfl⟩)); iexact Hn
    · iapply (on_mono c bPd (fun i hi => ⟨hi.resolve_right fun h => absurd h.2 (by rw [hm, not_not]; exact mem_heads _), rfl⟩)); iexact Hd
  unfold kept
  iintro ⟨Hn, Hd⟩
  iapply Hk
  isplitl [Hn]
  · iapply (on_mono c bPn (S := fun i => S i ∨ (blkOf i = b ∧ hdOf i ∉ [])) (fun i hi => ⟨hi.imp_right fun h => ⟨h, List.not_mem_nil⟩, rfl⟩)); iexact Hn
  · iapply (on_mono c bPd (S := fun i => S' i ∨ (blkOf i = b ∧ hdOf1 i ∉ [])) (fun i hi => ⟨hi.imp_right fun h => ⟨h, List.not_mem_nil⟩, rfl⟩)); iexact Hd

end Keep

theorem PnA_at (b : Fin 4) (h : Fin 8) (j : S256x128.Idx) : PnA D c ((rBH b h).emb j) = keepN (blkN D c b h) j :=
  tile2_at (B := 4) (H := 8) (n := 256) (m := 128) rfl rfl (fun b h => keepN (blkN D c b h)) _ b h j (emb2_0 j) (emb2_1 j)
theorem PdA_at (b : Fin 4) (h : Fin 8) (j : S256x1.Idx) : PdA D c ((rBD b h).emb j) = keepD (blkD D c b h) j :=
  tile2_at (B := 4) (H := 8) (n := 256) (m := 1) rfl rfl (fun b h => keepD (blkD D c b h)) _ b h j (emb2_0 j)
    (by rw [emb2_1 j, Nat.one_mul])
theorem PnF_far (i : S1024x1024.Idx) (hi : ¬ (i 0).val < 32) : PnF D c i = PnA D c i := patch_out _ _ _ i fun h => hi (by omega)
theorem PdF_far (i : S1024x8.Idx) (hi : ¬ (i 0).val < 32) : PdF D c i = PdA D c i := patch_out _ _ _ i fun h => hi (by omega)

theorem plain_run {Q : PUnit → sProp 𝕄} :
    iprop(kvq D c ∗ some' c bPn ∗ some' c bPd)
      ⊢ iprop((iprop(kvq D c ∗ on c bPn (fun i => blkOf i = 0) (PnA D c) ∗ on c bPd (fun i => blkOf i = 0) (PdA D c)) -∗ Q ⟨⟩)
          -∗ run c (blockPlain (devWord c) 0) Q) := by
  unfold blockPlain
  iintro ⟨H, Hn, Hd⟩ Hk
  rw [run_bind]
  iapply (collect_run (windowHead (devWord c) 0) (fun h => (h, winN D c 0 h, winD D c 0 h)) (kvq D c) heads (fun h _ Q => window_run D c 0 h)) $$ H
  iintro H
  iapply (keep_run (c := c) 0 (winN D c 0) (winD D c 0) (fun _ => False) (fun _ => False) (PnA D c) (PdA D c)
    (fun h j => PnA_at D c 0 h j) (fun h j => PdA_at D c 0 h j)) $$ [Hn Hd]
  · isplitl [Hn]
    · iapply (some_on c bPn (fun i h => h)); iexact Hn
    · iapply (some_on c bPd (fun i h => h)); iexact Hd
  iintro ⟨Hn, Hd⟩
  iapply Hk
  isplitl [H]; · iexact H
  isplitl [Hn]
  · iapply (on_mono c bPn (fun i hi => ⟨Or.inr hi, rfl⟩)); iexact Hn
  · iapply (on_mono c bPd (fun i hi => ⟨Or.inr hi, rfl⟩)); iexact Hd

theorem block_run (b : Fin 4) (hb : b ≠ 0) (S : S1024x1024.Idx → Prop) (S' : S1024x8.Idx → Prop) {Q : PUnit → sProp 𝕄} :
    iprop(kvq D c ∗ on c bPn S (PnF D c) ∗ on c bPd S' (PdF D c))
      ⊢ iprop((iprop(kvq D c ∗ on c bPn (fun i => S i ∨ blkOf i = b) (PnF D c) ∗ on c bPd (fun i => S' i ∨ blkOf i = b) (PdF D c)) -∗ Q ⟨⟩)
          -∗ run c (blockFirst (devWord c) b) Q) := by
  have hb' : 0 < b.val := Nat.pos_of_ne_zero fun h => hb (Fin.ext h)
  unfold blockFirst
  iintro ⟨H, Hn, Hd⟩ Hk
  rw [run_bind]
  iapply (collect_run (windowHead (devWord c) b) (fun h => (h, winN D c b h, winD D c b h)) (kvq D c) heads (fun h _ Q => window_run D c b h)) $$ H
  iintro H
  rw [run_bind]
  iapply (collect_run (firstHead (devWord c) b) (fun r => (r.1, fstN D c b r.1, fstD D c b r.1)) (kvq D c)
    (heads.map fun h => (h, winN D c b h, winD D c b h))
    (fun r hr Q => by obtain ⟨h, -, rfl⟩ := List.mem_map.mp hr; exact first_run D c b h)) $$ H
  iintro H
  rw [List.map_map]
  iapply (keep_run (c := c) b (fstN D c b) (fstD D c b) S S' (PnF D c) (PdF D c)
    (fun h j => by
      rw [PnF_far D c _ (by rw [emb2_0 j]; omega), PnA_at]; unfold blkN; rw [if_neg hb])
    (fun h j => by
      rw [PdF_far D c _ (by rw [emb2_0 j]; omega), PdA_at]; unfold blkD; rw [if_neg hb])) $$ [Hn Hd]
  · isplitl [Hn] <;> iassumption
  iintro ⟨Hn, Hd⟩
  iapply Hk
  isplitl [H]; · iexact H
  isplitl [Hn] <;> iassumption

/-! ## The global rows -/

theorem PnF_at (h : Fin 8) (j : S32x128.Idx) : PnF D c ((rGH h).emb j) = gloN D c h j := by
  unfold PnF
  refine (patch_at (n := 32) 0 _ _ ((rGH h).emb j) (ix2 (j 0) ((rGH h).emb j 1)) ?_ rfl).trans ?_
  · exact emb2_0 j
  · exact tile2_at (B := 1) (H := 8) (n := 32) (m := 128) rfl rfl (fun _ h => gloN D c h) _ 0 h j (by simp) (emb2_1 j)
theorem PdF_at (h : Fin 8) (j : S32x1.Idx) : PdF D c ((rGD h).emb j) = gloD D c h j := by
  unfold PdF
  refine (patch_at (n := 32) 0 _ _ ((rGD h).emb j) (ix2 (j 0) ((rGD h).emb j 1)) ?_ rfl).trans ?_
  · exact emb2_0 j
  · exact tile2_at (B := 1) (H := 8) (n := 32) (m := 1) rfl rfl (fun _ h => gloD D c h) _ 0 h j (by simp) ((emb2_1 j).trans (by rw [Nat.one_mul]))

/-- Old where the head is still to come, new where it has been. -/
def mix {α : Type} {s : Shape} (hd : s.Idx → Fin 8) (old new : s.Idx → α) (l : List (Fin 8)) : s.Idx → α :=
  fun i => if hd i ∈ l then old i else new i

theorem mix_old {α : Type} {s : Shape} {hd : s.Idx → Fin 8} {old new : s.Idx → α} {l : List (Fin 8)} {i : s.Idx} (h : hd i ∈ l) :
    mix hd old new l i = old i := if_pos h
theorem mix_new {α : Type} {s : Shape} {hd : s.Idx → Fin 8} {old new : s.Idx → α} {l : List (Fin 8)} {i : s.Idx} (h : hd i ∉ l) :
    mix hd old new l i = new i := if_neg h
theorem mix_step {α : Type} {s : Shape} {hd : s.Idx → Fin 8} {old new : s.Idx → α} {x : Fin 8} {l : List (Fin 8)} {i : s.Idx}
    (h : hd i = x → old i = new i) : mix hd old new (x :: l) i = mix hd old new l i := by
  unfold mix
  by_cases e : hd i = x
  · rw [if_pos (by rw [e]; exact List.mem_cons_self ..), h e, ite_self]
  · simp [List.mem_cons, e]

def glob (l : List (Fin 8)) : sProp 𝕄 :=
  iprop(kvq D c ∗ on c bPn (fun i => blkOf i = 0) (mix hdOf (PnA D c) (PnF D c) l) ∗ on c bPd (fun i => blkOf i = 0) (mix hdOf1 (PdA D c) (PdF D c) l))

theorem rGH_row (h : Fin 8) (j : S32x128.Idx) : blkOf ((rGH h).emb j) = 0 ∧ hdOf ((rGH h).emb j) = h := by
  have hm := (mem_rGH h _).mp (emb_mem (rGH h) j)
  exact ⟨Fin.ext (by show _ / 256 = 0; omega), hm.2⟩
theorem rGD_row (h : Fin 8) (j : S32x1.Idx) : blkOf ((rGD h).emb j) = 0 ∧ hdOf1 ((rGD h).emb j) = h := by
  have hm := (mem_rGD h _).mp (emb_mem (rGD h) j)
  exact ⟨Fin.ext (by show _ / 256 = 0; omega), hm.2⟩

theorem global_step (h : Fin 8) (rest : List (Fin 8)) (hr : h ∉ rest) {Q : PUnit → sProp 𝕄} :
    glob D c (h :: rest) ⊢ iprop((glob D c rest -∗ Q ⟨⟩) -∗ run c (globalHead h) Q) := by
  unfold globalHead glob kvq
  simp only [Prog.lift, Prog.bind_op, Prog.bind_ret]
  iintro ⟨⟨HK, HV, Hq⟩, Hn, Hd⟩ Hk
  iapply (load_owns (KF D c)) $$ HK; iintro HK
  iapply (load_owns (QF D c)) $$ Hq; iintro Hq
  iapply (load_owns (VF D c)) $$ HV; iintro HV
  iapply (load_on fun j => (rGH_row h j).1) $$ Hn; iintro Hn
  iapply load_skip $$ Hn; iintro Hn
  rw [show rd (rGH h) (mix hdOf (PnA D c) (PnF D c) (h :: rest)) = rd (rGH h) (PnA D c) from
    funext fun j => mix_old (by rw [(rGH_row h j).2]; exact List.mem_cons_self ..)]
  iapply (store_on (S' := fun i => blkOf i = 0) (X' := mix hdOf (PnA D c) (PnF D c) rest)
    (fun j => (mix_new (by rw [(rGH_row h j).2]; exact hr)).trans (PnF_at D c h j))
    (fun i hi hn => ⟨hi, mix_step fun e => (PnF_far D c i fun h32 => hn ((mem_rGH h i).mpr ⟨h32, e⟩)).symm⟩)) $$ Hn
  iintro Hn
  iapply (load_on fun j => (rGD_row h j).1) $$ Hd; iintro Hd
  iapply load_skip $$ Hd; iintro Hd
  rw [show rd (rGD h) (mix hdOf1 (PdA D c) (PdF D c) (h :: rest)) = rd (rGD h) (PdA D c) from
    funext fun j => mix_old (by rw [(rGD_row h j).2]; exact List.mem_cons_self ..)]
  iapply (store_on (S' := fun i => blkOf i = 0) (X' := mix hdOf1 (PdA D c) (PdF D c) rest)
    (fun j => (mix_new (by rw [(rGD_row h j).2]; exact hr)).trans (PdF_at D c h j))
    (fun i hi hn => ⟨hi, mix_step fun e => (PdF_far D c i fun h32 => hn ((mem_rGD h i).mpr ⟨h32, e⟩)).symm⟩)) $$ Hd
  iintro Hd
  iapply (run_pure c (⟨⟩ : PUnit) Q)
  iapply Hk
  isplitl [HK HV Hq]
  · isplitl [HK]; · iexact HK
    isplitl [HV] <;> iassumption
  isplitl [Hn] <;> iassumption

theorem notin_suffix {α : Type} {x : α} {rest l : List α} (hl : l.Nodup) (hs : (x :: rest) <:+ l) : x ∉ rest :=
  (List.nodup_cons.mp (hl.sublist hs.sublist)).1

theorem globals_run {Q : PUnit → sProp 𝕄} :
    iprop(kvq D c ∗ on c bPn (fun i => blkOf i = 0) (PnA D c) ∗ on c bPd (fun i => blkOf i = 0) (PdA D c))
      ⊢ iprop((iprop(kvq D c ∗ on c bPn (fun i => blkOf i = 0) (PnF D c) ∗ on c bPd (fun i => blkOf i = 0) (PdF D c)) -∗ Q ⟨⟩)
          -∗ run c (each globalHead heads) Q) := by
  iintro ⟨H, Hn, Hd⟩ Hk
  iapply (each_run' globalHead heads (glob D c)
    (fun h rest hs Q => global_step D c h rest (notin_suffix (by decide) hs)) Q) $$ [H Hn Hd]
  · unfold glob
    isplitl [H]; · iexact H
    isplitl [Hn]
    · iapply (on_mono c bPn (fun i hi => ⟨hi, (mix_old (mem_heads _)).symm⟩)); iexact Hn
    · iapply (on_mono c bPd (fun i hi => ⟨hi, (mix_old (mem_heads _)).symm⟩)); iexact Hd
  unfold glob
  iintro ⟨H, Hn, Hd⟩
  iapply Hk
  isplitl [H]; · iexact H
  isplitl [Hn]
  · iapply (on_mono c bPn (fun i hi => ⟨hi, mix_new List.not_mem_nil⟩)); iexact Hn
  · iapply (on_mono c bPd (fun i hi => ⟨hi, mix_new List.not_mem_nil⟩)); iexact Hd

/-! ## Device 0's divisions -/

/-- What the divisions read. -/
def pnd : sProp 𝕄 := iprop(full (0 : Dev nD) bPn (PnF D 0) ∗ full (0 : Dev nD) bPd (PdF D 0))

theorem norm_step (b : Fin 4) (S : S1024x1024.Idx → Prop) (X : S1024x1024.Idx → Elt F .bf16)
    (hX : ∀ h j, X ((rBH b h).emb j) = ctxRows (rd (rBH b h) (PnF D 0)) (rd (rBD b h) (PdF D 0)) j)
    (h : Fin 8) (rest : List (Fin 8)) {Q : PUnit → sProp 𝕄} :
    iprop(pnd D ∗ on (0 : Dev nD) bCtx (fun i => S i ∨ (blkOf i = b ∧ hdOf i ∉ h :: rest)) X)
      ⊢ iprop((iprop(pnd D ∗ on (0 : Dev nD) bCtx (fun i => S i ∨ (blkOf i = b ∧ hdOf i ∉ rest)) X) -∗ Q ⟨⟩) -∗ run (0 : Dev nD) (normHead b h) Q) := by
  unfold normHead pnd
  simp only [Prog.lift, Prog.bind_op, Prog.bind_ret]
  iintro ⟨⟨Hn, Hd⟩, Hc⟩ Hk
  iapply (load_owns (PnF D 0)) $$ Hn; iintro Hn
  iapply (load_owns (PdF D 0)) $$ Hd; iintro Hd
  iapply load_skip $$ Hc; iintro Hc
  iapply (store_on (S' := fun i => S i ∨ (blkOf i = b ∧ hdOf i ∉ rest)) (X' := X) (fun j => hX h j) (fun i hi hn => ⟨by
    rcases hi with hi | ⟨hi, hr⟩
    · exact Or.inl hi
    · refine Or.inr ⟨hi, ?_⟩
      rw [List.mem_cons, not_or]; exact ⟨fun e => hn ((mem_rBH b h i).mpr ⟨hi, e⟩), hr⟩, rfl⟩)) $$ Hc
  iintro Hc
  iapply (run_pure (0 : Dev nD) (⟨⟩ : PUnit) Q)
  iapply Hk
  isplitl [Hn Hd]
  · isplitl [Hn] <;> iassumption
  iexact Hc

theorem norm_run (b : Fin 4) (S : S1024x1024.Idx → Prop) (X : S1024x1024.Idx → Elt F .bf16)
    (hX : ∀ h j, X ((rBH b h).emb j) = ctxRows (rd (rBH b h) (PnF D 0)) (rd (rBD b h) (PdF D 0)) j) {Q : PUnit → sProp 𝕄} :
    iprop(pnd D ∗ on (0 : Dev nD) bCtx S X)
      ⊢ iprop((iprop(pnd D ∗ on (0 : Dev nD) bCtx (fun i => S i ∨ blkOf i = b) X) -∗ Q ⟨⟩) -∗ run (0 : Dev nD) (each (normHead b) heads) Q) := by
  iintro ⟨H, Hc⟩ Hk
  iapply (each_run' (normHead b) heads (fun rest => iprop(pnd D ∗ on (0 : Dev nD) bCtx (fun i => S i ∨ (blkOf i = b ∧ hdOf i ∉ rest)) X))
    (fun h rest _ Q => norm_step D b S X hX h rest) Q) $$ [H Hc]
  · isplitl [H]; · iexact H
    iapply (on_mono (0 : Dev nD) bCtx (fun i hi => ⟨hi.resolve_right fun h => absurd (mem_heads _) h.2, rfl⟩)); iexact Hc
  iintro ⟨H, Hc⟩
  iapply Hk
  isplitl [H]; · iexact H
  iapply (on_mono (0 : Dev nD) bCtx (S := fun i => S i ∨ (blkOf i = b ∧ hdOf i ∉ [])) (fun i hi => ⟨hi.imp_right fun h => ⟨h, List.not_mem_nil⟩, rfl⟩)); iexact Hc

theorem CtxA_at (b : Fin 4) (h : Fin 8) (j : S256x128.Idx) :
    CtxA D ((rBH b h).emb j) = ctxRows (rd (rBH b h) (PnF D 0)) (rd (rBD b h) (PdF D 0)) j :=
  tile2_at (B := 4) (H := 8) (n := 256) (m := 128) rfl rfl (fun b h => ctxRows (rd (rBH b h) (PnF D 0)) (rd (rBD b h) (PdF D 0))) _ b h j (emb2_0 j) (emb2_1 j)

theorem CtxF_mid (i : S1024x1024.Idx) (h : ¬ (i 0).val < 32) (h' : ¬ 896 ≤ (i 0).val) : CtxF D i = CtxA D i :=
  (patch_out _ _ _ i fun e => h (by omega)).trans (patch_out _ _ _ i fun e => h' e.1)

theorem CtxF_top (h : Fin 8) (j : S32x128.Idx) : CtxF D ((rGH h).emb j) = ctxG (allG D).1 (allG D).2 h j := by
  unfold CtxF
  refine (patch_at (n := 32) 0 _ _ ((rGH h).emb j) (ix2 (j 0) ((rGH h).emb j 1)) (emb2_0 j) rfl).trans ?_
  exact tile2_at (B := 1) (H := 8) (n := 32) (m := 128) rfl rfl (fun _ h => ctxG (allG D).1 (allG D).2 h) _ 0 h j (by simp) (emb2_1 j)

theorem CtxF_band (h : Fin 8) (j : S128x128.Idx) : CtxF D ((rBB h).emb j) = ctxB (allBn D) (allBd D) h j := by
  unfold CtxF
  refine (patch_out _ _ _ _ fun e => ?_).trans ((patch_at (n := 128) 896 _ _ ((rBB h).emb j) (ix2 (j 0) ((rBB h).emb j 1)) (emb2_0 j) rfl).trans ?_)
  · have := emb2_0 (R := 1024) (C := 1024) (a := 896) (b := 128 * h.val) (inb := inbCols (by omega) (by omega)) j
    have h2 := e.2
    rw [this] at h2; omega
  · exact tile2_at (B := 1) (H := 8) (n := 128) (m := 128) rfl rfl (fun _ h => ctxB (allBn D) (allBd D) h) _ 0 h j (by simp) (emb2_1 j)

theorem fix_step (h : Fin 8) (rest : List (Fin 8)) (hr : h ∉ rest) {Q : PUnit → sProp 𝕄} :
    on (0 : Dev nD) bCtx (fun _ => True) (mix hdOf (CtxA D) (CtxF D) (h :: rest))
      ⊢ iprop((on (0 : Dev nD) bCtx (fun _ => True) (mix hdOf (CtxA D) (CtxF D) rest) -∗ Q ⟨⟩)
          -∗ run (0 : Dev nD) (fixHead (allG D).1 (allG D).2 (allBn D) (allBd D) h) Q) := by
  unfold fixHead
  simp only [Prog.lift, Prog.bind_op, Prog.bind_ret]
  iintro Hc Hk
  iapply load_skip $$ Hc; iintro Hc
  iapply (store_on (S' := fun i => i ∉ (rBB h).set) (X' := mix hdOf (CtxA D) (CtxF D) rest)
    (fun j => (mix_new (by rw [(rGH_row h j).2]; exact hr)).trans (CtxF_top D h j))
    (fun i hi hn => ⟨trivial, mix_step fun e => (CtxF_mid D i (fun h32 => hn ((mem_rGH h i).mpr ⟨h32, e⟩))
      (fun h896 => hi ((mem_rBB h i).mpr ⟨h896, e⟩))).symm⟩)) $$ Hc
  iintro Hc
  iapply load_skip $$ Hc; iintro Hc
  iapply (store_on (S' := fun _ => True) (X' := mix hdOf (CtxA D) (CtxF D) rest)
    (fun j => (mix_new (by rw [((mem_rBB h _).mp (emb_mem (rBB h) j)).2]; exact hr)).trans (CtxF_band D h j))
    (fun i _ hn => ⟨hn, rfl⟩)) $$ Hc
  iintro Hc
  iapply (run_pure (0 : Dev nD) (⟨⟩ : PUnit) Q)
  iapply Hk; iexact Hc

/-- Device `s`'s part among the gathered ones. -/
theorem gn_part (s : Fin 8) (Y : S32x1024.Idx → Elt F .bf16) :
    (full (0 : Dev nD) (gnAt s) Y : sProp 𝕄) = full (0 : Dev nD) (bGn.slice (rGn s) (fun _ => rfl)) (shapeCast S1x32x1024 Y (by decide)) := by
  have := owns_squeeze (F := F) (0 : Dev nD) (bGn.slice (rGn s) (fun _ => rfl)) squeezes_S1x32x1024_S32x1024 fullShare (shapeCast S1x32x1024 Y (by decide))
  refine Eq.trans ?_ this
  refine congrArg _ (funext fun y => ?_)
  have e : ∀ Z : S1x32x1024.Idx → Elt F .bf16, Z (Shape.reshapeEquiv squeezes_S1x32x1024_S32x1024.numel_eq y) = Z (ix3 0 (y 0) (y 1)) := fun Z => by
    have : shapeCast S32x1024 Z (by decide) y = Z (ix3 0 (y 0) (y 1)) := by simp only [pointwise]
    exact this
  refine Eq.trans ?_ (e _).symm
  simp only [pointwise]
theorem gd_part (s : Fin 8) (Y : S32x8.Idx → Elt F .f32) :
    (full (0 : Dev nD) (gdAt s) Y : sProp 𝕄) = full (0 : Dev nD) (bGd.slice (rGs s) (fun _ => rfl)) (shapeCast S1x32x8 Y (by decide)) := by
  have := owns_squeeze (F := F) (0 : Dev nD) (bGd.slice (rGs s) (fun _ => rfl)) squeezes_S1x32x8_S32x8 fullShare (shapeCast S1x32x8 Y (by decide))
  refine Eq.trans ?_ this
  refine congrArg _ (funext fun y => ?_)
  have e : ∀ Z : S1x32x8.Idx → Elt F .f32, Z (Shape.reshapeEquiv squeezes_S1x32x8_S32x8.numel_eq y) = Z (ix3 0 (y 0) (y 1)) := fun Z => by
    have : shapeCast S32x8 Z (by decide) y = Z (ix3 0 (y 0) (y 1)) := by simp only [pointwise]
    exact this
  refine Eq.trans ?_ (e _).symm
  simp only [pointwise]

/-- What came from the devices of a list. -/
def came (l : List (Fin 8)) : sProp 𝕄 := all l fun s => iprop(full (0 : Dev nD) (gnAt s) (SgF D s) ∗ full (0 : Dev nD) (gdAt s) (PdG D s))

theorem sum_run (l : List (Fin 8)) : ∀ (a : FVec F S32x1024 .f32 × FVec F S32x8 .f32) {Q : FVec F S32x1024 .f32 × FVec F S32x8 .f32 → sProp 𝕄},
    came D l ⊢ iprop((came D l -∗ Q (sumG D l a)) -∗ run (0 : Dev nD) (sumGlobal l a) Q) := by
  induction l with
  | nil =>
    intro a Q
    unfold sumGlobal sumG
    iintro H Hk
    iapply (run_pure (0 : Dev nD) a Q)
    iapply Hk; iexact H
  | cons s l ih =>
    intro a Q
    unfold came at ih ⊢
    unfold sumGlobal sumG
    rw [all_cons, gn_part, gd_part]
    simp only [Prog.lift, Prog.bind_op, Prog.bind_ret]
    iintro ⟨⟨Hn, Hd⟩, Hl⟩ Hk
    iapply (load_part (shapeCast S1x32x1024 (SgF D s) (by decide))) $$ Hn; iintro Hn
    iapply (load_part (shapeCast S1x32x8 (PdG D s) (by decide))) $$ Hd; iintro Hd
    iapply (ih _) $$ Hl
    iintro Hl
    iapply Hk
    isplitl [Hn Hd]
    · isplitl [Hn] <;> iassumption
    iexact Hl

theorem fix_run {Q : PUnit → sProp 𝕄} :
    iprop(pnd D ∗ came D others ∗ full (0 : Dev nD) bBn (SbF D 1) ∗ full (0 : Dev nD) bBd (PdB D 1) ∗ full (0 : Dev nD) bCtx (CtxA D))
      ⊢ iprop((iprop(pnd D ∗ came D others ∗ full (0 : Dev nD) bBn (SbF D 1) ∗ full (0 : Dev nD) bBd (PdB D 1) ∗ full (0 : Dev nD) bCtx (CtxF D)) -∗ Q ⟨⟩)
          -∗ run (0 : Dev nD) fixRows Q) := by
  unfold fixRows pnd
  simp only [Prog.lift, Prog.bind_op, Prog.bind_ret]
  iintro ⟨⟨Hn, Hd⟩, Hg, Hbn, Hbd, Hc⟩ Hk
  iapply (load_owns (PnF D 0)) $$ Hn; iintro Hn
  iapply (load_owns (PdF D 0)) $$ Hd; iintro Hd
  rw [run_bind]
  iapply (sum_run D others _) $$ Hg; iintro Hg
  iapply (load_owns (PnF D 0)) $$ Hn; iintro Hn
  iapply (load_owns (SbF D 1)) $$ Hbn; iintro Hbn
  iapply (load_owns (PdF D 0)) $$ Hd; iintro Hd
  iapply (load_owns (PdB D 1)) $$ Hbd; iintro Hbd
  rw [show rd (Rect.unit (s := S128x1024) ![0, 0] S128x1024.size inb_S128x1024_S128x1024_0_0) (SbF D 1) = SbF D 1 from rd_self (n := 128) (m := 1024) _,
    show rd (Rect.unit (s := S128x8) ![0, 0] S128x8.size (by decide)) (PdB D 1) = PdB D 1 from rd_self (n := 128) (m := 8) _]
  iapply (each_run' (fixHead (allG D).1 (allG D).2 (allBn D) (allBd D)) heads
    (fun rest => on (0 : Dev nD) bCtx (fun _ => True) (mix hdOf (CtxA D) (CtxF D) rest))
    (fun h rest hs Q => fix_step D h rest (notin_suffix (by decide) hs)) Q) $$ [Hc]
  · iapply (full_on (0 : Dev nD) bCtx (fun i _ => (mix_old (mem_heads _)).symm)); iexact Hc
  iintro Hc
  iapply Hk
  isplitl [Hn Hd]
  · isplitl [Hn] <;> iassumption
  isplitl [Hg]; · iexact Hg
  isplitl [Hbn]; · iexact Hbn
  isplitl [Hbd]; · iexact Hbd
  iapply (on_full (0 : Dev nD) bCtx (fun i => ⟨trivial, mix_new List.not_mem_nil⟩)); iexact Hc

end Cert.Proof

end
-- ==== Proof.Comm.lean ====
/-
  The kernel's transfers, waits and signals: what each needs and what it leaves.
-/
module

public import proofs.«01_k».proof.Proof.Protocol
public import proofs.«01_k».proof.Proof.Compute
public import Idealize.ShloMosaic.Lib.Pipeline.TableIdle

@[expose] public section

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

/-! ## Parts of a buffer -/

section Parts
variable {sp : Space} {s : Shape} {e : EltTy}

omit [Named F] in
/-- A buffer is its eight shares. -/
theorem owns_leaves (c : Dev nD) (m : Memref sig .tc sp s e) (X : s.Idx → Elt F e) :
    (full c m X : sProp 𝕄) = all heads fun k => owns (c : Thread nD τ) m (ShareLeaves.leaf 3 fullShare k) X := by
  haveI := fun e : EltTy => elt_nonempty (F := F) e
  rw [← all_univ (l := heads) (by decide) (by decide)]
  unfold full
  rw [owns_eq_rep]
  have h := ShareLeaves.pointsTo_leaves (Ix := Unit) (Val := Elt F) (Name := ℕ) (U := UU) (Lvl := ℕ) (ℓ := m.view.loc (c : Thread nD τ)) m.view.set (m.view.rep X) 3 fullShare
  refine h.trans ?_
  show bigSep (Finset.univ : Finset (Fin 8)) _ = _
  exact bigSep_congr fun k _ => (owns_eq_rep (c : Thread nD τ) m (ShareLeaves.leaf 3 fullShare k) X).symm

omit [FloatOps F] [Named F] in
/-- A part taken out of a buffer, and put back at any contents. -/
theorem slice_out (c : Dev nD) (m : Memref sig .tc sp s e) (r : Rect s) (hr : ∀ a, r.stride a = 1) {S : s.Idx → Prop} {X : s.Idx → Elt F e}
    (h : ∀ j, S (r.emb j)) :
    on c m S X ⊢ (iprop(full c (m.slice r hr) (rd r X) ∗ (some' c (m.slice r hr) -∗ on c m (fun i => S i ∧ i ∉ r.set) X)) : sProp 𝕄) := by
  unfold on
  iintro ⟨%Y, %hY, H⟩
  ihave H := (owns_slice_split (c : Thread nD τ) m fullShare r hr Y) $$ H
  icases H with ⟨Hs, ⟨%f, %hf, Hr⟩⟩
  isplitl [Hs]
  · rw [show rd r X = fun i => Y (r.emb i) from funext fun j => (hY _ (h j)).symm]
    iexact Hs
  unfold some'
  iintro ⟨%G, HG⟩
  iexists r.overlay (m.view.read (Elt F) f) G
  isplitr
  · ipureintro
    intro i hi
    rw [Rect.overlay_of_not_mem _ _ _ hi.2, hf]; exact hY i hi.1
  · iapply (owns_slice_join (c : Thread nD τ) m fullShare r hr G f)
    isplitl [HG]; · iexact HG
    iexact Hr

end Parts

omit [FloatOps F] [Named F] in
theorem all_swap {α β : Type} (l : List α) (l' : List β) (Φ : α → β → sProp 𝕄) :
    (all l fun x => all l' fun y => Φ x y) = all l' fun y => all l fun x => Φ x y := by
  induction l with
  | nil =>
    rw [all_nil]
    induction l' with
    | nil => rfl
    | cons y l' ih => rw [all_cons, all_nil, emp_left]; exact ih
  | cons x l ih => rw [all_cons, ih, ← all_sep]; rfl

variable {D : Data F} {K : Dev nD × Cell → ℕ} {c : Dev nD}

/-! ## The copies in -/

/-- What the copies of head `h` take. -/
def copyIn (D : Data F) (c : Dev nD) (h : Fin 8) : sProp 𝕄 :=
  iprop((full c (kSrc h) (kHead D c h) ∗ some' c (kDst h) ∗ tok c (.kk h) 0) ∗ full c (vSrc h) (vHead D c h) ∗ some' c (vDst h) ∗ tok c (.kw h) 0)

theorem copy_step (h : Fin 8) {Q : PUnit → sProp 𝕄} :
    iprop(copyIn D c h ∗ Rec D K) ⊢ iprop((iprop((crd c (.kk h) ∗ crd c (.kw h)) ∗ Rec D K) -∗ Q ⟨⟩) -∗ run c (copyKV h) Q) := by
  unfold copyKV copyIn
  simp only [Prog.lift, Prog.bind_op, Prog.bind_ret]
  iintro ⟨⟨⟨Hs, Hd, Ht⟩, Hs', Hd', Ht'⟩, #HR⟩ Hk
  iapply (copy_run (D := D) (K := K) (c := c) (.kk h) rfl (kHead D c h) rfl rfl (BI.Entails.refl _)) $$ [Hs Hd Ht]
  · isplitr; · iexact HR
    isplitl [Hs]; · iexact Hs
    isplitl [Hd]; · iexact Hd
    iexact Ht
  iintro Hc
  iapply (copy_run (D := D) (K := K) (c := c) (.kw h) rfl (vHead D c h) rfl rfl (BI.Entails.refl _)) $$ [Hs' Hd' Ht']
  · isplitr; · iexact HR
    isplitl [Hs']; · iexact Hs'
    isplitl [Hd']; · iexact Hd'
    iexact Ht'
  iintro Hc'
  iapply (run_pure c (⟨⟩ : PUnit) Q)
  iapply Hk
  isplitl
  · isplitl [Hc] <;> iassumption
  iexact HR

theorem copies_run {Q : PUnit → sProp 𝕄} :
    iprop(all heads (copyIn D c) ∗ Rec D K)
      ⊢ iprop((all heads (fun h => iprop(crd c (.kk h) ∗ crd c (.kw h))) -∗ Q ⟨⟩) -∗ run c (each copyKV heads) Q) := by
  iintro H Hk
  iapply (each_run copyKV heads (copyIn D c) (fun h => iprop(crd c (.kk h) ∗ crd c (.kw h))) (fun _ => Rec D K)
    (fun h _ _ Q => copy_step h) Q) $$ H
  iintro ⟨H, -⟩
  iapply Hk; iexact H

/-- A head copied in: the copies, the arguments, and the semaphores past their round. -/
def headIn (D : Data F) (c : Dev nD) (h : Fin 8) : sProp 𝕄 :=
  iprop((pos c (.kk h) 1 ∗ pos c (.kw h) 1) ∗ pay D c (.kk h) 0 ∗ pay D c (.kw h) 0)

theorem wait_step (l : List (Dev nD × Cell)) (hl : ∀ p ∈ l, 0 < lvl p.1 p.2) (h : Fin 8) {Q : PUnit → sProp 𝕄} :
    iprop(((crd c (.kk h) ∗ crd c (.kw h)) ∗ pos c (.kk h) 0 ∗ pos c (.kw h) 0) ∗ Rec D K ∗ ow c l)
      ⊢ iprop((iprop(headIn D c h ∗ Rec D K ∗ ow c l) -∗ Q ⟨⟩) -∗ run c (waitKV h) Q) := by
  unfold waitKV headIn
  simp only [Prog.lift, Prog.bind_op, Prog.bind_ret]
  iintro ⟨⟨⟨Hc, Hc'⟩, Hp, Hp'⟩, #HR, HO⟩ Hk
  iapply (wait_run (D := D) (K := K) (c := c) (.kk h) rfl l rfl rfl hl) $$ [Hc Hp HO]
  · isplitr; · iexact HR
    isplitl [Hc]; · iexact Hc
    isplitl [HO]; · iexact HO
    iexact Hp
  iintro ⟨HO, Hp, Hy⟩
  iapply (wait_run (D := D) (K := K) (c := c) (.kw h) rfl l rfl rfl hl) $$ [Hc' Hp' HO]
  · isplitr; · iexact HR
    isplitl [Hc']; · iexact Hc'
    isplitl [HO]; · iexact HO
    iexact Hp'
  iintro ⟨HO, Hp', Hy'⟩
  iapply (run_pure c (⟨⟩ : PUnit) Q)
  iapply Hk
  isplitr [HO]
  · isplitl [Hp Hp']
    · isplitl [Hp] <;> iassumption
    isplitl [Hy] <;> iassumption
  isplitr; · iexact HR
  iexact HO

theorem waits_run (l : List (Dev nD × Cell)) (hl : ∀ p ∈ l, 0 < lvl p.1 p.2) {Q : PUnit → sProp 𝕄} :
    iprop((all heads fun h => iprop((crd c (.kk h) ∗ crd c (.kw h)) ∗ pos c (.kk h) 0 ∗ pos c (.kw h) 0)) ∗ Rec D K ∗ ow c l)
      ⊢ iprop((iprop(all heads (headIn D c) ∗ ow c l) -∗ Q ⟨⟩) -∗ run c (each waitKV heads) Q) := by
  iintro H Hk
  iapply (each_run waitKV heads (fun h => iprop((crd c (.kk h) ∗ crd c (.kw h)) ∗ pos c (.kk h) 0 ∗ pos c (.kw h) 0)) (headIn D c)
    (fun _ => iprop(Rec D K ∗ ow c l)) (fun h _ _ Q => wait_step l hl h) Q) $$ H
  iintro ⟨H, -, HO⟩
  iapply Hk
  isplitl [H] <;> iassumption

/-! ## The barrier -/

theorem signals_run (l : List (Dev nD × Cell)) {Q : PUnit → sProp 𝕄} :
    iprop((all heads fun e => iprop(tok e .bar c ∗ mail c e)) ∗ Rec D K ∗ ow c (heads.map (fun e => (e, Cell.bar)) ++ l))
      ⊢ iprop((ow c l -∗ Q ⟨⟩) -∗ run c (each signalTo heads) Q) := by
  iintro H Hk
  iapply (each_run signalTo heads (fun e => iprop(tok e .bar c ∗ mail c e)) (fun _ => iprop(emp))
    (fun rest => iprop(Rec D K ∗ ow c (rest.map (fun e => (e, Cell.bar)) ++ l)))
    (fun e rest _ Q => by
      iintro ⟨⟨Ht, Hm⟩, #HR, HO⟩ Hk
      iapply (signal_run (D := D) (K := K) (c := c) e (rest.map (fun e => (e, Cell.bar)) ++ l)) $$ [Ht Hm HO]
      · isplitr; · iexact HR
        isplitl [HO]; · iexact HO
        isplitl [Ht] <;> iassumption
      iintro HO
      iapply Hk
      isplitr; · iempintro
      isplitr; · iexact HR
      iexact HO) Q) $$ H
  iintro ⟨-, -, HO⟩
  iapply Hk; iexact HO

/-! ## The broadcast -/

/-- What the sends of the broadcast's blocks of a list owe. -/
def castDue (c : Dev nD) (bs : List (Fin 8)) : List (Dev nD × Cell) :=
  bs.flatMap fun b => (kids c).map fun k => (k, Cell.br b)

theorem kid_ne {k : Fin 8} (h : k ∈ kids c) : k.val ≠ 0 := by revert c k; decide
theorem kid_deep {k : Fin 8} (h : k ∈ kids c) : depth c < depth k := by revert c k; decide

theorem castDue_lvl {bs : List (Fin 8)} : ∀ p ∈ castDue c bs, 2 + depth c < lvl p.1 p.2 := by
  intro p hp
  obtain ⟨b, -, hp⟩ := List.mem_flatMap.mp hp
  obtain ⟨k, hk, rfl⟩ := List.mem_map.mp hp
  have := kid_deep hk
  show 2 + depth c < 2 + depth k
  omega

/-- What sending block `b` to `k` takes. -/
def castIn (c : Dev nD) (b k : Fin 8) : sProp 𝕄 := iprop(some' (F := F) k (castAt b) ∗ tok c (.bs k b) 0 ∗ tok k (.br b) 0)

/-- The share of block `b` that the send to `k` holds. -/
def leafOf (D : Data F) (c : Dev nD) (b k : Fin 8) : sProp 𝕄 := owns (c : Thread nD τ) (castAt b) (ShareLeaves.leaf 3 fullShare k) (CastF D b)

theorem cast_run (b : Fin 8) (l : List (Dev nD × Cell)) {Q : PUnit → sProp 𝕄} :
    iprop((all (kids c) fun k => iprop(castIn c b k ∗ leafOf D c b k)) ∗ Rec D K ∗ ow c ((kids c).map (fun k => (k, Cell.br b)) ++ l))
      ⊢ iprop((iprop((all (kids c) fun k => crd c (.bs k b)) ∗ ow c l) -∗ Q ⟨⟩) -∗ run c (each (castTo b) (kids c)) Q) := by
  iintro H Hk
  iapply (each_run (castTo b) (kids c) (fun k => iprop(castIn c b k ∗ leafOf D c b k)) (fun k => crd c (.bs k b))
    (fun rest => iprop(Rec D K ∗ ow c (rest.map (fun k => (k, Cell.br b)) ++ l)))
    (fun k rest hs Q => by
      have hk : k ∈ kids c := hs.subset (List.mem_cons_self ..)
      unfold castTo castIn leafOf
      simp only [Prog.lift]
      iintro ⟨⟨⟨Hd, Ht, Ht'⟩, Hs⟩, #HR, HO⟩ Hk
      iapply (send_run (D := D) (K := K) (c := c) (.bs k b) (.br b) k rfl rfl (ShareLeaves.leaf 3 fullShare k) (CastF D b)
        (rest.map (fun k => (k, Cell.br b)) ++ l) (if_pos hk) (if_neg (kid_ne hk)) rfl rfl (BI.Entails.refl _) (BI.Entails.refl _)) $$ [Hd Ht Ht' Hs HO]
      · isplitr; · iexact HR
        isplitl [Hs]; · iexact Hs
        isplitl [Hd]; · iexact Hd
        isplitl [HO]; · iexact HO
        isplitl [Ht] <;> iassumption
      iintro ⟨Hc, HO⟩
      iapply (run_pure c (⟨⟩ : PUnit) Q)
      iapply Hk
      isplitl [Hc]; · iexact Hc
      isplitr; · iexact HR
      iexact HO) Q) $$ H
  iintro ⟨H, -, HO⟩
  iapply Hk
  isplitl [H]; · iexact H
  iexact HO

theorem sent_run {Q : PUnit → sProp 𝕄} :
    iprop((all (sends c) fun r => iprop(crd c (.bs r.2 r.1) ∗ pos c (.bs r.2 r.1) 0)) ∗ Rec D K ∗ ow c [])
      ⊢ iprop((iprop((all (sends c) fun r => iprop(pos c (.bs r.2 r.1) 1 ∗ leafOf D c r.1 r.2)) ∗ ow c []) -∗ Q ⟨⟩) -∗ run c (each sentTo (sends c)) Q) := by
  iintro H Hk
  iapply (each_run sentTo (sends c) (fun r => iprop(crd c (.bs r.2 r.1) ∗ pos c (.bs r.2 r.1) 0)) (fun r => iprop(pos c (.bs r.2 r.1) 1 ∗ leafOf D c r.1 r.2))
    (fun _ => iprop(Rec D K ∗ ow c []))
    (fun r rest hs Q => by
      have hk : r.2 ∈ kids c := by
        have := hs.subset (List.mem_cons_self ..)
        obtain ⟨b, -, hp⟩ := List.mem_flatMap.mp this
        obtain ⟨k, hk, rfl⟩ := List.mem_map.mp hp
        exact hk
      unfold sentTo
      simp only [Prog.lift]
      iintro ⟨⟨Hc, Hp⟩, #HR, HO⟩ Hk
      iapply (wait_run (D := D) (K := K) (c := c) (.bs r.2 r.1) rfl [] (if_pos hk) rfl (fun p hp => absurd hp List.not_mem_nil)) $$ [Hc Hp HO]
      · isplitr; · iexact HR
        isplitl [Hc]; · iexact Hc
        isplitl [HO]; · iexact HO
        iexact Hp
      iintro ⟨HO, Hp, Hy⟩
      iapply (run_pure c (⟨⟩ : PUnit) Q)
      iapply Hk
      isplitl [Hp Hy]
      · isplitl [Hp]; · iexact Hp
        iapply (Entails.of_eq (show pay D c (.bs r.2 r.1) 0 = leafOf D c r.1 r.2 from rfl)); iexact Hy
      isplitr; · iexact HR
      iexact HO) Q) $$ H
  iintro ⟨H, -, HO⟩
  iapply Hk
  isplitl [H] <;> iassumption

/-- The devices a device doesn't send to; they are the shares it keeps. -/
def nonkids (c : Dev nD) : List (Fin 8) := heads.filter fun k => k ∉ kids c

theorem nonkids_perm : heads.Perm (nonkids c ++ kids c) := by revert c; decide

theorem leaves_eq (D : Data F) (c : Dev nD) (b : Fin 8) :
    (full c (castAt b) (CastF D b) : sProp 𝕄) = iprop(all (nonkids c) (leafOf D c b) ∗ all (kids c) (leafOf D c b)) := by
  rw [owns_leaves, all_perm nonkids_perm, all_append]; rfl

theorem nonkids_head : nonkids c = 0 :: (nonkids c).tail := by revert c; decide

/-- A place of the result's block. -/
def oblk (i : S1x1024x1024.Idx) : Fin 8 := ⟨(i 1).val / 128, by have h1 : (i 1).val < 1024 := (i 1).isLt; omega⟩
theorem mem_rOut' (b : Fin 8) (i : S1x1024x1024.Idx) : i ∈ (rOut b).set ↔ oblk i = b :=
  (mem_rOut b i).trans ⟨fun h => Fin.ext h, fun h => congrArg Fin.val h⟩

theorem OutF_at (b : Fin 8) (j : S1x128x1024.Idx) :
    OutF D c ((rOut b).emb j) = if c.val = 0 then outRows (projF D b) j else recvRows (CastF D b) j := by
  unfold OutF
  refine (rows3_at _ _ b j (by simp) (by simp)).trans ?_
  split <;> rfl

/-- What taking block `b` needs, and what it leaves. -/
def takeIn (c : Dev nD) (b : Fin 8) : sProp 𝕄 := iprop(crd c (.br b) ∗ pos c (.br b) 0 ∗ all (kids c) (castIn (F := F) c b))
def takeOut (D : Data F) (c : Dev nD) (b : Fin 8) : sProp 𝕄 :=
  iprop(pos c (.br b) 1 ∗ all (nonkids c) (leafOf D c b) ∗ all (kids c) fun k => crd c (.bs k b))

theorem take_step (hc : c.val ≠ 0) (b : Fin 8) (rest : List (Fin 8)) {Q : PUnit → sProp 𝕄} :
    iprop(takeIn c b ∗ Rec D K ∗ ow c (castDue c (b :: rest)) ∗ on c bOut (fun i => oblk i ∉ b :: rest) (OutF D c))
      ⊢ iprop((iprop(takeOut D c b ∗ Rec D K ∗ ow c (castDue c rest) ∗ on c bOut (fun i => oblk i ∉ rest) (OutF D c)) -∗ Q ⟨⟩)
          -∗ run c (takeBlock c b) Q) := by
  unfold takeBlock takeIn takeOut arrived
  simp only [Prog.lift, Prog.bind_op, Prog.bind_ret]
  iintro ⟨⟨Hc, Hp, Hk'⟩, #HR, HO, Ho⟩ Hk
  iapply (wait_run (D := D) (K := K) (c := c) (.br b) rfl (castDue c (b :: rest)) (if_neg hc) rfl castDue_lvl) $$ [Hc Hp HO]
  · isplitr; · iexact HR
    isplitl [Hc]; · iexact Hc
    isplitl [HO]; · iexact HO
    iexact Hp
  iintro ⟨HO, Hp, Hy⟩
  ihave Hy := (Entails.of_eq (show pay D c (.br b) 0 = _ from leaves_eq D c b)) $$ Hy
  icases Hy with ⟨Hn, Hs⟩
  rw [run_bind]
  iapply (cast_run (D := D) (K := K) (c := c) b (castDue c rest)) $$ [Hk' Hs HO]
  · isplitl [Hk' Hs]
    · rw [all_sep]
      isplitl [Hk'] <;> iassumption
    isplitr; · iexact HR
    iexact HO
  iintro ⟨Hcs, HO⟩
  ihave Hn := (Entails.of_eq (show all (nonkids c) (leafOf D c b) = iprop(leafOf D c b 0 ∗ all (nonkids c).tail (leafOf D c b)) from by
    conv_lhs => rw [nonkids_head]
    exact all_cons 0 _ _)) $$ Hn
  icases Hn with ⟨H0, Hn⟩
  ihave H0 := (Entails.of_eq (show leafOf D c b 0
    = owns (c : Thread nD τ) (bCast.slice (rBlk b) (fun _ => rfl)) (ShareLeaves.leaf 3 fullShare 0) (CastF D b) from rfl)) $$ H0
  iapply (load_part (c := c) (CastF D b)) $$ H0
  iintro H0
  iapply load_skip $$ Ho
  iintro Ho
  iapply (store_on (r := rOut b) (w := recvRows (CastF D b)) (S := fun i => oblk i ∉ b :: rest) (X := OutF D c) (S' := fun i => oblk i ∉ rest) (X' := OutF D c) (fun j => (OutF_at b j).trans (if_neg hc)) (fun i hi hn => ⟨by
    rw [mem_rOut'] at hn
    simp only [List.mem_cons, not_or]
    exact ⟨hn, hi⟩, rfl⟩)) $$ Ho
  iintro Ho
  iapply (run_pure c (⟨⟩ : PUnit) Q)
  iapply Hk
  isplitl [Hp Hn H0 Hcs]
  · isplitl [Hp]; · iexact Hp
    isplitl [Hn H0]
    · iapply (Entails.of_eq (show all (nonkids c) (leafOf D c b) = iprop(leafOf D c b 0 ∗ all (nonkids c).tail (leafOf D c b)) from by
        conv_lhs => rw [nonkids_head]
        exact all_cons 0 _ _).symm)
      isplitl [H0]
      · iapply (Entails.of_eq (show owns (c : Thread nD τ) (bCast.slice (rBlk b) (fun _ => rfl)) (ShareLeaves.leaf 3 fullShare 0) (CastF D b)
          = leafOf D c b 0 from rfl)); iexact H0
      iexact Hn
    iexact Hcs
  isplitr; · iexact HR
  isplitl [HO]; · iexact HO
  iexact Ho

theorem takes_run (hc : c.val ≠ 0) {Q : PUnit → sProp 𝕄} :
    iprop(all border (takeIn c) ∗ Rec D K ∗ ow c (castDue c border) ∗ some' c bOut)
      ⊢ iprop((iprop(all border (takeOut D c) ∗ ow c [] ∗ full c bOut (OutF D c)) -∗ Q ⟨⟩) -∗ run c (each (takeBlock c) border) Q) := by
  iintro ⟨H, #HR, HO, Ho⟩ Hk
  iapply (each_run (takeBlock c) border (takeIn c) (takeOut D c)
    (fun rest => iprop(Rec D K ∗ ow c (castDue c rest) ∗ on c bOut (fun i => oblk i ∉ rest) (OutF D c)))
    (fun b rest _ Q => take_step hc b rest) Q) $$ [H HO Ho]
  · isplitl [H]; · iexact H
    isplitr; · iexact HR
    isplitl [HO]; · iexact HO
    iapply (some_on c bOut (fun i => by
      have : ∀ b : Fin 8, b ∈ border := by decide
      exact fun h => h (this _))); iexact Ho
  iintro ⟨H, -, HO, Ho⟩
  iapply Hk
  isplitl [H]; · iexact H
  isplitl [HO]; · iexact HO
  iapply (on_full c bOut (S := fun i => oblk i ∉ ([] : List (Fin 8))) (fun i => ⟨List.not_mem_nil, rfl⟩)); iexact Ho

/-! ## Device 0's blocks -/

/-- What computing and sending block `b` needs, and what it leaves. -/
def projIn (b : Fin 8) : sProp 𝕄 := iprop(some' (F := F) (0 : Dev nD) (castAt b) ∗ all (kids 0) (castIn (F := F) 0 b))
def projOut (D : Data F) (b : Fin 8) : sProp 𝕄 :=
  iprop(all (nonkids 0) (leafOf D 0 b) ∗ all (kids 0) fun k => crd (F := F) (0 : Dev nD) (.bs k b))

theorem proj_step (S : S1024x1024.Idx → Prop) (b : Fin 8) (hS : ∀ j, S ((rBlk b).emb j)) (rest : List (Fin 8)) {Q : PUnit → sProp 𝕄} :
    iprop(projIn b ∗ Rec D K ∗ full (0 : Dev nD) bWo (D.wo 0) ∗ on (0 : Dev nD) bCtx S (CtxF D) ∗ ow 0 (castDue 0 (b :: rest))
        ∗ on (0 : Dev nD) bOut (fun i => oblk i ∉ b :: rest) (OutF D 0))
      ⊢ iprop((iprop(projOut D b ∗ Rec D K ∗ full (0 : Dev nD) bWo (D.wo 0) ∗ on (0 : Dev nD) bCtx S (CtxF D) ∗ ow 0 (castDue 0 rest)
            ∗ on (0 : Dev nD) bOut (fun i => oblk i ∉ rest) (OutF D 0)) -∗ Q ⟨⟩)
          -∗ run (0 : Dev nD) (projBlock 0 b) Q) := by
  unfold projBlock projIn projOut
  simp only [Prog.lift, Prog.bind_op, Prog.bind_ret]
  iintro ⟨⟨Hb, Hk'⟩, #HR, Hw, Hx, HO, Ho⟩ Hk
  iapply (load_on hS) $$ Hx
  iintro Hx
  iapply (load_owns (D.wo 0)) $$ Hw
  iintro Hw
  iapply load_skip $$ Ho
  iintro Ho
  iapply (store_on (r := rOut b) (w := outRows (projF D b)) (S := fun i => oblk i ∉ b :: rest) (X := OutF D 0) (S' := fun i => oblk i ∉ rest) (X' := OutF D 0) (fun j => (OutF_at b j).trans (if_pos rfl)) (fun i hi hn => ⟨by
    rw [mem_rOut'] at hn
    simp only [List.mem_cons, not_or]
    exact ⟨hn, hi⟩, rfl⟩)) $$ Ho
  iintro Ho
  iapply load_part_skip $$ Hb
  iintro Hb
  iapply store_part $$ Hb
  iintro Hb
  ihave Hb := (Entails.of_eq (show full (0 : Dev nD) (bCast.slice (rBlk b) (fun _ => rfl)) (castRows (projRows (rd (rBlk b) (CtxF D)) (rd rAll (D.wo 0))))
    = full (0 : Dev nD) (castAt b) (CastF D b) from rfl)) $$ Hb
  ihave Hb := (Entails.of_eq (leaves_eq D 0 b)) $$ Hb
  icases Hb with ⟨Hn, Hs⟩
  iapply (cast_run (D := D) (K := K) (c := (0 : Dev nD)) b (castDue 0 rest)) $$ [Hk' Hs HO]
  · isplitl [Hk' Hs]
    · rw [all_sep]
      isplitl [Hk'] <;> iassumption
    isplitr; · iexact HR
    iexact HO
  iintro ⟨Hcs, HO⟩
  iapply Hk
  isplitl [Hn Hcs]
  · isplitl [Hn] <;> iassumption
  isplitr; · iexact HR
  isplitl [Hw]; · iexact Hw
  isplitl [Hx]; · iexact Hx
  isplitl [HO]; · iexact HO
  iexact Ho

theorem projs_run (S : S1024x1024.Idx → Prop) (l later : List (Fin 8)) (hS : ∀ b ∈ l, ∀ j, S ((rBlk b).emb j)) {Q : PUnit → sProp 𝕄} :
    iprop(all l projIn ∗ Rec D K ∗ full (0 : Dev nD) bWo (D.wo 0) ∗ on (0 : Dev nD) bCtx S (CtxF D) ∗ ow 0 (castDue 0 (l ++ later))
        ∗ on (0 : Dev nD) bOut (fun i => oblk i ∉ l ++ later) (OutF D 0))
      ⊢ iprop((iprop(all l (projOut D) ∗ full (0 : Dev nD) bWo (D.wo 0) ∗ on (0 : Dev nD) bCtx S (CtxF D) ∗ ow 0 (castDue 0 later)
            ∗ on (0 : Dev nD) bOut (fun i => oblk i ∉ later) (OutF D 0)) -∗ Q ⟨⟩)
          -∗ run (0 : Dev nD) (each (projBlock 0) l) Q) := by
  iintro H Hk
  iapply (each_run (projBlock 0) l projIn (projOut D)
    (fun rest => iprop(Rec D K ∗ full (0 : Dev nD) bWo (D.wo 0) ∗ on (0 : Dev nD) bCtx S (CtxF D) ∗ ow 0 (castDue 0 (rest ++ later))
        ∗ on (0 : Dev nD) bOut (fun i => oblk i ∉ rest ++ later) (OutF D 0)))
    (fun b rest hs Q => proj_step S b (hS b (hs.subset (List.mem_cons_self ..))) (rest ++ later)) Q) $$ H
  iintro ⟨H, -, Hw, Hx, HO, Ho⟩
  iapply Hk
  isplitl [H]; · iexact H
  isplitl [Hw]; · iexact Hw
  isplitl [Hx]; · iexact Hx
  isplitl [HO]; · iexact HO
  iexact Ho

/-! ## The parts sent to device 0 -/

abbrev rSg : Rect S32x1024 := Rect.unit (s := S32x1024) ![0, 0] S32x1024.size inb_S32x1024_S32x1024_0_0
abbrev rSb : Rect S128x1024 := Rect.unit (s := S128x1024) ![0, 0] S128x1024.size inb_S128x1024_S128x1024_0_0

theorem narrowed_run (hc : c.val ≠ 0) (S : S1024x1024.Idx → Prop) (S' : S1024x8.Idx → Prop) (hS : ∀ i, (i 0).val < 32 → S i) (hS' : ∀ i, (i 0).val < 32 → S' i)
    (l : List (Dev nD × Cell)) (hl : ∀ p ∈ l, 0 < lvl p.1 p.2) {Q : PUnit → sProp 𝕄} :
    iprop(Rec D K ∗ on c bPn S (PnF D c) ∗ on c bPd S' (PdF D c) ∗ some' c bSg ∗ gatBox (F := F) c
        ∗ (tok c .sgn 0 ∗ tok c .sgd 0 ∗ tok 0 (.gn c) 0 ∗ tok 0 (.gd c) 0) ∗ (pos c .sgn 0 ∗ pos c .sgd 0) ∗ ow c ((0, .gn c) :: (0, .gd c) :: l))
      ⊢ iprop((iprop(on c bPn S (PnF D c) ∗ on c bPd (fun i => S' i ∧ i ∉ rGd.set) (PdF D c) ∗ some' c bSg
            ∗ (pos c .sgn 1 ∗ pos c .sgd 1) ∗ ow c l) -∗ Q ⟨⟩)
          -∗ run c (sendGlobal c) Q) := by
  have hc0 : (0 : Dev nD).val = 0 ∧ c.val ≠ 0 := ⟨rfl, hc⟩
  unfold sendGlobal gatBox
  simp only [Prog.lift, Prog.bind_op, Prog.bind_ret]
  iintro ⟨#HR, Hn, Hd, Hg, ⟨Hb, Hb'⟩, ⟨Ht1, Ht2, Ht3, Ht4⟩, ⟨Hp1, Hp2⟩, HO⟩ Hk
  iapply (load_on (fun j => hS _ ((mem_rG _).mp (emb_mem rG j)))) $$ Hn
  iintro Hn
  ihave Hg := (some_on c bSg (S := fun _ => False) (X := SgF D c) (fun _ h => h)) $$ Hg
  iapply load_skip $$ Hg
  iintro Hg
  iapply (store_on (r := rSg) (S' := fun _ => True) (X' := SgF D c) (fun j => congrArg (SgF D c) (emb2_self j))
    (fun i _ hn => absurd ((congrArg (· ∈ _) (emb2_self (inb := inb_S32x1024_S32x1024_0_0) i)).mp (emb_mem rSg i)) hn)) $$ Hg
  iintro Hg
  ihave Hg := (on_full c bSg (S := fun _ => True) (fun i => ⟨trivial, rfl⟩)) $$ Hg
  ihave Hd := (slice_out c bPd rGd (fun _ => rfl) (fun j => hS' _ ((mem_rGd _).mp (emb_mem rGd j)))) $$ Hd
  icases Hd with ⟨Hds, Hd⟩
  iapply (send_run (D := D) (K := K) (c := c) .sgn (.gn c) 0 rfl rfl fullShare (SgF D c)
        ((0, .gd c) :: l) (if_neg hc) (if_pos hc0) rfl rfl (full_some c bSg) (BI.Entails.refl _)) $$ [Hg Hb Ht1 Ht3 HO]
  · isplitr; · iexact HR
    isplitl [Hg]; · iexact Hg
    isplitl [Hb]; · iexact Hb
    isplitl [HO]; · iexact HO
    isplitl [Ht1] <;> iassumption
  iintro ⟨Hc1, HO⟩
  iapply (send_run (D := D) (K := K) (c := c) .sgd (.gd c) 0 rfl rfl fullShare (PdG D c)
        l (if_neg hc) (if_pos hc0) rfl rfl (full_some c pdG) (BI.Entails.refl _)) $$ [Hds Hb' Ht2 Ht4 HO]
  · isplitr; · iexact HR
    isplitl [Hds]; · iexact Hds
    isplitl [Hb']; · iexact Hb'
    isplitl [HO]; · iexact HO
    isplitl [Ht2] <;> iassumption
  iintro ⟨Hc2, HO⟩
  iapply (wait_run (D := D) (K := K) (c := c) .sgn rfl l (if_neg hc) rfl hl) $$ [Hc1 Hp1 HO]
  · isplitr; · iexact HR
    isplitl [Hc1]; · iexact Hc1
    isplitl [HO]; · iexact HO
    iexact Hp1
  iintro ⟨HO, Hp1, Hg⟩
  iapply (wait_run (D := D) (K := K) (c := c) .sgd rfl l (if_neg hc) rfl hl) $$ [Hc2 Hp2 HO]
  · isplitr; · iexact HR
    isplitl [Hc2]; · iexact Hc2
    isplitl [HO]; · iexact HO
    iexact Hp2
  iintro ⟨HO, Hp2, Hds⟩
  ihave Hds := (Entails.of_eq (show pay D c .sgd 0 = some' c (bPd.slice rGd (fun _ => rfl)) from rfl)) $$ Hds
  ihave Hd := Hd $$ Hds
  ihave Hg := (Entails.of_eq (show pay D c .sgn 0 = some' c bSg from rfl)) $$ Hg
  iapply (run_pure c (⟨⟩ : PUnit) Q)
  iapply Hk
  isplitl [Hn]; · iexact Hn
  isplitl [Hd]; · iexact Hd
  isplitl [Hg]; · iexact Hg
  isplitl [Hp1 Hp2]
  · isplitl [Hp1] <;> iassumption
  iexact HO

theorem band_run (S : S1024x1024.Idx → Prop) (S' : S1024x8.Idx → Prop) (hS : ∀ i, 896 ≤ (i 0).val → S i) (hS' : ∀ i, 896 ≤ (i 0).val → S' i)
    (l : List (Dev nD × Cell)) (hl : ∀ p ∈ l, 0 < lvl p.1 p.2) {Q : PUnit → sProp 𝕄} :
    iprop(Rec D K ∗ on (1 : Dev nD) bPn S (PnF D 1) ∗ on (1 : Dev nD) bPd S' (PdF D 1) ∗ some' (1 : Dev nD) bSb ∗ (some' (F := F) (0 : Dev nD) bBn ∗ some' (F := F) (0 : Dev nD) bBd)
        ∗ (tok 1 .sbn 0 ∗ tok 1 .sbd 0 ∗ tok 0 .rbn 0 ∗ tok 0 .rbd 0) ∗ (pos 1 .sbn 0 ∗ pos 1 .sbd 0) ∗ ow 1 ((0, .rbn) :: (0, .rbd) :: l))
      ⊢ iprop((iprop(on (1 : Dev nD) bPn S (PnF D 1) ∗ on (1 : Dev nD) bPd (fun i => S' i ∧ i ∉ rBd.set) (PdF D 1) ∗ some' (1 : Dev nD) bSb
            ∗ (pos 1 .sbn 1 ∗ pos 1 .sbd 1) ∗ ow 1 l) -∗ Q ⟨⟩)
          -∗ run (1 : Dev nD) sendBand Q) := by
  unfold sendBand
  simp only [Prog.lift, Prog.bind_op, Prog.bind_ret]
  iintro ⟨#HR, Hn, Hd, Hg, ⟨Hb, Hb'⟩, ⟨Ht1, Ht2, Ht3, Ht4⟩, ⟨Hp1, Hp2⟩, HO⟩ Hk
  iapply (load_on (fun j => hS _ ((mem_rB _).mp (emb_mem rB j)))) $$ Hn
  iintro Hn
  ihave Hg := (some_on (1 : Dev nD) bSb (S := fun _ => False) (X := SbF D 1) (fun _ h => h)) $$ Hg
  iapply load_skip $$ Hg
  iintro Hg
  iapply (store_on (r := rSb) (S' := fun _ => True) (X' := SbF D 1) (fun j => congrArg (SbF D 1) (emb2_self j))
    (fun i _ hn => absurd ((congrArg (· ∈ _) (emb2_self (inb := inb_S128x1024_S128x1024_0_0) i)).mp (emb_mem rSb i)) hn)) $$ Hg
  iintro Hg
  ihave Hg := (on_full (1 : Dev nD) bSb (S := fun _ => True) (fun i => ⟨trivial, rfl⟩)) $$ Hg
  ihave Hd := (slice_out (1 : Dev nD) bPd rBd (fun _ => rfl) (fun j => hS' _ ((mem_rBd _).mp (emb_mem rBd j)))) $$ Hd
  icases Hd with ⟨Hds, Hd⟩
  iapply (send_run (D := D) (K := K) (c := (1 : Dev nD)) .sbn .rbn 0 rfl rfl fullShare (SbF D 1)
        ((0, .rbd) :: l) rfl rfl rfl rfl (full_some (1 : Dev nD) bSb) (BI.Entails.refl _)) $$ [Hg Hb Ht1 Ht3 HO]
  · isplitr; · iexact HR
    isplitl [Hg]; · iexact Hg
    isplitl [Hb]; · iexact Hb
    isplitl [HO]; · iexact HO
    isplitl [Ht1] <;> iassumption
  iintro ⟨Hc1, HO⟩
  iapply (send_run (D := D) (K := K) (c := (1 : Dev nD)) .sbd .rbd 0 rfl rfl fullShare (PdB D 1)
        l rfl rfl rfl rfl (full_some (1 : Dev nD) pdB) (BI.Entails.refl _)) $$ [Hds Hb' Ht2 Ht4 HO]
  · isplitr; · iexact HR
    isplitl [Hds]; · iexact Hds
    isplitl [Hb']; · iexact Hb'
    isplitl [HO]; · iexact HO
    isplitl [Ht2] <;> iassumption
  iintro ⟨Hc2, HO⟩
  iapply (wait_run (D := D) (K := K) (c := (1 : Dev nD)) .sbn rfl l rfl rfl hl) $$ [Hc1 Hp1 HO]
  · isplitr; · iexact HR
    isplitl [Hc1]; · iexact Hc1
    isplitl [HO]; · iexact HO
    iexact Hp1
  iintro ⟨HO, Hp1, Hg⟩
  iapply (wait_run (D := D) (K := K) (c := (1 : Dev nD)) .sbd rfl l rfl rfl hl) $$ [Hc2 Hp2 HO]
  · isplitr; · iexact HR
    isplitl [Hc2]; · iexact Hc2
    isplitl [HO]; · iexact HO
    iexact Hp2
  iintro ⟨HO, Hp2, Hds⟩
  ihave Hds := (Entails.of_eq (show pay D 1 .sbd 0 = some' (1 : Dev nD) (bPd.slice rBd (fun _ => rfl)) from rfl)) $$ Hds
  ihave Hd := Hd $$ Hds
  ihave Hg := (Entails.of_eq (show pay D 1 .sbn 0 = some' (1 : Dev nD) bSb from rfl)) $$ Hg
  iapply (run_pure (1 : Dev nD) (⟨⟩ : PUnit) Q)
  iapply Hk
  isplitl [Hn]; · iexact Hn
  isplitl [Hd]; · iexact Hd
  isplitl [Hg]; · iexact Hg
  isplitl [Hp1 Hp2]
  · isplitl [Hp1] <;> iassumption
  iexact HO

/-! ## Device 0's waits for them -/

def cameIn (s : Fin 8) : sProp 𝕄 :=
  iprop((crd (F := F) (0 : Dev nD) (.gn s) ∗ crd (F := F) (0 : Dev nD) (.gd s)) ∗ pos (F := F) 0 (.gn s) 0 ∗ pos (F := F) 0 (.gd s) 0)
def cameOut (D : Data F) (s : Fin 8) : sProp 𝕄 :=
  iprop((pos (F := F) 0 (.gn s) 1 ∗ pos (F := F) 0 (.gd s) 1) ∗ full (0 : Dev nD) (gnAt s) (SgF D s) ∗ full (0 : Dev nD) (gdAt s) (PdG D s))

theorem gathered_run (l : List (Dev nD × Cell)) (hl : ∀ p ∈ l, 2 < lvl p.1 p.2) {Q : PUnit → sProp 𝕄} :
    iprop(all others cameIn ∗ Rec D K ∗ ow 0 l)
      ⊢ iprop((iprop(all others (cameOut D) ∗ ow 0 l) -∗ Q ⟨⟩) -∗ run (0 : Dev nD) (each waitGlobal others) Q) := by
  iintro H Hk
  iapply (each_run waitGlobal others cameIn (cameOut D) (fun _ => iprop(Rec D K ∗ ow 0 l))
    (fun s rest hs Q => by
      have hd : (0 : Dev nD).val = 0 ∧ s.val ≠ 0 := ⟨rfl, by
        have hm : ∀ s ∈ others, s.val ≠ 0 := by decide
        exact hm s (hs.subset (List.mem_cons_self ..))⟩
      unfold waitGlobal cameIn cameOut
      simp only [Prog.lift, Prog.bind_op, Prog.bind_ret]
      iintro ⟨⟨⟨Hc, Hc'⟩, Hp, Hp'⟩, #HR, HO⟩ Hk
      iapply (wait_run (D := D) (K := K) (c := (0 : Dev nD)) (.gn s) rfl l (if_pos hd) rfl hl) $$ [Hc Hp HO]
      · isplitr; · iexact HR
        isplitl [Hc]; · iexact Hc
        isplitl [HO]; · iexact HO
        iexact Hp
      iintro ⟨HO, Hp, Hy⟩
      iapply (wait_run (D := D) (K := K) (c := (0 : Dev nD)) (.gd s) rfl l (if_pos hd) rfl hl) $$ [Hc' Hp' HO]
      · isplitr; · iexact HR
        isplitl [Hc']; · iexact Hc'
        isplitl [HO]; · iexact HO
        iexact Hp'
      iintro ⟨HO, Hp', Hy'⟩
      iapply (run_pure (0 : Dev nD) (⟨⟩ : PUnit) Q)
      iapply Hk
      isplitr [HO]
      · isplitl [Hp Hp']
        · isplitl [Hp] <;> iassumption
        isplitl [Hy]
        · iapply (Entails.of_eq (show pay D 0 (.gn s) 0 = full (0 : Dev nD) (gnAt s) (SgF D s) from rfl)); iexact Hy
        iapply (Entails.of_eq (show pay D 0 (.gd s) 0 = full (0 : Dev nD) (gdAt s) (PdG D s) from rfl)); iexact Hy'
      isplitr; · iexact HR
      iexact HO) Q) $$ H
  iintro ⟨H, -, HO⟩
  iapply Hk
  isplitl [H] <;> iassumption

theorem banded_run (l : List (Dev nD × Cell)) (hl : ∀ p ∈ l, 2 < lvl p.1 p.2) {Q : PUnit → sProp 𝕄} :
    iprop((crd (F := F) (0 : Dev nD) .rbn ∗ crd (F := F) (0 : Dev nD) .rbd) ∗ (pos (F := F) 0 .rbn 0 ∗ pos (F := F) 0 .rbd 0) ∗ Rec D K ∗ ow 0 l)
      ⊢ iprop((iprop((pos (F := F) 0 .rbn 1 ∗ pos (F := F) 0 .rbd 1) ∗ full (0 : Dev nD) bBn (SbF D 1) ∗ full (0 : Dev nD) bBd (PdB D 1) ∗ ow 0 l) -∗ Q ⟨⟩)
          -∗ run (0 : Dev nD) waitBand Q) := by
  unfold waitBand
  simp only [Prog.lift, Prog.bind_op, Prog.bind_ret]
  iintro ⟨⟨Hc, Hc'⟩, ⟨Hp, Hp'⟩, #HR, HO⟩ Hk
  iapply (wait_run (D := D) (K := K) (c := (0 : Dev nD)) .rbn rfl l rfl rfl hl) $$ [Hc Hp HO]
  · isplitr; · iexact HR
    isplitl [Hc]; · iexact Hc
    isplitl [HO]; · iexact HO
    iexact Hp
  iintro ⟨HO, Hp, Hy⟩
  iapply (wait_run (D := D) (K := K) (c := (0 : Dev nD)) .rbd rfl l rfl rfl hl) $$ [Hc' Hp' HO]
  · isplitr; · iexact HR
    isplitl [Hc']; · iexact Hc'
    isplitl [HO]; · iexact HO
    iexact Hp'
  iintro ⟨HO, Hp', Hy'⟩
  iapply (run_pure (0 : Dev nD) (⟨⟩ : PUnit) Q)
  iapply Hk
  isplitl [Hp Hp']
  · isplitl [Hp] <;> iassumption
  isplitl [Hy]
  · iapply (Entails.of_eq (show pay D 0 .rbn 0 = full (0 : Dev nD) bBn (SbF D 1) from rfl)); iexact Hy
  isplitl [Hy']
  · iapply (Entails.of_eq (show pay D 0 .rbd 0 = full (0 : Dev nD) bBd (PdB D 1) from rfl)); iexact Hy'
  iexact HO

end Cert.Proof

end
-- ==== Proof.Parts.lean ====
/-
  Whole buffers and their parts: the heads of the keys and values, the gathered parts, the blocks of the
  broadcast.
-/
module

public import proofs.«01_k».proof.Proof.Comm

@[expose] public section

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ UU ℕ

/-! ## A buffer cut into eight -/

section Cut
variable {sp : Space} {s : Shape} {e : EltTy} (c : Dev nD) (m : Memref sig .tc sp s e)
  (r : Fin 8 → Rect s) (hr : ∀ t a, (r t).stride a = 1) (f : s.Idx → Fin 8) (hf : ∀ t i, i ∈ (r t).set ↔ f i = t)
include hf

omit [FloatOps F] [Named F] in
theorem cut_disj : ∀ t t', t ≠ t' → Disjoint (r t).set (r t').set := fun t t' h =>
  Finset.disjoint_left.mpr fun i hi hi' => h (((hf t i).mp hi).symm.trans ((hf t' i).mp hi'))
omit [FloatOps F] [Named F] in
theorem cut_cover : (Finset.univ : Finset (Fin 8)).biUnion (fun t => (r t).set) = Finset.univ := by
  ext i
  simp only [Finset.mem_biUnion, Finset.mem_univ, true_and, iff_true]
  exact ⟨f i, (hf _ i).mpr rfl⟩

omit [Named F] in
theorem parts_full (X : s.Idx → Elt F e) :
    (full c m X : sProp 𝕄) = all heads fun t => full c (m.slice (r t) (hr t)) (rd (r t) X) := by
  haveI := fun e : EltTy => elt_nonempty (F := F) e
  rw [← all_univ (l := heads) (by decide) (by decide)]
  exact both (owns_rects (c : Thread nD τ) m fullShare r hr (cut_disj r f hf) (cut_cover r f hf) X)
    (owns_of_rects (c : Thread nD τ) m fullShare r hr (cut_disj r f hf) (cut_cover r f hf) X)

omit [Named F] in
theorem parts_some : (some' (F := F) c m : sProp 𝕄) = all heads fun t => some' c (m.slice (r t) (hr t)) := by
  haveI := fun e : EltTy => elt_nonempty (F := F) e
  refine both ?_ ?_
  · unfold some'
    iintro ⟨%X, H⟩
    ihave H := (Entails.of_eq (parts_full c m r hr f hf X)) $$ H
    have h : (all heads fun t => full c (m.slice (r t) (hr t)) (rd (r t) X)) ⊢ (all heads fun t => iprop(∃ Y, full c (m.slice (r t) (hr t)) Y) : sProp 𝕄) :=
      all_mono fun t _ => by iintro H; iexists _; iexact H
    iapply h; iexact H
  · rw [← all_univ (l := heads) (by decide) (by decide)]
    unfold some'
    iintro H
    ihave H := (BI.bigSep_exists_pi Finset.univ (fun (t : Fin 8) (Y : (r t).shape.Idx → Elt F e) => (full c (m.slice (r t) (hr t)) Y : sProp 𝕄))) $$ H
    icases H with ⟨%Y, H⟩
    let X : s.Idx → Elt F e := fun i => (r (f i)).overlay (fun _ => Classical.arbitrary _) (Y (f i)) i
    have hX : ∀ t, Y t = rd (r t) X := fun t => funext fun j => by
      have h : ∀ t', t' = t → Y t j = (r t').overlay (fun _ => Classical.arbitrary _) (Y t') ((r t).emb j) := fun t' e => by
        subst e; exact (Rect.overlay_emb _ _ _ j).symm
      exact h _ ((hf t _).mp (emb_mem (r t) j))
    iexists X
    iapply (Entails.of_eq (parts_full c m r hr f hf X).symm)
    iapply (Entails.of_eq (all_univ (l := heads) (by decide) (by decide) (fun t => full c (m.slice (r t) (hr t)) (rd (r t) X))))
    iapply (Entails.of_eq (bigSep_congr (fun t _ => by rw [hX t]) :
      bigSep Finset.univ (fun t => (full c (m.slice (r t) (hr t)) (Y t) : sProp 𝕄)) = bigSep Finset.univ fun t => full c (m.slice (r t) (hr t)) (rd (r t) X)))
    iexact H

end Cut

omit [FloatOps F] [Named F] in
theorem some_squeeze {sp : Space} {s s' : Shape} {e : EltTy} (c : Dev nD) (m : Memref sig .tc sp s e) (h : s.Squeezes s') :
    (some' (F := F) c (m.squeeze s' h) : sProp 𝕄) = some' c m := by
  refine both ?_ ?_
  · unfold some'
    iintro ⟨%Y, H⟩
    iexists fun x => Y ((Shape.reshapeEquiv h.numel_eq).symm x)
    iapply (Entails.of_eq (owns_squeeze (F := F) c m h fullShare (fun x => Y ((Shape.reshapeEquiv h.numel_eq).symm x))))
    simp only [Equiv.symm_apply_apply]
    iexact H
  · unfold some'
    iintro ⟨%X, H⟩
    iexists fun y => X (Shape.reshapeEquiv h.numel_eq y)
    iapply (Entails.of_eq (owns_squeeze (F := F) c m h fullShare X).symm); iexact H

/-! ## The keys and the values -/

theorem mem_rHead (t : Fin 8) (i : S8x1024x128.Idx) : i ∈ (rHead t).set ↔ (i 0 : Fin 8) = t := by
  have h1 : (i 1).val < 1024 := (i 1).isLt
  have h2 : (i 2).val < 128 := (i 2).isLt
  rw [Rect.mem_set_unit]
  constructor
  · intro h
    have := h 0
    simp at this; exact Fin.ext (by omega)
  · intro h a
    have h0 : (i 0).val = t.val := congrArg Fin.val h
    fin_cases a <;> simp <;> omega
theorem mem_rHbm (t : Fin 8) (i : S1x1024x8x128.Idx) : i ∈ (rHbm t).set ↔ (i 2 : Fin 8) = t := by
  have h0 : (i 0).val < 1 := (i 0).isLt
  have h1 : (i 1).val < 1024 := (i 1).isLt
  have h3 : (i 3).val < 128 := (i 3).isLt
  rw [Rect.mem_set_unit]
  constructor
  · intro h
    have := h 2
    simp at this; exact Fin.ext (by omega)
  · intro h a
    have h2 : (i 2).val = t.val := congrArg Fin.val h
    fin_cases a <;> simp <;> omega
theorem mem_rGn (t : Fin 8) (i : S8x32x1024.Idx) : i ∈ (rGn t).set ↔ (i 0 : Fin 8) = t := by
  have h1 : (i 1).val < 32 := (i 1).isLt
  have h2 : (i 2).val < 1024 := (i 2).isLt
  rw [Rect.mem_set_unit]
  constructor
  · intro h
    have := h 0
    simp at this; exact Fin.ext (by omega)
  · intro h a
    have h0 : (i 0).val = t.val := congrArg Fin.val h
    fin_cases a <;> simp <;> omega
theorem mem_rGs (t : Fin 8) (i : S8x32x8.Idx) : i ∈ (rGs t).set ↔ (i 0 : Fin 8) = t := by
  have h1 : (i 1).val < 32 := (i 1).isLt
  have h2 : (i 2).val < 8 := (i 2).isLt
  rw [Rect.mem_set_unit]
  constructor
  · intro h
    have := h 0
    simp at this; exact Fin.ext (by omega)
  · intro h a
    have h0 : (i 0).val = t.val := congrArg Fin.val h
    fin_cases a <;> simp <;> omega
def rowBlk (i : S1024x1024.Idx) : Fin 8 := ⟨(i 0).val / 128, by have h : (i 0).val < 1024 := (i 0).isLt; omega⟩
theorem mem_rBlk' (t : Fin 8) (i : S1024x1024.Idx) : i ∈ (rBlk t).set ↔ rowBlk i = t :=
  (mem_rBlk t i).trans ⟨fun h => Fin.ext h, fun h => congrArg Fin.val h⟩

variable (D : Data F) (c : Dev nD)

theorem hK_parts : (full c hK (D.k c) : sProp 𝕄) = all heads fun h => full c (kSrc h) (kHead D c h) := by
  rw [parts_full c hK rHbm (fun _ _ => rfl) (fun i => (i 2 : Fin 8)) mem_rHbm]
  exact all_congr fun h _ => (owns_squeeze (F := F) c (hK.slice (rHbm h) (fun _ => rfl)) squeezes_S1x1024x1x128_S1024x128 fullShare (rd (rHbm h) (D.k c))).symm
theorem hV_parts : (full c hV (D.v c) : sProp 𝕄) = all heads fun h => full c (vSrc h) (vHead D c h) := by
  rw [parts_full c hV rHbm (fun _ _ => rfl) (fun i => (i 2 : Fin 8)) mem_rHbm]
  exact all_congr fun h _ => (owns_squeeze (F := F) c (hV.slice (rHbm h) (fun _ => rfl)) squeezes_S1x1024x1x128_S1024x128 fullShare (rd (rHbm h) (D.v c))).symm
theorem bK_parts : (full c bK (KF D c) : sProp 𝕄) = all heads fun h => full c (kDst h) (kHead D c h) := by
  rw [parts_full c bK rHead (fun _ _ => rfl) (fun i => (i 0 : Fin 8)) mem_rHead]
  refine all_congr fun h _ => Eq.trans ?_ (congrArg (full c (kDst h)) (kv_same (D.k c) h).symm)
  exact (owns_squeeze (F := F) c (bK.slice (rHead h) (fun _ => rfl)) squeezes_S1x1024x128_S1024x128 fullShare (rd (rHead h) (KF D c))).symm
theorem bV_parts : (full c bV (VF D c) : sProp 𝕄) = all heads fun h => full c (vDst h) (vHead D c h) := by
  rw [parts_full c bV rHead (fun _ _ => rfl) (fun i => (i 0 : Fin 8)) mem_rHead]
  refine all_congr fun h _ => Eq.trans ?_ (congrArg (full c (vDst h)) (kv_same (D.v c) h).symm)
  exact (owns_squeeze (F := F) c (bV.slice (rHead h) (fun _ => rfl)) squeezes_S1x1024x128_S1024x128 fullShare (rd (rHead h) (VF D c))).symm
omit [Named F] in
theorem bK_some : (some' (F := F) c bK : sProp 𝕄) = all heads fun h => some' c (kDst h) := by
  rw [parts_some c bK rHead (fun _ _ => rfl) (fun i => (i 0 : Fin 8)) mem_rHead]
  exact all_congr fun h _ => (some_squeeze (F := F) c _ squeezes_S1x1024x128_S1024x128).symm
omit [Named F] in
theorem bV_some : (some' (F := F) c bV : sProp 𝕄) = all heads fun h => some' c (vDst h) := by
  rw [parts_some c bV rHead (fun _ _ => rfl) (fun i => (i 0 : Fin 8)) mem_rHead]
  exact all_congr fun h _ => (some_squeeze (F := F) c _ squeezes_S1x1024x128_S1024x128).symm
omit [Named F] in
theorem bGn_some : (some' (F := F) c bGn : sProp 𝕄) = all heads fun s => some' c (gnAt s) := by
  rw [parts_some c bGn rGn (fun _ _ => rfl) (fun i => (i 0 : Fin 8)) mem_rGn]
  exact all_congr fun h _ => (some_squeeze (F := F) c _ squeezes_S1x32x1024_S32x1024).symm
omit [Named F] in
theorem bGd_some : (some' (F := F) c bGd : sProp 𝕄) = all heads fun s => some' c (gdAt s) := by
  rw [parts_some c bGd rGs (fun _ _ => rfl) (fun i => (i 0 : Fin 8)) mem_rGs]
  exact all_congr fun h _ => (some_squeeze (F := F) c _ squeezes_S1x32x8_S32x8).symm
omit [Named F] in
theorem bCast_some : (some' (F := F) c bCast : sProp 𝕄) = castBox c := by
  rw [parts_some c bCast rBlk (fun _ _ => rfl) rowBlk mem_rBlk']; rfl

/-! ## The mail -/

omit [FloatOps F] [Named F] in
theorem emp_right (P : sProp 𝕄) : iprop(P ∗ emp) = P := by
  refine both ?_ ?_
  · iintro ⟨H, -⟩; iexact H
  · iintro H
    isplitl; · iexact H
    iempintro

omit [FloatOps F] [Named F] in
theorem all_filter {α : Type} (l : List α) (p : α → Prop) [DecidablePred p] (Φ : α → sProp 𝕄) :
    all l (fun x => if p x then Φ x else iprop(emp)) = all (l.filter fun x => p x) Φ := by
  induction l with
  | nil => rfl
  | cons x l ih =>
    rw [all_cons, ih]
    by_cases hx : p x
    · rw [if_pos hx, List.filter_cons_of_pos (by simpa using hx), all_cons]
    · rw [if_neg hx, List.filter_cons_of_neg (by simpa using hx), emp_left]

/-- What another device than 0 gives away: its broadcast buffer; -/
theorem mail_other (hc : c.val ≠ 0) : (all heads (mail (F := F) c) : sProp 𝕄) = castBox c := by
  have h : (all heads (mail (F := F) c) : sProp 𝕄) = all heads (fun e => if c ∈ kids e then castBox (F := F) c else iprop(emp)) :=
    all_congr fun e _ => by unfold mail; exact if_neg hc
  have hp : ∀ c : Dev nD, c.val ≠ 0 → ∃ e, heads.filter (fun e => c ∈ kids e) = [e] := by decide
  obtain ⟨e, he⟩ := hp c hc
  rw [h, all_filter heads (fun e => c ∈ kids e) (fun _ => castBox (F := F) c), he]
  exact emp_right _
/-- device 0: the places of the parts it gathers. -/
theorem mail_root : (all heads (mail (F := F) 0) : sProp 𝕄)
    = iprop(all others (gatBox (F := F)) ∗ some' (F := F) (0 : Dev nD) bBn ∗ some' (F := F) (0 : Dev nD) bBd) := by
  have h1 : (all heads (mail (F := F) 0) : sProp 𝕄) = iprop(all others (gatBox (F := F)) ∗ all others (bandBox (F := F))) := by
    rw [← all_sep]
    refine Eq.trans (show _ = iprop(mail (F := F) 0 0 ∗ all others (mail (F := F) 0)) from rfl) ?_
    rw [show mail (F := F) 0 0 = iprop(emp) from (if_pos rfl).trans (if_pos rfl), emp_left]
    exact all_congr fun e he => by
      have hn : ∀ e ∈ others, ¬ e.val = 0 := by decide
      unfold mail; exact (if_pos rfl).trans (if_neg (hn e he))
  rw [h1]
  refine congrArg (fun P : sProp 𝕄 => iprop(all others (gatBox (F := F)) ∗ P)) ?_
  have h2 : (all others (bandBox (F := F)) : sProp 𝕄)
      = all others fun e => if e.val = 1 then iprop(some' (F := F) (0 : Dev nD) bBn ∗ some' (F := F) (0 : Dev nD) bBd) else iprop(emp) :=
    all_congr fun e _ => rfl
  rw [h2, all_filter others (fun e => e.val = 1), show others.filter (fun e => e.val = 1) = [1] by decide]
  exact emp_right _

theorem mail_zero (e : Dev nD) (he : e.val ≠ 0) : (mail (F := F) 0 e : sProp 𝕄) = iprop(gatBox (F := F) e ∗ bandBox (F := F) e) := by
  unfold mail; exact (if_pos rfl).trans (if_neg he)

theorem mail_rest : (all others (fun d => mail (F := F) d c) : sProp 𝕄) = all (kids c) (castBox (F := F)) := by
  have h : (all others (fun d => mail (F := F) d c) : sProp 𝕄) = all others (fun d => if d ∈ kids c then castBox (F := F) d else iprop(emp)) :=
    all_congr fun d hd => by
      have hn : ∀ d ∈ others, ¬ d.val = 0 := by decide
      unfold mail; exact if_neg (hn d hd)
  have hp : ∀ c : Dev nD, (others.filter (fun d => d ∈ kids c)).Perm (kids c) := by decide
  rw [h, all_filter others (fun d => d ∈ kids c), all_perm (hp c)]

/-- What a device gets: its places on device 0, and the broadcast buffers of those it sends to. -/
theorem mail_in_other (hc : c.val ≠ 0) :
    (all heads (fun d => mail (F := F) d c) : sProp 𝕄) = iprop((gatBox (F := F) c ∗ bandBox (F := F) c) ∗ all (kids c) (castBox (F := F))) := by
  rw [← mail_rest, ← mail_zero c hc]; rfl
theorem mail_in_root : (all heads (fun d => mail (F := F) d 0) : sProp 𝕄) = all (kids 0) (castBox (F := F)) := by
  rw [← mail_rest]
  refine Eq.trans (show _ = iprop(mail (F := F) 0 0 ∗ all others fun d => mail (F := F) d 0) from rfl) ?_
  rw [show mail (F := F) 0 0 = iprop(emp) from (if_pos rfl).trans (if_pos rfl), emp_left]

end Cert.Proof

end
-- ==== Proof.Body.lean ====
/-
  A device's whole run: what it starts with and what it ends with.
-/
module

public import proofs.«01_k».proof.Proof.Parts

@[expose] public section

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ UU ℕ

variable (D : Data F) (c : Dev nD)

/-! ## The front -/

/-- The keys and values, the copies and the arguments. -/
theorem heads_in : (all heads (headIn D c) : sProp 𝕄)
    = iprop((all heads fun h => iprop(pos (F := F) c (.kk h) 1 ∗ pos (F := F) c (.kw h) 1))
        ∗ (full c bK (KF D c) ∗ full c hK (D.k c)) ∗ full c bV (VF D c) ∗ full c hV (D.v c)) := by
  rw [bK_parts, bV_parts, hK_parts, hV_parts, ← all_sep, ← all_sep, ← all_sep, ← all_sep]; rfl

theorem copies_in : (all heads (copyIn D c) : sProp 𝕄)
    = iprop((full c hK (D.k c) ∗ some' c bK ∗ all heads fun h => tok (F := F) c (.kk h) 0)
        ∗ full c hV (D.v c) ∗ some' c bV ∗ all heads fun h => tok (F := F) c (.kw h) 0) := by
  rw [bK_some, bV_some, hK_parts, hV_parts, ← all_sep, ← all_sep, ← all_sep, ← all_sep, ← all_sep]; rfl

variable {D c} {K : Dev nD × Cell → ℕ}

theorem front_run (l : List (Dev nD × Cell)) (hl : ∀ p ∈ l, 1 < lvl p.1 p.2) {Q : PUnit → sProp 𝕄} :
    iprop(Rec D K ∗ (full c hK (D.k c) ∗ full c hV (D.v c)) ∗ (some' c bK ∗ some' c bV ∗ some' c bQ ∗ some' c bPn ∗ some' c bPd)
        ∗ (full c bX (D.x c) ∗ full c bWq (D.wq c))
        ∗ ((all heads fun h => tok (F := F) c (.kk h) 0) ∗ (all heads fun h => tok (F := F) c (.kw h) 0) ∗ all heads fun e => tok (F := F) e .bar c)
        ∗ all heads (mail c) ∗ cred (tallyAt (cell c .bar) () 8)
        ∗ (pos c .bar 0 ∗ all heads fun h => iprop(pos (F := F) c (.kk h) 0 ∗ pos (F := F) c (.kw h) 0))
        ∗ ow c (heads.map (fun e => (e, Cell.bar)) ++ l))
      ⊢ iprop((iprop((full c hK (D.k c) ∗ full c hV (D.v c)) ∗ kvq D c ∗ (full c bX (D.x c) ∗ full c bWq (D.wq c))
            ∗ (on c bPn (fun i => blkOf i = 0 ∨ blkOf i = 3) (PnF D c) ∗ on c bPd (fun i => blkOf i = 0 ∨ blkOf i = 3) (PdF D c))
            ∗ (all heads fun d => mail (F := F) d c)
            ∗ (pos c .bar 1 ∗ all heads fun h => iprop(pos (F := F) c (.kk h) 1 ∗ pos (F := F) c (.kw h) 1)) ∗ ow c l) -∗ Q ⟨⟩)
          -∗ run c (front c) Q) := by
  unfold front
  iintro ⟨#HR, ⟨HhK, HhV⟩, ⟨HK, HV, HQ, Hn, Hd⟩, ⟨HX, HW⟩, ⟨Htk, Htw, Htb⟩, Hm, Hc8, ⟨Hpb, Hph⟩, HO⟩ Hk
  rw [run_bind]
  iapply (copies_run (D := D) (K := K) (c := c)) $$ [HhK HhV HK HV Htk Htw]
  · isplitl
    · rw [copies_in]
      isplitl [HhK HK Htk]
      · isplitl [HhK]; · iexact HhK
        isplitl [HK] <;> iassumption
      isplitl [HhV]; · iexact HhV
      isplitl [HV] <;> iassumption
    iexact HR
  iintro Hcs
  rw [run_bind]
  iapply (signals_run (D := D) (K := K) (c := c) l) $$ [Htb Hm HO]
  · isplitl [Htb Hm]
    · rw [all_sep]
      isplitl [Htb]; · iexact Htb
      iexact Hm
    isplitr; · iexact HR
    iexact HO
  iintro HO
  rw [run_bind]
  iapply (barrier_run (D := D) (K := K) (c := c) l hl) $$ [Hc8 HO Hpb]
  · isplitr; · iexact HR
    isplitl [Hc8]; · iexact Hc8
    isplitl [HO] <;> iassumption
  iintro ⟨HO, Hpb, Hm⟩
  rw [run_bind]
  iapply (queries_run D c) $$ [HX HW HQ]
  · isplitl [HX]; · iexact HX
    isplitl [HW] <;> iassumption
  iintro ⟨HX, HW, HQ⟩
  rw [run_bind]
  iapply (waits_run (D := D) (K := K) (c := c) l (fun p hp => Nat.lt_of_succ_lt (hl p hp))) $$ [Hcs Hph HO]
  · isplitl [Hcs Hph]
    · iapply (Entails.of_eq (all_sep heads (fun h => iprop(crd (F := F) c (.kk h) ∗ crd (F := F) c (.kw h)))
        (fun h => iprop(pos (F := F) c (.kk h) 0 ∗ pos (F := F) c (.kw h) 0))).symm)
      isplitl [Hcs]; · iexact Hcs
      iexact Hph
    isplitr; · iexact HR
    iexact HO
  iintro ⟨Hh, HO⟩
  ihave Hh := (Entails.of_eq (heads_in D c)) $$ Hh
  icases Hh with ⟨Hph, ⟨HK, HhK⟩, HV, HhV⟩
  rw [run_bind]
  iapply (plain_run D c) $$ [HK HV HQ Hn Hd]
  · unfold kvq
    isplitl [HK HV HQ]
    · isplitl [HK]; · iexact HK
      isplitl [HV] <;> iassumption
    isplitl [Hn] <;> iassumption
  iintro ⟨H, Hn, Hd⟩
  rw [run_bind]
  iapply (globals_run D c) $$ [H Hn Hd]
  · isplitl [H]; · iexact H
    isplitl [Hn] <;> iassumption
  iintro ⟨H, Hn, Hd⟩
  iapply (block_run D c 3 (by decide) (fun i => blkOf i = 0) (fun i => blkOf i = 0)) $$ [H Hn Hd]
  · isplitl [H]; · iexact H
    isplitl [Hn] <;> iassumption
  iintro ⟨H, Hn, Hd⟩
  iapply Hk
  isplitl [HhK HhV]
  · isplitl [HhK] <;> iassumption
  isplitl [H]; · iexact H
  isplitl [HX HW]
  · isplitl [HX] <;> iassumption
  isplitl [Hn Hd]
  · isplitl [Hn] <;> iassumption
  isplitl [Hm]; · iexact Hm
  isplitl [Hpb Hph]
  · isplitl [Hpb] <;> iassumption
  iexact HO

/-! ## The broadcast's memory -/

/-- The rights of the broadcast's sends. -/
def castToks (c : Dev nD) : sProp 𝕄 := all border fun b => all (kids c) fun k => iprop(tok (F := F) c (.bs k b) 0 ∗ tok (F := F) k (.br b) 0)

theorem border_perm : heads.Perm border := by decide

theorem cast_in : iprop(all (kids c) (castBox (F := F)) ∗ castToks (F := F) c) = all border fun b => all (kids c) (castIn (F := F) c b) := by
  have h : (all (kids c) (castBox (F := F)) : sProp 𝕄) = all border fun b => all (kids c) fun k => some' (F := F) k (castAt b) := by
    rw [← all_swap]
    exact all_congr fun k _ => by unfold castBox; rw [all_perm border_perm]
  rw [h]
  unfold castToks
  rw [← all_sep]
  exact all_congr fun b _ => (all_sep (kids c) _ _).symm

theorem sends_eq (Φ : Fin 8 → Fin 8 → sProp 𝕄) : (all border fun b => all (kids c) fun k => Φ b k) = all (sends c) fun r => Φ r.1 r.2 := by
  unfold sends
  rw [all_flatMap]
  exact all_congr fun b _ => (all_map (kids c) (fun k => (b, k)) (fun r => Φ r.1 r.2)).symm

/-- The shares together are the buffer. -/
theorem cast_back : iprop((all border fun b => all (nonkids c) (leafOf D c b)) ∗ all (sends c) fun r => leafOf D c r.1 r.2) ⊢ castBox (F := F) c := by
  rw [← sends_eq (fun b k => leafOf D c b k), ← all_sep]
  unfold castBox
  rw [all_perm border_perm]
  exact all_mono fun b _ => BI.Entails.trans (Entails.of_eq (leaves_eq D c b).symm) (full_some c (castAt b))

/-! ## The devices other than 0 -/

/-- What the sends of the band need besides, on device 1, and the place in the rounds. -/
def bandIn (c : Dev nD) : sProp 𝕄 :=
  if c.val = 1 then iprop((some' (F := F) (0 : Dev nD) bBn ∗ some' (F := F) (0 : Dev nD) bBd) ∗ (tok (F := F) 1 .sbn 0 ∗ tok (F := F) 1 .sbd 0 ∗ tok (F := F) 0 .rbn 0 ∗ tok (F := F) 0 .rbd 0)
      ∗ pos (F := F) 1 .sbn 0 ∗ pos (F := F) 1 .sbd 0) else iprop(emp)
def bandOut (c : Dev nD) : sProp 𝕄 :=
  if c.val = 1 then iprop(pos (F := F) 1 .sbn 1 ∗ pos (F := F) 1 .sbd 1) else iprop(emp)
/-- What they owe. -/
def bandDue (c : Dev nD) : List (Dev nD × Cell) := if c.val = 1 then [(0, .rbn), (0, .rbd)] else []

theorem band_part (S : S1024x1024.Idx → Prop) (S' : S1024x8.Idx → Prop) (hS : ∀ i, 896 ≤ (i 0).val → S i) (hS' : ∀ i, 896 ≤ (i 0).val → S' i)
    (l : List (Dev nD × Cell)) (hl : ∀ p ∈ l, 0 < lvl p.1 p.2) {Q : PUnit → sProp 𝕄} :
    iprop(Rec D K ∗ on c bPn S (PnF D c) ∗ on c bPd S' (PdF D c) ∗ some' c bSb ∗ bandIn (F := F) c ∗ ow c (bandDue c ++ l))
      ⊢ iprop((iprop(on c bPn S (PnF D c) ∗ (∃ S'', on c bPd S'' (PdF D c)) ∗ some' c bSb ∗ bandOut (F := F) c ∗ ow c l) -∗ Q ⟨⟩)
          -∗ run c (if c.val = 1 then sendBand else pure ⟨⟩) Q) := by
  by_cases h : c.val = 1
  · have h' : c = 1 := Fin.ext h
    subst h'
    unfold bandIn bandOut bandDue
    rw [if_pos h, if_pos h, if_pos h, if_pos h]
    iintro ⟨#HR, Hn, Hd, Hb, ⟨Hbx, Ht, Hp⟩, HO⟩ Hk
    iapply (band_run (D := D) (K := K) S S' hS hS' l hl) $$ [Hn Hd Hb Hbx Ht Hp HO]
    · isplitr; · iexact HR
      isplitl [Hn]; · iexact Hn
      isplitl [Hd]; · iexact Hd
      isplitl [Hb]; · iexact Hb
      isplitl [Hbx]; · iexact Hbx
      isplitl [Ht]; · iexact Ht
      isplitl [Hp]; · iexact Hp
      iexact HO
    iintro ⟨Hn, Hd, Hb, Hp, HO⟩
    iapply Hk
    isplitl [Hn]; · iexact Hn
    isplitl [Hd]; · iexists _; iexact Hd
    isplitl [Hb]; · iexact Hb
    isplitl [Hp] <;> iassumption
  · unfold bandIn bandOut bandDue
    rw [if_neg h, if_neg h, if_neg h, if_neg h]
    iintro ⟨-, Hn, Hd, Hb, He, HO⟩ Hk
    iapply (run_pure c (⟨⟩ : PUnit) Q)
    iapply Hk
    isplitl [Hn]; · iexact Hn
    isplitl [Hd]; · iexists _; iexact Hd
    isplitl [Hb]; · iexact Hb
    isplitl [He]; · iexact He
    iexact HO

theorem part_lvl {l : List (Dev nD × Cell)} (hl : ∀ p ∈ l, 1 < lvl p.1 p.2) : ∀ p ∈ bandDue c ++ l, 1 < lvl p.1 p.2 := by
  intro p hp
  rcases List.mem_append.mp hp with hp | hp
  · unfold bandDue at hp
    split at hp
    · rcases List.mem_cons.mp hp with rfl | hp
      · decide
      · rw [List.mem_singleton.mp hp]; decide
    · exact absurd hp List.not_mem_nil
  · exact hl p hp

theorem cast_lvl : ∀ p ∈ castDue c border, 1 < lvl p.1 p.2 := fun p hp => by have := castDue_lvl p hp; omega

theorem other_run (hc : c.val ≠ 0) {Q : PUnit → sProp 𝕄} :
    iprop(Rec D K ∗ kvq D c ∗ (on c bPn (fun i => blkOf i = 0 ∨ blkOf i = 3) (PnF D c) ∗ on c bPd (fun i => blkOf i = 0 ∨ blkOf i = 3) (PdF D c))
        ∗ (some' c bSg ∗ some' c bSb) ∗ (gatBox (F := F) c ∗ bandIn (F := F) c ∗ all (kids c) (castBox (F := F)))
        ∗ ((tok c .sgn 0 ∗ tok c .sgd 0 ∗ tok 0 (.gn c) 0 ∗ tok 0 (.gd c) 0) ∗ castToks (F := F) c) ∗ (pos c .sgn 0 ∗ pos c .sgd 0)
        ∗ ((all border fun b => crd (F := F) c (.br b)) ∗ (all border fun b => pos (F := F) c (.br b) 0) ∗ all (sends c) fun r => pos (F := F) c (.bs r.2 r.1) 0)
        ∗ some' c bOut ∗ ow c ((0, .gn c) :: (0, .gd c) :: (bandDue c ++ castDue c border)))
      ⊢ iprop((iprop(kvq D c ∗ (some' c bPn ∗ some' c bPd) ∗ (some' c bSg ∗ some' c bSb) ∗ castBox (F := F) c
            ∗ (pos c .sgn 1 ∗ pos c .sgd 1) ∗ bandOut (F := F) c
            ∗ ((all border fun b => pos (F := F) c (.br b) 1) ∗ all (sends c) fun r => pos (F := F) c (.bs r.2 r.1) 1)
            ∗ full c bOut (OutF D c) ∗ ow c []) -∗ Q ⟨⟩)
          -∗ run c (sendParts c >>= fun _ => each (blockFirst (devWord c)) [1, 2] >>= fun _ => if c.val = 0 then rootEnd c else leafEnd c) Q) := by
  unfold sendParts leafEnd
  rw [if_neg hc, if_neg hc]
  iintro ⟨#HR, H, ⟨Hn, Hd⟩, ⟨Hg, Hb⟩, ⟨Hgx, Hbx, Hcx⟩, ⟨Ht, Htc⟩, Hp, ⟨Hcr, Hpb, Hps⟩, Ho, HO⟩ Hk
  rw [run_bind, run_bind]
  iapply (narrowed_run (D := D) (K := K) (c := c) hc (fun i => blkOf i = 0 ∨ blkOf i = 3) (fun i => blkOf i = 0 ∨ blkOf i = 3)
    (fun i hi => Or.inl (Fin.ext (by show (i 0).val / 256 = 0; omega))) (fun i hi => Or.inl (Fin.ext (by show (i 0).val / 256 = 0; omega)))
    (bandDue c ++ castDue c border) (fun p hp => Nat.lt_of_succ_lt (part_lvl cast_lvl p hp))) $$ [Hn Hd Hg Hgx Ht Hp HO]
  · isplitr; · iexact HR
    isplitl [Hn]; · iexact Hn
    isplitl [Hd]; · iexact Hd
    isplitl [Hg]; · iexact Hg
    isplitl [Hgx]; · iexact Hgx
    isplitl [Ht]; · iexact Ht
    isplitl [Hp]; · iexact Hp
    iexact HO
  iintro ⟨Hn, Hd, Hg, Hp, HO⟩
  iapply (band_part (D := D) (K := K) (c := c) (fun i => blkOf i = 0 ∨ blkOf i = 3) (fun i => (blkOf i = 0 ∨ blkOf i = 3) ∧ i ∉ rGd.set)
    (fun i hi => Or.inr (Fin.ext (by have : (i 0).val < 1024 := (i 0).isLt; show (i 0).val / 256 = 3; omega)))
    (fun i hi => ⟨Or.inr (Fin.ext (by have : (i 0).val < 1024 := (i 0).isLt; show (i 0).val / 256 = 3; omega)), fun h => by
      have := (mem_rGd i).mp h; omega⟩)
    (castDue c border) (fun p hp => Nat.lt_of_succ_lt (cast_lvl p hp))) $$ [Hn Hd Hb Hbx HO]
  · isplitr; · iexact HR
    isplitl [Hn]; · iexact Hn
    isplitl [Hd]; · iexact Hd
    isplitl [Hb]; · iexact Hb
    isplitl [Hbx] <;> iassumption
  iintro ⟨Hn, ⟨%S'', Hd⟩, Hb, Hbo, HO⟩
  rw [run_bind]
  iapply (each_run' (blockFirst (devWord c)) [1, 2] (fun _ => iprop(kvq D c ∗ (∃ S, on c bPn S (PnF D c)) ∗ ∃ S, on c bPd S (PdF D c)))
    (fun b rest hs Q => by
      have hb : b ≠ 0 := by
        have hm : ∀ b ∈ ([1, 2] : List (Fin 4)), b ≠ 0 := by decide
        exact hm b (hs.subset (List.mem_cons_self ..))
      iintro ⟨H, ⟨%S, Hn⟩, ⟨%S', Hd⟩⟩ Hk
      iapply (block_run D c b hb S S') $$ [H Hn Hd]
      · isplitl [H]; · iexact H
        isplitl [Hn] <;> iassumption
      iintro ⟨H, Hn, Hd⟩
      iapply Hk
      isplitl [H]; · iexact H
      isplitl [Hn]; · iexists _; iexact Hn
      iexists _; iexact Hd) _) $$ [H Hn Hd]
  · isplitl [H]; · iexact H
    isplitl [Hn]; · iexists _; iexact Hn
    iexists _; iexact Hd
  iintro ⟨H, ⟨%S₁, Hn⟩, ⟨%S₂, Hd⟩⟩
  rw [run_bind]
  ihave Hci := (Entails.of_eq (cast_in (F := F) (c := c))) $$ [Hcx Htc]
  · isplitl [Hcx] <;> iassumption
  iapply (takes_run (D := D) (K := K) (c := c) hc) $$ [Hcr Hpb Hci HO Ho]
  · isplitl [Hcr Hpb Hci]
    · iapply (Entails.of_eq (show all border (takeIn (F := F) c)
        = iprop((all border fun b => crd (F := F) c (.br b)) ∗ (all border fun b => pos (F := F) c (.br b) 0) ∗ all border fun b => all (kids c) (castIn (F := F) c b)) from by
          rw [← all_sep, ← all_sep]; rfl).symm)
      isplitl [Hcr]; · iexact Hcr
      isplitl [Hpb] <;> iassumption
    isplitr; · iexact HR
    isplitl [HO] <;> iassumption
  iintro ⟨Hto, HO, Ho⟩
  ihave Hto := (Entails.of_eq (show all border (takeOut D c)
      = iprop((all border fun b => pos (F := F) c (.br b) 1) ∗ (all border fun b => all (nonkids c) (leafOf D c b)) ∗ all (sends c) fun r => crd (F := F) c (.bs r.2 r.1)) from by
        rw [← sends_eq (fun b k => crd (F := F) c (.bs k b)), ← all_sep, ← all_sep]; rfl)) $$ Hto
  icases Hto with ⟨Hpb, Hl, Hcs⟩
  iapply (sent_run (D := D) (K := K) (c := c)) $$ [Hcs Hps HO]
  · isplitl [Hcs Hps]
    · rw [all_sep]
      isplitl [Hcs] <;> iassumption
    isplitr; · iexact HR
    iexact HO
  rw [all_sep]
  iintro ⟨⟨Hps, Hs⟩, HO⟩
  iapply Hk
  isplitl [H]; · iexact H
  isplitl [Hn Hd]
  · isplitl [Hn]
    · iapply (on_some c bPn); iexact Hn
    iapply (on_some c bPd); iexact Hd
  isplitl [Hg Hb]
  · isplitl [Hg] <;> iassumption
  isplitl [Hl Hs]
  · iapply (cast_back (D := D) (c := c))
    isplitl [Hl] <;> iassumption
  isplitl [Hp]; · iexact Hp
  isplitl [Hbo]; · iexact Hbo
  isplitl [Hpb Hps]
  · isplitl [Hpb] <;> iassumption
  isplitl [Ho] <;> iassumption

/-! ## Device 0 -/

theorem CtxF_at (b : Fin 4) (hb : b = 1 ∨ b = 2) (h : Fin 8) (j : S256x128.Idx) :
    CtxF D ((rBH b h).emb j) = ctxRows (rd (rBH b h) (PnF D 0)) (rd (rBD b h) (PdF D 0)) j := by
  have hm := ((mem_rBH b h _).mp (emb_mem (rBH b h) j)).1
  have hv : (((rBH b h).emb j) 0).val / 256 = b.val := congrArg Fin.val hm
  have hb' : b.val = 1 ∨ b.val = 2 := hb.imp (congrArg Fin.val) (congrArg Fin.val)
  exact (CtxF_mid D _ (by omega) (by omega)).trans (CtxA_at D b h j)

theorem blk_row (b : Fin 8) (j : S128x1024.Idx) : (blkOf ((rBlk b).emb j)).val = b.val / 2 := by
  have := (mem_rBlk b _).mp (emb_mem (rBlk b) j)
  show _ / 256 = _
  omega

theorem root_end {Q : PUnit → sProp 𝕄} :
    iprop(Rec D K ∗ pnd D ∗ some' (0 : Dev nD) bCtx ∗ some' (0 : Dev nD) bOut ∗ full (0 : Dev nD) bWo (D.wo 0) ∗ castBox (F := F) 0
        ∗ all (kids 0) (castBox (F := F)) ∗ castToks (F := F) 0 ∗ all others (cameIn (F := F))
        ∗ ((crd (F := F) (0 : Dev nD) .rbn ∗ crd (F := F) (0 : Dev nD) .rbd) ∗ (pos (F := F) 0 .rbn 0 ∗ pos (F := F) 0 .rbd 0))
        ∗ (all (sends 0) fun r => pos (F := F) 0 (.bs r.2 r.1) 0) ∗ ow 0 (castDue 0 border))
      ⊢ iprop((iprop(pnd D ∗ some' (0 : Dev nD) bCtx ∗ full (0 : Dev nD) bOut (OutF D 0) ∗ full (0 : Dev nD) bWo (D.wo 0) ∗ castBox (F := F) 0
            ∗ all others (cameOut D) ∗ ((pos (F := F) 0 .rbn 1 ∗ pos (F := F) 0 .rbd 1) ∗ some' (0 : Dev nD) bBn ∗ some' (0 : Dev nD) bBd)
            ∗ (all (sends 0) fun r => pos (F := F) 0 (.bs r.2 r.1) 1) ∗ ow 0 []) -∗ Q ⟨⟩)
          -∗ run (0 : Dev nD) (rootEnd 0) Q) := by
  unfold rootEnd
  iintro ⟨#HR, H, Hx, Ho, Hw, Hbx, Hcx, Htc, Hci, ⟨Hbc, Hbp⟩, Hps, HO⟩ Hk
  ihave Hpi := (Entails.of_eq (cast_in (F := F) (c := (0 : Dev nD)))) $$ [Hcx Htc]
  · isplitl [Hcx] <;> iassumption
  ihave Hpi := (Entails.of_eq (show iprop(castBox (F := F) 0 ∗ all border fun b => all (kids 0) (castIn (F := F) 0 b))
      = iprop(all [2, 3] (projIn (F := F)) ∗ all [4, 5] (projIn (F := F)) ∗ all [0, 1, 6, 7] (projIn (F := F))) from by
    rw [← all_append, ← all_append]
    unfold castBox
    rw [all_perm border_perm, ← all_sep]; rfl)) $$ [Hbx Hpi]
  · isplitl [Hbx] <;> iassumption
  icases Hpi with ⟨Hp1, Hp2, Hp3⟩
  rw [run_bind]
  ihave Hx := (some_on (0 : Dev nD) bCtx (S := fun _ => False) (X := CtxF D) (fun _ h => h)) $$ Hx
  iapply (norm_run D 1 (fun _ => False) (CtxF D) (CtxF_at 1 (Or.inl rfl))) $$ [H Hx]
  · isplitl [H] <;> iassumption
  iintro ⟨H, Hx⟩
  ihave Ho := (some_on (0 : Dev nD) bOut (S := fun i => oblk i ∉ [2, 3] ++ [4, 5, 0, 1, 6, 7]) (X := OutF D 0) (fun i => by
      have : ∀ b : Fin 8, b ∈ [2, 3] ++ [4, 5, 0, 1, 6, 7] := by decide
      exact fun h => h (this _))) $$ Ho
  rw [run_bind]
  iapply (projs_run (D := D) (K := K) (fun i => False ∨ blkOf i = 1) [2, 3] [4, 5, 0, 1, 6, 7] (fun b hb j => Or.inr (Fin.ext ((blk_row b j).trans (by
    have hm : ∀ b ∈ ([2, 3] : List (Fin 8)), b.val / 2 = 1 := by decide
    exact hm b hb))))) $$ [Hp1 Hw Hx HO Ho]
  · isplitl [Hp1]; · iexact Hp1
    isplitr; · iexact HR
    isplitl [Hw]; · iexact Hw
    isplitl [Hx]; · iexact Hx
    isplitl [HO]; · iexact HO
    iexact Ho
  iintro ⟨Hq1, Hw, Hx, HO, Ho⟩
  rw [run_bind]
  iapply (norm_run D 2 (fun i => False ∨ blkOf i = 1) (CtxF D) (CtxF_at 2 (Or.inr rfl))) $$ [H Hx]
  · isplitl [H] <;> iassumption
  iintro ⟨H, Hx⟩
  rw [run_bind]
  iapply (projs_run (D := D) (K := K) (fun i => (False ∨ blkOf i = 1) ∨ blkOf i = 2) [4, 5] [0, 1, 6, 7] (fun b hb j => Or.inr (Fin.ext ((blk_row b j).trans (by
    have hm : ∀ b ∈ ([4, 5] : List (Fin 8)), b.val / 2 = 2 := by decide
    exact hm b hb))))) $$ [Hp2 Hw Hx HO Ho]
  · isplitl [Hp2]; · iexact Hp2
    isplitr; · iexact HR
    isplitl [Hw]; · iexact Hw
    isplitl [Hx]; · iexact Hx
    isplitl [HO]; · iexact HO
    iexact Ho
  iintro ⟨Hq2, Hw, Hx, HO, Ho⟩
  rw [run_bind]
  iapply (gathered_run (D := D) (K := K) (castDue 0 [0, 1, 6, 7]) castDue_lvl) $$ [Hci HO]
  · isplitl [Hci]; · iexact Hci
    isplitr; · iexact HR
    iexact HO
  iintro ⟨Hci, HO⟩
  rw [run_bind]
  iapply (banded_run (D := D) (K := K) (castDue 0 [0, 1, 6, 7]) castDue_lvl) $$ [Hbc Hbp HO]
  · isplitl [Hbc]; · iexact Hbc
    isplitl [Hbp]; · iexact Hbp
    isplitr; · iexact HR
    iexact HO
  iintro ⟨Hbp, Hbn, Hbd, HO⟩
  rw [run_bind]
  ihave Hx := (on_mono (0 : Dev nD) bCtx (S := fun i => (False ∨ blkOf i = 1) ∨ blkOf i = 2) (S' := fun i => blkOf i = 1 ∨ blkOf i = 2) (X := CtxF D) (X' := CtxA D)
    (fun i hi => ⟨hi.imp Or.inr id, CtxF_mid D i (by
      have h1 : blkOf i = 1 ∨ blkOf i = 2 := hi
      have h2 : (i 0).val / 256 = 1 ∨ (i 0).val / 256 = 2 := h1.imp (congrArg Fin.val) (congrArg Fin.val)
      omega) (by
      have h1 : blkOf i = 1 ∨ blkOf i = 2 := hi
      have h2 : (i 0).val / 256 = 1 ∨ (i 0).val / 256 = 2 := h1.imp (congrArg Fin.val) (congrArg Fin.val)
      omega)⟩)) $$ Hx
  iapply (norm_run D 0 (fun i => blkOf i = 1 ∨ blkOf i = 2) (CtxA D) (CtxA_at D 0)) $$ [H Hx]
  · isplitl [H] <;> iassumption
  iintro ⟨H, Hx⟩
  rw [run_bind]
  iapply (norm_run D 3 (fun i => (blkOf i = 1 ∨ blkOf i = 2) ∨ blkOf i = 0) (CtxA D) (CtxA_at D 3)) $$ [H Hx]
  · isplitl [H] <;> iassumption
  iintro ⟨H, Hx⟩
  ihave Hx := (on_full (0 : Dev nD) bCtx (S := fun i => ((blkOf i = 1 ∨ blkOf i = 2) ∨ blkOf i = 0) ∨ blkOf i = 3) (X := CtxA D) (X' := CtxA D)
    (fun i => ⟨by
      generalize blkOf i = b
      revert b; decide, rfl⟩)) $$ Hx
  ihave Hci := (Entails.of_eq (show all others (cameOut D) = iprop((all others fun s => iprop(pos (F := F) 0 (.gn s) 1 ∗ pos (F := F) 0 (.gd s) 1))
      ∗ came D others) from all_sep others _ _)) $$ Hci
  icases Hci with ⟨Hcp, Hci⟩
  rw [run_bind]
  iapply (fix_run D) $$ [H Hci Hbn Hbd Hx]
  · isplitl [H]; · iexact H
    isplitl [Hci]; · iexact Hci
    isplitl [Hbn]; · iexact Hbn
    isplitl [Hbd] <;> iassumption
  iintro ⟨H, Hci, Hbn, Hbd, Hx⟩
  ihave Hx := (full_on (0 : Dev nD) bCtx (S := fun _ => True) (X := CtxF D) (X' := CtxF D) (fun _ _ => rfl)) $$ Hx
  rw [run_bind]
  iapply (projs_run (D := D) (K := K) (fun _ => True) [0, 1, 6, 7] [] (fun _ _ _ => trivial)) $$ [Hp3 Hw Hx HO Ho]
  · isplitl [Hp3]; · iexact Hp3
    isplitr; · iexact HR
    isplitl [Hw]; · iexact Hw
    isplitl [Hx]; · iexact Hx
    isplitl [HO]; · iexact HO
    iexact Ho
  iintro ⟨Hq3, Hw, Hx, HO, Ho⟩
  ihave Hq := (Entails.of_eq (show iprop(all [2, 3] (projOut D) ∗ all [4, 5] (projOut D) ∗ all [0, 1, 6, 7] (projOut D))
      = iprop((all border fun b => all (nonkids 0) (leafOf D 0 b)) ∗ all (sends 0) fun r => crd (F := F) (0 : Dev nD) (.bs r.2 r.1)) from by
    rw [← all_append, ← all_append, ← sends_eq (fun b k => crd (F := F) (0 : Dev nD) (.bs k b)), ← all_sep]; rfl)) $$ [Hq1 Hq2 Hq3]
  · isplitl [Hq1]; · iexact Hq1
    isplitl [Hq2] <;> iassumption
  icases Hq with ⟨Hl, Hcs⟩
  iapply (sent_run (D := D) (K := K) (c := (0 : Dev nD))) $$ [Hcs Hps HO]
  · isplitl [Hcs Hps]
    · iapply (Entails.of_eq (all_sep (sends 0) (fun r => crd (F := F) (0 : Dev nD) (.bs r.2 r.1)) (fun r => pos (F := F) 0 (.bs r.2 r.1) 0)).symm)
      isplitl [Hcs]; · iexact Hcs
      iexact Hps
    isplitr; · iexact HR
    iexact HO
  iintro ⟨Hb, HO⟩
  ihave Hb := (Entails.of_eq (all_sep (sends 0) (fun r => pos (F := F) 0 (.bs r.2 r.1) 1) (fun r => leafOf D 0 r.1 r.2))) $$ Hb
  icases Hb with ⟨Hps, Hs⟩
  iapply Hk
  isplitl [H]; · iexact H
  isplitl [Hx]
  · iapply (on_some (0 : Dev nD) bCtx); iexact Hx
  isplitl [Ho]
  · iapply (on_full (0 : Dev nD) bOut (S := fun i => oblk i ∉ ([] : List (Fin 8))) (fun i => ⟨List.not_mem_nil, rfl⟩)); iexact Ho
  isplitl [Hw]; · iexact Hw
  isplitl [Hl Hs]
  · iapply (cast_back (D := D) (c := (0 : Dev nD)))
    isplitl [Hl] <;> iassumption
  isplitl [Hcp Hci]
  · iapply (Entails.of_eq (show all others (cameOut D) = iprop((all others fun s => iprop(pos (F := F) 0 (.gn s) 1 ∗ pos (F := F) 0 (.gd s) 1))
      ∗ came D others) from all_sep others _ _).symm)
    isplitl [Hcp]; · iexact Hcp
    iexact Hci
  isplitl [Hbp Hbn Hbd]
  · isplitl [Hbp]; · iexact Hbp
    isplitl [Hbn]
    · iapply (full_some (0 : Dev nD) bBn); iexact Hbn
    iapply (full_some (0 : Dev nD) bBd); iexact Hbd
  isplitl [Hps] <;> iassumption

end Cert.Proof

end
-- ==== Proof.Same.lean ====
/-
  The printed kernel is the program of `Prog.lean`, on each of the eight devices.
-/
module

public import proofs.«01_k».proof.Proof.Prog
public import proofs.«01_k».proof.Proof.Gen.KernelIdeal.Points
public import proofs.«01_k».proof.Proof.Gen.KernelIdeal.Launch
public import proofs.«01_k».proof.Proof.Gen.KernelIdeal.Skeleton
public import Idealize.ShloMosaic.Lib.Tactic

@[expose] public section

noncomputable section

namespace Cert.Proof

open Cert.KernelIdeal Cert.KernelIdeal.Gen
open Idealize.ShloMosaic Idealize.ShloMosaic.TcCoe
open Idealize.SL Idealize.SL.Sem

variable {F : FTy → Type} [FloatOps F] [Named F]

/-- What a program that first asks which device it runs on does on device `c`. -/
def headDev {α : Type} (c : Dev nD) : P1 F α → P1 F α
  | .op .deviceId k => k c
  | p => p

/-- Eight devices, one by one. -/
theorem eight {p : Dev nD → Prop} (h0 : p 0) (h1 : p 1) (h2 : p 2) (h3 : p 3) (h4 : p 4) (h5 : p 5) (h6 : p 6) (h7 : p 7) :
    ∀ c, p c := by
  intro c; fin_cases c <;> assumption

set_option maxHeartbeats 4000000 in
/-- On device `c` the printed kernel does what `prog c` does. -/
theorem same (c : Dev nD) : headDev c (bodyAt0 (F := F) t0_0) = prog c := by
  unfold bodyAt0
  simp only [cc0_body_eq_skeleton]
  unfold cc0_body_skel
  simp (config := { zeta := false, iota := false, proj := false, eta := false, beta := false }) only [k0_part119_eq_skeleton]
  unfold k0_part119_skel
  simp (config := { zeta := false, iota := false, proj := false, eta := false, beta := false }) only [k0_part93_eq_skeleton]
  unfold k0_part93_skel
  simp (config := { zeta := false, iota := false, proj := false, eta := false, beta := false }) only [Scf.Loop.for, Scf.for_eq]
  revert c
  refine eight ?_ ?_ ?_ ?_ ?_ ?_ ?_ ?_ <;> beta_reduce <;> chain_rfl

end Cert.Proof

end
-- ==== Proof.Whole.lean ====
/-
  A device's whole run, from the memory, the rights, the places and the credits it is given, in lists.
-/
module

public import proofs.«01_k».proof.Proof.Body
public import proofs.«01_k».proof.Proof.Same

@[expose] public section

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ UU ℕ

/-! ## The lists -/

/-- The rights to contribute that device `c` needs: at the barriers, at its copies, -/
def sendTok (c : Dev nD) : List (Dev nD × Cell × Fin 8) := if c.val = 0 then [] else [(c, .sgn, 0), (c, .sgd, 0), (0, .gn c, 0), (0, .gd c, 0)]
def bandTok (c : Dev nD) : List (Dev nD × Cell × Fin 8) := if c.val = 1 then [(1, .sbn, 0), (1, .sbd, 0), (0, .rbn, 0), (0, .rbd, 0)] else []
def castTok (c : Dev nD) : List (Dev nD × Cell × Fin 8) := border.flatMap fun b => (kids c).flatMap fun k => [(c, .bs k b, 0), (k, .br b, 0)]
/-- and at its sends. -/
def tokL (c : Dev nD) : List (Dev nD × Cell × Fin 8) :=
  heads.map (fun e => (e, .bar, c)) ++ (heads.map (fun h => (c, .kk h, 0)) ++ (heads.map (fun h => (c, .kw h, 0)) ++ (sendTok c ++ (bandTok c ++ castTok c))))

/-- The semaphores it waits for: of the gathering, -/
def partPos (c : Dev nD) : List Cell := if c.val = 0 then others.map .gn ++ (others.map .gd ++ [.rbn, .rbd]) else [.sgn, .sgd]
def bandPos (c : Dev nD) : List Cell := if c.val = 1 then [.sbn, .sbd] else []
def castPos (c : Dev nD) : List Cell := if c.val = 0 then [] else border.map .br
/-- and all. -/
def posL (c : Dev nD) : List Cell :=
  .bar :: (heads.map .kk ++ (heads.map .kw ++ (partPos c ++ (bandPos c ++ (castPos c ++ (sends c).map fun r => .bs r.2 r.1)))))

/-- The semaphores others' sends will raise, besides the barrier's. -/
def crL (c : Dev nD) : List Cell := if c.val = 0 then others.map .gn ++ (others.map .gd ++ [.rbn, .rbd]) else border.map .br

/-- What it owes the others. -/
def sendDue (c : Dev nD) : List (Dev nD × Cell) := if c.val = 0 then [] else [(0, .gn c), (0, .gd c)]
def dueL (c : Dev nD) : List (Dev nD × Cell) := heads.map (fun e => (e, .bar)) ++ (sendDue c ++ (bandDue c ++ castDue c border))

abbrev rights (l : List (Dev nD × Cell × Fin 8)) : sProp 𝕄 := all l fun t => tok (F := F) t.1 t.2.1 t.2.2
abbrev places (c : Dev nD) (l : List Cell) (r : ℕ) : sProp 𝕄 := all l fun x => pos (F := F) c x r
abbrev credits (c : Dev nD) (l : List Cell) : sProp 𝕄 := all l fun x => crd (F := F) c x

variable {D : Data F} {c : Dev nD} {K : Dev nD × Cell → ℕ}

theorem all_one {α : Type} (x : α) (Φ : α → sProp 𝕄) : all [x] Φ = Φ x := by rw [all_cons, all_nil, emp_right]
theorem all_two {α : Type} (x y : α) (Φ : α → sProp 𝕄) : all [x, y] Φ = iprop(Φ x ∗ Φ y) := by rw [all_cons, all_one]

theorem castTok_eq : (rights (castTok c) : sProp 𝕄) = castToks c := by
  unfold rights castTok castToks
  rw [all_flatMap]
  exact all_congr fun b _ => by
    rw [all_flatMap]
    exact all_congr fun k _ => all_two _ _ _

theorem tokL_eq : (rights (tokL c) : sProp 𝕄) = iprop((all heads fun e => tok (F := F) e .bar c) ∗ (all heads fun h => tok (F := F) c (.kk h) 0)
    ∗ (all heads fun h => tok (F := F) c (.kw h) 0) ∗ rights (sendTok c) ∗ rights (bandTok c) ∗ castToks c) := by
  rw [← castTok_eq]
  unfold rights tokL
  rw [all_append, all_append, all_append, all_append, all_append, all_map, all_map, all_map]

theorem posL_eq (r : ℕ) : (places c (posL c) r : sProp 𝕄) = iprop(pos (F := F) c .bar r
    ∗ (all heads fun h => iprop(pos (F := F) c (.kk h) r ∗ pos (F := F) c (.kw h) r)) ∗ places c (partPos c) r ∗ places c (bandPos c) r
    ∗ places c (castPos c) r ∗ all (sends c) fun q => pos (F := F) c (.bs q.2 q.1) r) := by
  unfold places posL
  rw [all_cons, all_append, all_append, all_append, all_append, all_append, all_map, all_map, all_map, all_sep]
  refine both ?_ ?_
  · iintro ⟨H0, H1, H2, H3⟩
    isplitl [H0]; · iexact H0
    isplitl [H1 H2]
    · isplitl [H1] <;> iassumption
    iexact H3
  · iintro ⟨H0, ⟨H1, H2⟩, H3⟩
    isplitl [H0]; · iexact H0
    isplitl [H1]; · iexact H1
    isplitl [H2] <;> iassumption

theorem band_take : iprop(bandBox (F := F) c ∗ rights (bandTok c) ∗ places c (bandPos c) 0) ⊢ (bandIn c : sProp 𝕄) := by
  by_cases h : c.val = 1
  · have h' : c = 1 := Fin.ext h
    subst h'
    unfold bandIn bandBox rights bandTok places bandPos
    rw [if_pos h, if_pos h, if_pos h, if_pos h, all_two, all_cons, all_cons, all_two]
  · unfold bandIn bandBox rights bandTok places bandPos
    rw [if_neg h, if_neg h, if_neg h, if_neg h]
    iintro ⟨H, -, -⟩
    iexact H

theorem band_give : (bandOut c : sProp 𝕄) ⊢ places c (bandPos c) 1 := by
  by_cases h : c.val = 1
  · have h' : c = 1 := Fin.ext h
    subst h'
    unfold bandOut places bandPos
    rw [if_pos h, if_pos h, all_two]
  · unfold bandOut places bandPos
    rw [if_neg h, if_neg h]
    exact BI.Entails.refl _

/-! ## The whole run -/

/-- The scratch buffers, at any contents. -/
def scratch (c : Dev nD) : sProp 𝕄 :=
  iprop(some' (F := F) c bQ ∗ some' (F := F) c bPn ∗ some' (F := F) c bPd ∗ some' (F := F) c bSg ∗ some' (F := F) c bSb ∗ some' (F := F) c bGn ∗ some' (F := F) c bGd
    ∗ some' (F := F) c bBn ∗ some' (F := F) c bBd ∗ some' (F := F) c bCtx ∗ some' (F := F) c bCast ∗ some' (F := F) c bK ∗ some' (F := F) c bV)

def bodyIn (D : Data F) (K : Dev nD × Cell → ℕ) (c : Dev nD) : sProp 𝕄 :=
  iprop(Rec D K ∗ scratch (F := F) c ∗ (full c bX (D.x c) ∗ full c bWq (D.wq c) ∗ full c bWo (D.wo c)) ∗ some' (F := F) c bOut ∗ (full c hK (D.k c) ∗ full c hV (D.v c))
    ∗ (cred (tallyAt (cell c .bar) () 8) ∗ credits (F := F) c (crL c)) ∗ rights (F := F) (tokL c) ∗ places (F := F) c (posL c) 0 ∗ ow c (dueL c))
def bodyOut (D : Data F) (c : Dev nD) : sProp 𝕄 :=
  iprop(scratch (F := F) c ∗ (full c bX (D.x c) ∗ full c bWq (D.wq c) ∗ full c bWo (D.wo c)) ∗ full c bOut (OutF D c) ∗ (full c hK (D.k c) ∗ full c hV (D.v c))
    ∗ places (F := F) c (posL c) 1 ∗ ow c [])

theorem send_lvl : ∀ p ∈ sendDue c ++ (bandDue c ++ castDue c border), 1 < lvl p.1 p.2 := by
  intro p hp
  rcases List.mem_append.mp hp with hp | hp
  · unfold sendDue at hp
    split at hp
    · exact absurd hp List.not_mem_nil
    · rcases List.mem_cons.mp hp with rfl | hp
      · exact Nat.lt_succ_self 1
      · rw [List.mem_singleton.mp hp]; exact Nat.lt_succ_self 1
  · exact part_lvl cast_lvl p hp

theorem whole_other (hc : c.val ≠ 0) {Q : PUnit → sProp 𝕄} :
    bodyIn D K c ⊢ iprop((bodyOut D c -∗ Q ⟨⟩) -∗ run c (prog c) Q) := by
  unfold bodyIn prog scratch
  iintro ⟨#HR, ⟨HQ, Hn, Hd, Hg, Hb, Hgn, Hgd, Hbn, Hbd, Hcx, Hcs, HK, HV⟩, ⟨HX, HWq, HWo⟩, Ho, Hh, ⟨Hc8, Hcr⟩, Ht, Hp, HO⟩ Hk
  ihave Ht := (Entails.of_eq (tokL_eq (F := F) (c := c))) $$ Ht
  icases Ht with ⟨Htb, Htk, Htw, Hts, Htd, Htc⟩
  ihave Hp := (Entails.of_eq (posL_eq (F := F) (c := c) 0)) $$ Hp
  icases Hp with ⟨Hp0, Hph, Hpp, Hpd, Hpc, Hps⟩
  ihave Hm := (Entails.of_eq ((bCast_some (F := F) c).trans (mail_other c hc).symm)) $$ Hcs
  rw [run_bind]
  iapply (front_run (D := D) (K := K) (c := c) (sendDue c ++ (bandDue c ++ castDue c border)) send_lvl) $$ [Hh HK HV HQ Hn Hd HX HWq Htb Htk Htw Hm Hc8 Hp0 Hph HO]
  · isplitr; · iexact HR
    isplitl [Hh]; · iexact Hh
    isplitl [HK HV HQ Hn Hd]
    · isplitl [HK]; · iexact HK
      isplitl [HV]; · iexact HV
      isplitl [HQ]; · iexact HQ
      isplitl [Hn] <;> iassumption
    isplitl [HX HWq]
    · isplitl [HX] <;> iassumption
    isplitl [Htb Htk Htw]
    · isplitl [Htk]; · iexact Htk
      isplitl [Htw] <;> iassumption
    isplitl [Hm]; · iexact Hm
    isplitl [Hc8]; · iexact Hc8
    isplitl [Hp0 Hph]
    · isplitl [Hp0] <;> iassumption
    iexact HO
  iintro ⟨Hh, H, ⟨HX, HWq⟩, ⟨Hn, Hd⟩, Hm, ⟨Hp0, Hph⟩, HO⟩
  ihave Hm := (Entails.of_eq (mail_in_other (F := F) c hc)) $$ Hm
  icases Hm with ⟨⟨Hgx, Hbx⟩, Hcx'⟩
  ihave Hbi := (band_take (F := F) (c := c)) $$ [Hbx Htd Hpd]
  · isplitl [Hbx]; · iexact Hbx
    isplitl [Htd] <;> iassumption
  ihave Hts := (Entails.of_eq (show rights (F := F) (sendTok c) = iprop(tok (F := F) c .sgn 0 ∗ tok (F := F) c .sgd 0 ∗ tok (F := F) 0 (.gn c) 0 ∗ tok (F := F) 0 (.gd c) 0) from by
    unfold rights sendTok; rw [if_neg hc, all_cons, all_cons, all_two])) $$ Hts
  ihave Hpp := (Entails.of_eq (show places (F := F) c (partPos c) 0 = iprop(pos (F := F) c .sgn 0 ∗ pos (F := F) c .sgd 0) from by
    unfold places partPos; rw [if_neg hc, all_two])) $$ Hpp
  ihave Hpc := (Entails.of_eq (show places (F := F) c (castPos c) 0 = all border fun b => pos (F := F) c (.br b) 0 from by
    unfold places castPos; rw [if_neg hc, all_map])) $$ Hpc
  ihave Hcr := (Entails.of_eq (show credits (F := F) c (crL c) = all border fun b => crd (F := F) c (.br b) from by
    unfold credits crL; rw [if_neg hc, all_map])) $$ Hcr
  ihave HO := (Entails.of_eq (show ow (F := F) c (sendDue c ++ (bandDue c ++ castDue c border)) = ow c ((0, .gn c) :: (0, .gd c) :: (bandDue c ++ castDue c border)) from by
    unfold sendDue; rw [if_neg hc]; rfl)) $$ HO
  iapply (other_run (D := D) (K := K) (c := c) hc) $$ [H Hn Hd Hg Hb Hgx Hbi Hcx' Hts Htc Hpp Hcr Hpc Hps Ho HO]
  · isplitr; · iexact HR
    isplitl [H]; · iexact H
    isplitl [Hn Hd]
    · isplitl [Hn] <;> iassumption
    isplitl [Hg Hb]
    · isplitl [Hg] <;> iassumption
    isplitl [Hgx Hbi Hcx']
    · isplitl [Hgx]; · iexact Hgx
      isplitl [Hbi] <;> iassumption
    isplitl [Hts Htc]
    · isplitl [Hts] <;> iassumption
    isplitl [Hpp]; · iexact Hpp
    isplitl [Hcr Hpc Hps]
    · isplitl [Hcr]; · iexact Hcr
      isplitl [Hpc] <;> iassumption
    isplitl [Ho] <;> iassumption
  iintro ⟨H, ⟨Hn, Hd⟩, ⟨Hg, Hb⟩, Hcs, Hpp, Hbo, ⟨Hpc, Hps⟩, Ho, HO⟩
  iapply Hk
  unfold bodyOut scratch
  unfold kvq
  icases H with ⟨HK, HV, HQ⟩
  isplitl [HK HV HQ Hn Hd Hg Hb Hcs Hgn Hgd Hbn Hbd Hcx]
  · isplitl [HQ]; · iapply (full_some c bQ); iexact HQ
    isplitl [Hn]; · iexact Hn
    isplitl [Hd]; · iexact Hd
    isplitl [Hg]; · iexact Hg
    isplitl [Hb]; · iexact Hb
    isplitl [Hgn]; · iexact Hgn
    isplitl [Hgd]; · iexact Hgd
    isplitl [Hbn]; · iexact Hbn
    isplitl [Hbd]; · iexact Hbd
    isplitl [Hcx]; · iexact Hcx
    isplitl [Hcs]; · iapply (Entails.of_eq (bCast_some (F := F) c).symm); iexact Hcs
    isplitl [HK]; · iapply (full_some c bK); iexact HK
    iapply (full_some c bV); iexact HV
  isplitl [HX HWq HWo]
  · isplitl [HX]; · iexact HX
    isplitl [HWq] <;> iassumption
  isplitl [Ho]; · iexact Ho
  isplitl [Hh]; · iexact Hh
  isplitl [Hp0 Hph Hpp Hbo Hpc Hps]
  · iapply (Entails.of_eq (posL_eq (F := F) (c := c) 1).symm)
    isplitl [Hp0]; · iexact Hp0
    isplitl [Hph]; · iexact Hph
    isplitl [Hpp]
    · iapply (Entails.of_eq (show places (F := F) c (partPos c) 1 = iprop(pos (F := F) c .sgn 1 ∗ pos (F := F) c .sgd 1) from by
        unfold places partPos; rw [if_neg hc, all_two]).symm)
      iexact Hpp
    isplitl [Hbo]
    · iapply (band_give (F := F) (c := c)); iexact Hbo
    isplitl [Hpc]
    · iapply (Entails.of_eq (show places (F := F) c (castPos c) 1 = all border fun b => pos (F := F) c (.br b) 1 from by
        unfold places castPos; rw [if_neg hc, all_map]).symm)
      iexact Hpc
    iexact Hps
  iexact HO

theorem blocks_root {Q : PUnit → sProp 𝕄} :
    iprop(kvq D 0 ∗ on (0 : Dev nD) bPn (fun i => blkOf i = 0 ∨ blkOf i = 3) (PnF D 0) ∗ on (0 : Dev nD) bPd (fun i => blkOf i = 0 ∨ blkOf i = 3) (PdF D 0))
      ⊢ iprop((iprop(kvq D 0 ∗ pnd D) -∗ Q ⟨⟩) -∗ run (0 : Dev nD) (each (blockFirst (devWord 0)) [1, 2]) Q) := by
  iintro ⟨H, Hn, Hd⟩ Hk
  iapply (each_run' (blockFirst (devWord 0)) [1, 2] (fun rest => iprop(kvq D 0 ∗ on (0 : Dev nD) bPn (fun i => blkOf i ∉ rest) (PnF D 0) ∗ on (0 : Dev nD) bPd (fun i => blkOf i ∉ rest) (PdF D 0)))
    (fun b rest hs Q => by
      have hb : b ≠ 0 := by
        have hm : ∀ b ∈ ([1, 2] : List (Fin 4)), b ≠ 0 := by decide
        exact hm b (hs.subset (List.mem_cons_self ..))
      have hr : ∀ b' : Fin 4, b' ∉ rest → b' ∉ b :: rest ∨ b' = b := fun b' h => by
        by_cases e : b' = b
        · exact Or.inr e
        · exact Or.inl fun h' => (List.mem_cons.mp h').elim e h
      iintro ⟨H, Hn, Hd⟩ Hk
      iapply (block_run D 0 b hb (fun i => blkOf i ∉ b :: rest) (fun i => blkOf i ∉ b :: rest)) $$ [H Hn Hd]
      · isplitl [H]; · iexact H
        isplitl [Hn] <;> iassumption
      iintro ⟨H, Hn, Hd⟩
      iapply Hk
      isplitl [H]; · iexact H
      isplitl [Hn]
      · iapply (on_mono (0 : Dev nD) bPn (S := fun i => blkOf i ∉ b :: rest ∨ blkOf i = b) (S' := fun i => blkOf i ∉ rest) (X := PnF D 0) (X' := PnF D 0)
          (fun i hi => ⟨hr _ hi, rfl⟩))
        iexact Hn
      iapply (on_mono (0 : Dev nD) bPd (S := fun i => blkOf i ∉ b :: rest ∨ blkOf i = b) (S' := fun i => blkOf i ∉ rest) (X := PdF D 0) (X' := PdF D 0)
        (fun i hi => ⟨hr _ hi, rfl⟩))
      iexact Hd) _) $$ [H Hn Hd]
  · have h03 : ∀ b : Fin 4, b ∉ ([1, 2] : List (Fin 4)) → b = 0 ∨ b = 3 := by decide
    isplitl [H]; · iexact H
    isplitl [Hn]
    · iapply (on_mono (0 : Dev nD) bPn (S := fun i => blkOf i = 0 ∨ blkOf i = 3) (S' := fun i => blkOf i ∉ [1, 2]) (X := PnF D 0) (X' := PnF D 0)
        (fun i hi => ⟨h03 _ hi, rfl⟩))
      iexact Hn
    iapply (on_mono (0 : Dev nD) bPd (S := fun i => blkOf i = 0 ∨ blkOf i = 3) (S' := fun i => blkOf i ∉ [1, 2]) (X := PdF D 0) (X' := PdF D 0)
      (fun i hi => ⟨h03 _ hi, rfl⟩))
    iexact Hd
  iintro ⟨H, Hn, Hd⟩
  iapply Hk
  isplitl [H]; · iexact H
  unfold pnd
  isplitl [Hn]
  · iapply (on_full (0 : Dev nD) bPn (S := fun i => blkOf i ∉ []) (fun i => ⟨List.not_mem_nil, rfl⟩)); iexact Hn
  iapply (on_full (0 : Dev nD) bPd (S := fun i => blkOf i ∉ []) (fun i => ⟨List.not_mem_nil, rfl⟩)); iexact Hd

theorem gat_eq : iprop(some' (F := F) (0 : Dev nD) bGn ∗ some' (F := F) (0 : Dev nD) bGd) = iprop(gatBox (F := F) 0 ∗ all others (gatBox (F := F))) := by
  rw [bGn_some, bGd_some, ← all_sep]; rfl

theorem gat_back : iprop(gatBox (F := F) 0 ∗ all others (cameOut D))
    ⊢ iprop((all others fun s => iprop(pos (F := F) 0 (.gn s) 1 ∗ pos (F := F) 0 (.gd s) 1)) ∗ some' (F := F) (0 : Dev nD) bGn ∗ some' (F := F) (0 : Dev nD) bGd) := by
  have h : all others (cameOut D) ⊢ iprop((all others fun s => iprop(pos (F := F) 0 (.gn s) 1 ∗ pos (F := F) 0 (.gd s) 1)) ∗ all others (gatBox (F := F))) := by
    rw [← all_sep]
    exact all_mono fun s _ => BI.sep_mono (BI.Entails.refl _) (BI.sep_mono (full_some _ _) (full_some _ _))
  iintro ⟨H0, H⟩
  ihave H := h $$ H
  icases H with ⟨Hp, H⟩
  isplitl [Hp]; · iexact Hp
  iapply (Entails.of_eq (gat_eq (F := F)).symm)
  isplitl [H0] <;> iassumption

theorem partPos_root (r : ℕ) : (places (F := F) (0 : Dev nD) (partPos 0) r : sProp 𝕄) = iprop((all others fun s => iprop(pos (F := F) 0 (.gn s) r ∗ pos (F := F) 0 (.gd s) r))
    ∗ pos (F := F) 0 .rbn r ∗ pos (F := F) 0 .rbd r) := by
  have e : partPos 0 = others.map .gn ++ (others.map .gd ++ [.rbn, .rbd]) := rfl
  rw [all_sep, e]
  unfold places
  rw [all_append, all_append, all_map, all_map, all_two]
  refine both ?_ ?_
  · iintro ⟨H0, H1, H2⟩
    isplitl [H0 H1]
    · isplitl [H0] <;> iassumption
    iexact H2
  · iintro ⟨⟨H0, H1⟩, H2⟩
    isplitl [H0]; · iexact H0
    isplitl [H1] <;> iassumption

theorem crL_root : (credits (F := F) (0 : Dev nD) (crL 0) : sProp 𝕄) = iprop((all others fun s => iprop(crd (F := F) (0 : Dev nD) (.gn s) ∗ crd (F := F) (0 : Dev nD) (.gd s)))
    ∗ crd (F := F) (0 : Dev nD) .rbn ∗ crd (F := F) (0 : Dev nD) .rbd) := by
  have e : crL 0 = others.map .gn ++ (others.map .gd ++ [.rbn, .rbd]) := rfl
  rw [all_sep, e]
  unfold credits
  rw [all_append, all_append, all_map, all_map, all_two]
  refine both ?_ ?_
  · iintro ⟨H0, H1, H2⟩
    isplitl [H0 H1]
    · isplitl [H0] <;> iassumption
    iexact H2
  · iintro ⟨⟨H0, H1⟩, H2⟩
    isplitl [H0]; · iexact H0
    isplitl [H1] <;> iassumption

theorem whole_root {Q : PUnit → sProp 𝕄} :
    bodyIn D K 0 ⊢ iprop((bodyOut D 0 -∗ Q ⟨⟩) -∗ run (0 : Dev nD) (prog 0) Q) := by
  unfold bodyIn prog scratch
  iintro ⟨#HR, ⟨HQ, Hn, Hd, Hg, Hb, Hgn, Hgd, Hbn, Hbd, Hcx, Hcs, HK, HV⟩, ⟨HX, HWq, HWo⟩, Ho, Hh, ⟨Hc8, Hcr⟩, Ht, Hp, HO⟩ Hk
  ihave Ht := (Entails.of_eq (tokL_eq (F := F) (c := (0 : Dev nD)))) $$ Ht
  icases Ht with ⟨Htb, Htk, Htw, -, -, Htc⟩
  ihave Hp := (Entails.of_eq (posL_eq (F := F) (c := (0 : Dev nD)) 0)) $$ Hp
  icases Hp with ⟨Hp0, Hph, Hpp, Hpd, Hpc, Hps⟩
  ihave Hga := (Entails.of_eq (gat_eq (F := F))) $$ [Hgn Hgd]
  · isplitl [Hgn] <;> iassumption
  icases Hga with ⟨Hg0, Hga⟩
  ihave Hm := (Entails.of_eq (mail_root (F := F)).symm) $$ [Hga Hbn Hbd]
  · isplitl [Hga]; · iexact Hga
    isplitl [Hbn] <;> iassumption
  rw [run_bind]
  iapply (front_run (D := D) (K := K) (c := (0 : Dev nD)) (sendDue 0 ++ (bandDue 0 ++ castDue 0 border)) send_lvl) $$ [Hh HK HV HQ Hn Hd HX HWq Htb Htk Htw Hm Hc8 Hp0 Hph HO]
  · isplitr; · iexact HR
    isplitl [Hh]; · iexact Hh
    isplitl [HK HV HQ Hn Hd]
    · isplitl [HK]; · iexact HK
      isplitl [HV]; · iexact HV
      isplitl [HQ]; · iexact HQ
      isplitl [Hn] <;> iassumption
    isplitl [HX HWq]
    · isplitl [HX] <;> iassumption
    isplitl [Htb Htk Htw]
    · isplitl [Htk]; · iexact Htk
      isplitl [Htw] <;> iassumption
    isplitl [Hm]; · iexact Hm
    isplitl [Hc8]; · iexact Hc8
    isplitl [Hp0 Hph]
    · isplitl [Hp0] <;> iassumption
    iexact HO
  iintro ⟨Hh, H, ⟨HX, HWq⟩, ⟨Hn, Hd⟩, Hm, ⟨Hp0, Hph⟩, HO⟩
  ihave Hm := (Entails.of_eq (mail_in_root (F := F))) $$ Hm
  ihave Hpp := (Entails.of_eq (partPos_root (F := F) 0)) $$ Hpp
  icases Hpp with ⟨Hpg, Hpb⟩
  ihave Hcr := (Entails.of_eq (crL_root (F := F))) $$ Hcr
  icases Hcr with ⟨Hcg, Hcb⟩
  rw [show sendParts (F := F) 0 = ((pure (⟨⟩ : PUnit) : P1 F PUnit) >>= fun _ => pure (⟨⟩ : PUnit)) from rfl, run_bind, run_bind]
  iapply (run_pure (0 : Dev nD) (⟨⟩ : PUnit) _)
  iapply (run_pure (0 : Dev nD) (⟨⟩ : PUnit) _)
  rw [run_bind]
  iapply (blocks_root (D := D)) $$ [H Hn Hd]
  · isplitl [H]; · iexact H
    isplitl [Hn] <;> iassumption
  iintro ⟨H, Hnd⟩
  rw [show (if (0 : Dev nD).val = 0 then rootEnd (F := F) 0 else leafEnd 0) = rootEnd 0 from rfl]
  ihave Hcs := (Entails.of_eq (bCast_some (F := F) 0)) $$ Hcs
  iapply (root_end (D := D) (K := K)) $$ [Hnd Hcx Ho HWo Hcs Hm Htc Hcg Hpg Hcb Hpb Hps HO]
  · isplitr; · iexact HR
    isplitl [Hnd]; · iexact Hnd
    isplitl [Hcx]; · iexact Hcx
    isplitl [Ho]; · iexact Ho
    isplitl [HWo]; · iexact HWo
    isplitl [Hcs]; · iexact Hcs
    isplitl [Hm]; · iexact Hm
    isplitl [Htc]; · iexact Htc
    isplitl [Hcg Hpg]
    · iapply (Entails.of_eq (all_sep others (fun s => iprop(crd (F := F) (0 : Dev nD) (.gn s) ∗ crd (F := F) (0 : Dev nD) (.gd s)))
        (fun s => iprop(pos (F := F) 0 (.gn s) 0 ∗ pos (F := F) 0 (.gd s) 0))).symm)
      isplitl [Hcg]; · iexact Hcg
      iexact Hpg
    isplitl [Hcb Hpb]
    · isplitl [Hcb] <;> iassumption
    isplitl [Hps]; · iexact Hps
    iexact HO
  iintro ⟨Hnd, Hcx, Ho, HWo, Hcs, Hga, ⟨Hpb, Hbn, Hbd⟩, Hps, HO⟩
  ihave Hga := (gat_back (D := D)) $$ [Hg0 Hga]
  · isplitl [Hg0] <;> iassumption
  icases Hga with ⟨Hpg, Hgn, Hgd⟩
  iapply Hk
  unfold bodyOut scratch
  unfold kvq
  icases H with ⟨HK, HV, HQ⟩
  unfold pnd
  icases Hnd with ⟨Hn, Hd⟩
  isplitl [HK HV HQ Hn Hd Hg Hb Hcs Hgn Hgd Hbn Hbd Hcx]
  · isplitl [HQ]; · iapply (full_some (0 : Dev nD) bQ); iexact HQ
    isplitl [Hn]; · iapply (full_some (0 : Dev nD) bPn); iexact Hn
    isplitl [Hd]; · iapply (full_some (0 : Dev nD) bPd); iexact Hd
    isplitl [Hg]; · iexact Hg
    isplitl [Hb]; · iexact Hb
    isplitl [Hgn]; · iexact Hgn
    isplitl [Hgd]; · iexact Hgd
    isplitl [Hbn]; · iexact Hbn
    isplitl [Hbd]; · iexact Hbd
    isplitl [Hcx]; · iexact Hcx
    isplitl [Hcs]; · iapply (Entails.of_eq (bCast_some (F := F) 0).symm); iexact Hcs
    isplitl [HK]; · iapply (full_some (0 : Dev nD) bK); iexact HK
    iapply (full_some (0 : Dev nD) bV); iexact HV
  isplitl [HX HWq HWo]
  · isplitl [HX]; · iexact HX
    isplitl [HWq] <;> iassumption
  isplitl [Ho]; · iexact Ho
  isplitl [Hh]; · iexact Hh
  isplitl [Hp0 Hph Hpg Hpb Hpd Hpc Hps]
  · iapply (Entails.of_eq (posL_eq (F := F) (c := (0 : Dev nD)) 1).symm)
    isplitl [Hp0]; · iexact Hp0
    isplitl [Hph]; · iexact Hph
    isplitl [Hpg Hpb]
    · iapply (Entails.of_eq (partPos_root (F := F) 1).symm)
      isplitl [Hpg] <;> iassumption
    isplitl [Hpd]; · iexact Hpd
    isplitl [Hpc]; · iexact Hpc
    iexact Hps
  iexact HO

theorem whole_run {Q : PUnit → sProp 𝕄} : bodyIn D K c ⊢ iprop((bodyOut D c -∗ Q ⟨⟩) -∗ run c (prog c) Q) := by
  by_cases hc : c.val = 0
  · obtain rfl : c = 0 := Fin.ext hc
    exact whole_root
  · exact whole_other hc

/-- Asking for the device is answered by it. -/
theorem asked_run {α : Type} (p : P1 F α) (Q : α → sProp 𝕄) : run c (headDev c p) Q ⊢ run c p Q := by
  unfold headDev
  split
  · exact Entails.of_eq (wp_deviceId 𝒱₀ (c : Thread nD τ) none Set.univ).symm
  · exact BI.Entails.refl _

/-- The printed kernel's whole run. -/
theorem printed_run {Q : PUnit → sProp 𝕄} : bodyIn D K c ⊢ iprop((bodyOut D c -∗ Q ⟨⟩) -∗ run c (bodyAt0 (F := F) t0_0) Q) := by
  iintro H Hk
  iapply (asked_run (c := c) (bodyAt0 (F := F) t0_0) Q)
  rw [same c]
  iapply (whole_run (D := D) (K := K) (c := c)) $$ H
  iexact Hk

end Cert.Proof

end
-- ==== Proof.Deal.lean ====
/-
  How the rights, the places and the credits of the protocol are dealt to the devices at the start, and
  how the semaphores come back at the end.
-/
module

public import proofs.«01_k».proof.Proof.Whole

@[expose] public section

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

/-! ## Lists and sets -/

omit [FloatOps F] [Named F] in
theorem set_insert {n : Type} [DecidableEq n] {i : n} {s : Finset n} (h : i ∉ s) {Φ : n → sProp 𝕄} : bigSep (insert i s) Φ = iprop(Φ i ∗ bigSep s Φ) :=
  bigSep_insert h
omit [FloatOps F] [Named F] in
theorem set_split {n : Type} [DecidableEq n] {s t : Finset n} (h : t ⊆ s) (Φ : n → sProp 𝕄) : bigSep s Φ = iprop(bigSep t Φ ∗ bigSep (s \ t) Φ) :=
  bigSep_sdiff_split h

omit [FloatOps F] [Named F] in
/-- All entries of a list without repetition are its set. -/
theorem all_set {n : Type} [DecidableEq n] {l : List n} (hl : l.Nodup) (Φ : n → sProp 𝕄) : all l Φ = bigSep l.toFinset Φ := by
  induction l with
  | nil => rw [all_nil, List.toFinset_nil]; exact bigSep_empty.symm
  | cons x l ih =>
    obtain ⟨hx, hl⟩ := List.nodup_cons.mp hl
    rw [all_cons, List.toFinset_cons, set_insert (fun h => hx (List.mem_toFinset.mp h)), ih hl]

omit [FloatOps F] [Named F] in
/-- What everything in a set gives, with something that stays. -/
theorem set_with {n : Type} [DecidableEq n] {S : Finset n} {R : sProp 𝕄} [BI.Persistent R] {Φ Ψ : n → sProp 𝕄}
    (h : ∀ i ∈ S, iprop(R ∗ Φ i) ⊢ Ψ i) : iprop(R ∗ bigSep S Φ) ⊢ bigSep S Ψ := by
  refine BI.Entails.trans (BI.sep_mono (BI.bigSep_of_persistent S R) (BI.Entails.refl _)) ?_
  exact BI.Entails.trans (Entails.of_eq (bigSep_sep' S (fun _ => R) Φ).symm) (bigSep_mono h)

/-! ## Places -/

theorem posL_nodup : ∀ c : Dev nD, (posL c).Nodup := by decide +kernel

theorem rest_none : ∀ (c : Dev nD) (x : Cell), x ∉ posL c → dut c x = ∅ := by decide +kernel

/-- The semaphores device `c` never waits for. -/
def idle (c : Dev nD) : Finset Cell := Finset.univ \ (posL c).toFinset

omit [FloatOps F] [Named F] in
theorem places_split (c : Dev nD) : (bigSep Finset.univ fun x : Cell => (pos c x 0 : sProp 𝕄))
    = iprop(places c (posL c) 0 ∗ bigSep (idle c) fun x => pos c x 0) := by
  rw [places, all_set (posL_nodup c)]
  exact set_split (Finset.subset_univ _) _

variable {D : Data F} {K : Dev nD × Cell → ℕ}

theorem close_done (c : Dev nD) (x : Cell) : iprop(Rec D K ∗ pos (F := F) c x 1) ⊢ |={Set.univ}=> (semVal (cell c x) 0 : sProp 𝕄) := by
  iintro ⟨#HR, H⟩
  iapply (Rounds.cell_close ER (Rd D) (Set.mem_univ (K (c, x))) (fun h => h) (R := 1) (duties_later D (cell c x)))
  isplitr
  · iapply (rec_inv c x); iexact HR
  iexact H

theorem close_idle (c : Dev nD) (x : Cell) (hx : dut c x = ∅) : iprop(Rec D K ∗ pos (F := F) c x 0) ⊢ |={Set.univ}=> (semVal (cell c x) 0 : sProp 𝕄) := by
  iintro ⟨#HR, H⟩
  iapply (Rounds.cell_close ER (Rd D) (Set.mem_univ (K (c, x))) (fun h => h) (R := 0) (fun r _ => by
    cases r with
    | zero => rw [duties_cell, hx]
    | succ r => exact duties_later D (cell c x) (r + 1) (Nat.le_add_left 1 r)))
  isplitr
  · iapply (rec_inv c x); iexact HR
  iexact H

/-- The semaphores at the end. -/
def zeros (c : Dev nD) : sProp 𝕄 := bigSep Finset.univ fun x : Cell => (semVal (cell c x) 0 : sProp 𝕄)

theorem close_all (c : Dev nD) : iprop(Rec D K ∗ places (F := F) c (posL c) 1 ∗ bigSep (idle c) fun x => pos (F := F) c x 0)
    ⊢ |={Set.univ}=> (zeros c : sProp 𝕄) := by
  have h1 : iprop(Rec D K ∗ bigSep (posL c).toFinset fun x => pos (F := F) c x 1) ⊢ |={Set.univ}=> (bigSep (posL c).toFinset fun x => semVal (cell c x) 0 : sProp 𝕄) :=
    (set_with fun x _ => close_done c x).trans (bigSep_fupd _ _)
  have h2 : iprop(Rec D K ∗ bigSep (idle c) fun x => pos (F := F) c x 0) ⊢ |={Set.univ}=> (bigSep (idle c) fun x => semVal (cell c x) 0 : sProp 𝕄) :=
    (set_with fun x hx => close_idle c x (rest_none c x fun h => (Finset.mem_sdiff.mp hx).2 (List.mem_toFinset.mpr h))).trans (bigSep_fupd _ _)
  rw [places, all_set (posL_nodup c)]
  iintro ⟨#HR, H, H'⟩
  imod h1 $$ [H] with H
  · isplitr; · iexact HR
    iexact H
  imod h2 $$ [H'] with H'
  · isplitr; · iexact HR
    iexact H'
  imodintro
  unfold zeros
  iapply (Entails.of_eq (set_split (Finset.subset_univ (posL c).toFinset) _).symm)
  isplitl [H]; · iexact H
  iexact H'

/-! ## The kernel's own semaphores, and the barrier's -/

abbrev Own : Type := {x : Cell // x ≠ .bar}
abbrev osem : Own → SemLoc sig := fun x => x.1.loc

theorem dma_scoped : ∀ q : DmaSem sig, (SemLoc.dma q : SemLoc sig).isScoped .tc = true := by decide

theorem own_dma (x : Cell) (hx : x ≠ .bar) : ∃ q, x.loc = .dma q := by
  cases x <;> first | exact absurd rfl hx | exact ⟨_, rfl⟩

theorem stage_num : ∀ (w : Fin cfg0.W) (s : Fin (cfg0.spec w).nbuf), numOf (.dma ((cfg0.spec w).sem s)) < 4 := by decide

theorem num_ge (x : Cell) : 4 ≤ x.num := by cases x <;> simp only [Cell.num] <;> omega

theorem ownSemFacts : Pipeline.OwnSemFacts cfg0.spec osem where
  isScoped x := by obtain ⟨q, h⟩ := own_dma x.1 x.2; show x.1.loc.isScoped .tc = true; rw [h]; exact dma_scoped q
  inj x y h := Subtype.ext (loc_inj h)
  disj x w s h := by
    have h1 := stage_num w s
    rw [← h, num_loc] at h1
    exact absurd (num_ge x.1) (Nat.not_le.mpr h1)

omit [FloatOps F] [Named F] in
theorem unscoped_eq (c : Dev nD) : (unscopedSems0 c : sProp 𝕄) = semVal (cell c .bar) 0 := by
  unfold unscopedSems0; rw [bigSep_eq_bigSepL_of_eq [SemLoc.reg barS] (by decide) (by decide)]; rfl

omit [FloatOps F] [Named F] in
theorem zeros_eq (c : Dev nD) :
    (zeros c : sProp 𝕄) = iprop(unscopedSems0 c ∗ Pipeline.ownSems0 (Ix := Unit) (Name := ℕ) (U := UU) (Lvl := ℕ) (Val := Elt F) (τ := τ) osem c) := by
  unfold zeros
  rw [unscoped_eq, bigSep_univ_at _ Cell.bar]
  unfold Pipeline.ownSems0
  have h : Finset.univ.erase Cell.bar = (Finset.univ : Finset Own).map (Function.Embedding.subtype _) := by
    ext x
    rw [Finset.mem_erase, Finset.mem_map]
    constructor
    · rintro ⟨hx, -⟩
      exact ⟨⟨x, hx⟩, Finset.mem_univ _, rfl⟩
    · rintro ⟨y, -, rfl⟩
      exact ⟨y.2, Finset.mem_univ _⟩
  rw [h, bigSep_map]
  rfl

/-! ## The rights -/

theorem cell_inj : Function.Injective fun p : Dev nD × Cell => cell p.1 p.2 := by
  rintro ⟨c, x⟩ ⟨c', x'⟩ h
  have h1 : c = c' := congrArg (fun g : GSem nD τ sig => g.1.1) h
  have h2 : x.loc = x'.loc := congrArg Prod.snd h
  rw [h1, loc_inj h2]

def cells : Finset (GSem nD τ sig) := Finset.univ.map ⟨_, cell_inj⟩

abbrev rightOf (t : Dev nD × Cell × Fin 8) : GSem nD τ sig × ℕ × Fin 8 := (cell t.1 t.2.1, 0, t.2.2)
theorem rightOf_inj : Function.Injective rightOf := by
  rintro ⟨c, x, d⟩ ⟨c', x', d'⟩ h
  have h1 : (c, x) = (c', x') := cell_inj (congrArg Prod.fst h)
  have h2 : d = d' := congrArg (fun g : GSem nD τ sig × ℕ × Fin 8 => g.2.2) h
  cases h1; rw [h2]

/-- A right's number. -/
def codeOf (t : Dev nD × Cell × Fin 8) : ℕ := (t.1.val * 256 + t.2.1.num) * 8 + t.2.2.val

theorem codes_nodup : ((heads.flatMap fun c : Dev nD => tokL c).map codeOf).Nodup := by decide +kernel

def rightSet : Finset (GSem nD τ sig × ℕ × Fin 8) := ((heads.flatMap fun c : Dev nD => tokL c).map rightOf).toFinset

omit [FloatOps F] [Named F] in
theorem rightSet_eq : (bigSep rightSet fun t => (dutyTok ER t.1 t.2.1 t.2.2 : sProp 𝕄)) = bigSep Finset.univ fun c : Dev nD => rights (tokL c) := by
  have hn : ((heads.flatMap fun c : Dev nD => tokL c).map rightOf).Nodup := (List.Nodup.of_map _ codes_nodup).map rightOf_inj
  unfold rightSet
  rw [← all_set hn, all_map, all_flatMap, ← all_univ (l := (heads : List (Dev nD))) (by decide) (by decide)]

/-! ## The credits -/

theorem dues_count (l : List (Dev nD × Cell)) (c : Dev nD) (x : Cell) : dues l (cell c x) () = l.count (c, x) * amt x := by
  induction l with
  | nil => rw [List.count_nil, Nat.zero_mul]; rfl
  | cons p l ih =>
    unfold dues
    rw [Pi.add_apply, Finsupp.add_apply, tallyAt_apply, ih]
    by_cases h : p = (c, x)
    · subst h
      rw [if_pos ⟨rfl, rfl⟩, List.count_cons_self, Nat.succ_mul]
    · rw [if_neg (fun h' => h (cell_inj h'.1).symm), List.count_cons_of_ne h, Nat.add_zero]

theorem count_bar : ∀ c : Dev nD, (∑ d : Dev nD, (dueL d).count (c, Cell.bar)) = 8 := by decide +kernel
theorem count_one : ∀ c : Dev nD, ∀ x ∈ crL c, (∑ d : Dev nD, (dueL d).count (c, x)) = 1 := by decide +kernel
theorem crL_nodup : ∀ c : Dev nD, (Cell.bar :: crL c).Nodup := by decide +kernel

/-- What all owe at the start. -/
def O₀ (c : Dev nD) : CellTallies nD τ sig Unit := dues (dueL c)

theorem launch_count (c : Dev nD) (x : Cell) (n : ℕ) (hn : (∑ d : Dev nD, (dueL d).count (c, x)) * amt x = n) :
    tallyOn (cell c x) (launchCredit (Pipeline.owing O₀) 0 (cell c x)) = (tallyAt (cell c x) () n : CellTallies nD τ sig Unit) := by
  unfold tallyAt; refine congrArg _ (Finsupp.ext fun u => ?_); cases u
  rw [Pipeline.launchCredit_owing, Finsupp.single_eq_same, ← hn, Finset.sum_mul]
  exact Finset.sum_congr rfl fun d _ => dues_count (dueL d) c x

omit [FloatOps F] [Named F] in
theorem creds (c : Dev nD) : (Pipeline.launchCred O₀ c : sProp 𝕄) ⊢ iprop(cred (tallyAt (cell c .bar) () 8) ∗ credits c (crL c)) := by
  have h (Φ : SemLoc sig → sProp 𝕄) : bigSep Finset.univ Φ ⊢ all (Cell.bar :: crL c) fun x => Φ x.loc := by
    rw [all_set (crL_nodup c) (fun x => Φ x.loc),
      show (bigSep (Cell.bar :: crL c).toFinset fun x => Φ x.loc) = bigSep ((Cell.bar :: crL c).toFinset.map ⟨Cell.loc, fun _ _ => loc_inj⟩) Φ from (bigSep_map (s := (Cell.bar :: crL c).toFinset) ⟨Cell.loc, fun _ _ => loc_inj⟩ (Φ := Φ)).symm,
      set_split (Finset.subset_univ ((Cell.bar :: crL c).toFinset.map ⟨Cell.loc, fun _ _ => loc_inj⟩)) Φ]
    iintro ⟨H, -⟩
    iexact H
  unfold Pipeline.launchCred
  refine BI.Entails.trans (h _) ?_
  rw [all_cons]
  refine BI.sep_mono (Entails.of_eq (congrArg cred (launch_count c .bar 8 (by rw [count_bar]; rfl)))) ?_
  exact all_mono fun x hx => Entails.of_eq (congrArg cred (launch_count c x (amt x) (by rw [count_one c x hx, Nat.one_mul])))

end Cert.Proof

end
-- ==== Proof.Launch.lean ====
/-
  The launch: the kernel's run on the eight devices, from any memory.
-/
module

public import proofs.«01_k».proof.Proof.Deal
public import Idealize.ShloMosaic.Lib.Pipeline.Quiescent

@[expose] public section

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

/-- The memory at the start. -/
def s₀ : MemSt nD τ sig (Elt F) := ⟨m, fun _ => 0, ρ⟩

/-- The arguments, as the kernel finds them. -/
def argsOf : Data F where
  x c := (win0_0.blk t0_0).view.read (Elt F) (m ((c : Thread nD τ).loc main_arg0))
  wq c := (win0_1.blk t0_0).view.read (Elt F) (m ((c : Thread nD τ).loc main_arg1))
  wo c := (win0_2.blk t0_0).view.read (Elt F) (m ((c : Thread nD τ).loc main_arg4))
  k c := m ((c : Thread nD τ).loc main_arg2)
  v c := m ((c : Thread nD τ).loc main_arg3)

/-- The keys' and values' arrays on device `c`. -/
def keys (c : Dev nD) : sProp 𝕄 :=
  iprop((((c : Thread nD τ).loc main_arg2) ↦{fullShare} m ((c : Thread nD τ).loc main_arg2))
    ∗ (((c : Thread nD τ).loc main_arg3) ↦{fullShare} m ((c : Thread nD τ).loc main_arg3)))

/-- What the protocol's setting up gives a device. -/
def given (c : Dev nD) : sProp 𝕄 :=
  iprop(∃ K : Dev nD × Cell → ℕ, ((bigSep Finset.univ fun p : Dev nD × Cell => cellInv ER (Rd (argsOf m)) (K p) (cell p.1 p.2))
      ∗ bigSep Finset.univ fun p : Dev nD × Cell => reached ER (cell p.1 p.2) 0)
    ∗ (bigSep Finset.univ fun x : Cell => pos (F := F) c x 0) ∗ rights (tokL c))

def start (c : Dev nD) : sProp 𝕄 :=
  iprop(given m c ∗ levAts L lv ∗ (cred (tallyAt (cell c .bar) () 8) ∗ credits (F := F) c (crL c)) ∗ keys m c)

def Φ₀ (c : Dev nD) : sProp 𝕄 := iprop(start m c ∗ scratch c)
def Φ₁ (c : Dev nD) : sProp 𝕄 := iprop(zeros c ∗ keys m c ∗ scratch c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => (argsOf m).x c
    | ⟨1, _⟩ => (argsOf m).wq c
    | ⟨2, _⟩ => (argsOf m).wo c
    | ⟨3, _⟩ => OutF (argsOf m) c
  Φ t := match t with
    | ⟨0, _⟩ => Φ₀ m c
    | ⟨_ + 1, _⟩ => Φ₁ m c
  q _ := fullShare
  owed t := match t with
    | ⟨0, _⟩ => O₀ c
    | ⟨_ + 1, _⟩ => 0

/-- A staging buffer whole at contents `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def pre (c : Dev nD) : sProp 𝕄 :=
  iprop(Φ₀ m c ∗ (dats m ρ 0 c).owesAt () t0_0.castSucc
    ∗ (∃ d, stg c cc0_stg0_0 ((dats m ρ 0 c).before (0 : Fin 4) t0_0 d))
    ∗ (∃ d, stg c cc0_stg1_0 ((dats m ρ 0 c).before (1 : Fin 4) t0_0 d))
    ∗ (∃ d, stg c cc0_stg2_0 ((dats m ρ 0 c).before (2 : Fin 4) t0_0 d))
    ∗ (∃ d, stg c cc0_stg3_0 ((dats m ρ 0 c).before (3 : Fin 4) t0_0 d)))
def post (c : Dev nD) : sProp 𝕄 :=
  iprop(Φ₁ m c ∗ (dats m ρ 0 c).owesAt () t0_0.succ
    ∗ stg c cc0_stg0_0 ((argsOf m).x c) ∗ stg c cc0_stg1_0 ((argsOf m).wq c) ∗ stg c cc0_stg2_0 ((argsOf m).wo c)
    ∗ stg c cc0_stg3_0 (OutF (argsOf m) c))

theorem body_run (c : Dev nD) : pre m ρ c ⊢ run c (bodyAt0 (F := F) t0_0) (fun _ => post m ρ c) := by
  unfold pre Φ₀ start given keys
  iintro ⟨⟨⟨⟨%K, ⟨#HI, #HR⟩, Hp, Ht⟩, #Hlev, Hcr, Hk, Hv⟩, Hs⟩, Ho, ⟨%d0, %g0, %h0, HX⟩, ⟨%d1, %g1, %h1, HWq⟩, ⟨%d2, %g2, %h2, HWo⟩, ⟨%d3, %g3, %h3, HO⟩⟩
  have e0 : g0 = (argsOf m).x c := by rw [h0]; unfold Dat.before; rw [if_pos (fetch0_0 t0_0)]; rfl
  have e1 : g1 = (argsOf m).wq c := by rw [h1]; unfold Dat.before; rw [if_pos (fetch0_1 t0_0)]; rfl
  have e2 : g2 = (argsOf m).wo c := by rw [h2]; unfold Dat.before; rw [if_pos (fetch0_2 t0_0)]; rfl
  subst e0 e1 e2
  unfold Dat.owesAt Pipeline.owesWithin
  icases Ho with ⟨%W, %hW, Ho⟩
  rw [show (dats m ρ 0 c).owed t0_0.castSucc = dues (dueL c) from rfl]
  ihave Hp := (Entails.of_eq (places_split (F := F) c)) $$ Hp
  icases Hp with ⟨Hp, Hi⟩
  have hfu : run c (bodyAt0 (F := F) t0_0) (fun _ => iprop(|={Set.univ}=> post m ρ c)) ⊢ run c (bodyAt0 (F := F) t0_0) (fun _ => post m ρ c) := wp_fupd _ _ _ _ _
  iapply hfu
  have hR : iprop(levAts L lv ∗ (bigSep Finset.univ fun p : Dev nD × Cell => cellInv ER (Rd (argsOf m)) (K p) (cell p.1 p.2))
      ∗ bigSep Finset.univ fun p : Dev nD × Cell => reached ER (cell p.1 p.2) 0) ⊢ Rec (argsOf m) K := BI.Entails.refl _
  iapply (printed_run (D := argsOf m) (K := K) (c := c)) $$ [Hp Ht Hcr Hk Hv Hs Ho HX HWq HWo HO]
  · unfold bodyIn
    isplitr
    · iapply hR
      isplitr; · iexact Hlev
      isplitr; · iexact HI
      iexact HR
    isplitl [Hs]; · iexact Hs
    isplitl [HX HWq HWo]
    · isplitl [HX]
      · iapply (Entails.of_eq (owns_whole (c : Thread nD τ) cc0_stg0_0 fullShare ((argsOf m).x c)).symm); iexact HX
      isplitl [HWq]
      · iapply (Entails.of_eq (owns_whole (c : Thread nD τ) cc0_stg1_0 fullShare ((argsOf m).wq c)).symm); iexact HWq
      iapply (Entails.of_eq (owns_whole (c : Thread nD τ) cc0_stg2_0 fullShare ((argsOf m).wo c)).symm); iexact HWo
    isplitl [HO]
    · unfold some'; iexists g3
      iapply (Entails.of_eq (owns_whole (c : Thread nD τ) cc0_stg3_0 fullShare g3).symm); iexact HO
    isplitl [Hk Hv]
    · isplitl [Hk]
      · iapply (Entails.of_eq (owns_whole (c : Thread nD τ) main_arg2 fullShare ((argsOf m).k c)).symm); iexact Hk
      iapply (Entails.of_eq (owns_whole (c : Thread nD τ) main_arg3 fullShare ((argsOf m).v c)).symm); iexact Hv
    isplitl [Hcr]; · iexact Hcr
    isplitl [Ht]; · iexact Ht
    isplitl [Hp]; · iexact Hp
    unfold ow; iexists W; iexact Ho
  unfold bodyOut
  iintro ⟨Hs, ⟨HX, HWq, HWo⟩, HO, ⟨Hk, Hv⟩, Hp, Ho⟩
  imod (close_all (D := argsOf m) (K := K) c) $$ [Hp Hi] with Hz
  · isplitr
    · iapply hR
      isplitr; · iexact Hlev
      isplitr; · iexact HI
      iexact HR
    isplitl [Hp] <;> iassumption
  imodintro
  unfold post Φ₁ keys Dat.owesAt Pipeline.owesWithin
  rw [show (dats m ρ 0 c).owed t0_0.succ = dues [] from rfl]
  isplitl [Hz Hk Hv Hs]
  · isplitl [Hz]; · iexact Hz
    isplitl [Hk Hv]
    · isplitl [Hk]
      · iapply (Entails.of_eq (owns_whole (c : Thread nD τ) main_arg2 fullShare ((argsOf m).k c))); iexact Hk
      iapply (Entails.of_eq (owns_whole (c : Thread nD τ) main_arg3 fullShare ((argsOf m).v c))); iexact Hv
    iexact Hs
  isplitl [Ho]
  · unfold ow
    icases Ho with ⟨%W', Ho⟩
    iexists W'
    isplitr; · ipureintro; exact fun _ _ => Or.inl trivial
    iexact Ho
  isplitl [HX]
  · iapply (Entails.of_eq (owns_whole_eq (c : Thread nD τ) cc0_stg0_0 fullShare ((argsOf m).x c))); iexact HX
  isplitl [HWq]
  · iapply (Entails.of_eq (owns_whole_eq (c : Thread nD τ) cc0_stg1_0 fullShare ((argsOf m).wq c))); iexact HWq
  isplitl [HWo]
  · iapply (Entails.of_eq (owns_whole_eq (c : Thread nD τ) cc0_stg2_0 fullShare ((argsOf m).wo c))); iexact HWo
  iapply (Entails.of_eq (owns_whole_eq (c : Thread nD τ) cc0_stg3_0 fullShare (OutF (argsOf m) c))); iexact HO

set_option maxRecDepth 4000 in
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  exact body_run m ρ c

/-! ## The setting up -/

theorem share_eq (c : Dev nD) (w : Fin cfg0.W) : (dats m ρ 0 c).share w = fullShare := by unfold Dat.share; split <;> rfl

def u₀ : UU := (initOf (Pipeline.cells cfgs cellOf_inj) (Pipeline.launchToks cfgs cellOf_inj), initOf cells rightSet)

/-- What the protocol's element gives a device. -/
def G (c : Dev nD) : sProp 𝕄 :=
  iprop((bigSep Finset.univ fun x : Cell => roundState ER (Rd (argsOf m)) (cell c x) 0)
    ∗ ((bigSep Finset.univ fun x : Cell => pos (F := F) c x 0) ∗ bigSep Finset.univ fun x : Cell => reached ER (cell c x) 0) ∗ rights (tokL c))

theorem fund_cells : BI.own (ER (initOf cells rightSet)) ⊢ (|==> bigSep Finset.univ (G m) : sProp 𝕄) := by
  have hX (Φ : GSem nD τ sig → sProp 𝕄) : bigSep cells Φ = bigSep Finset.univ fun c : Dev nD => bigSep Finset.univ fun x : Cell => Φ (cell c x) := by
    unfold cells; rw [bigSep_map, bigSep_univ_prod]; rfl
  iintro HX
  imod (Rounds.fund ER (Rd (argsOf m)) cells rightSet) $$ HX with ⟨Hst, Hr, Hat, Htok⟩
  imodintro
  ihave Hst := (Entails.of_eq (hX fun g => roundState ER (Rd (argsOf m)) g 0)) $$ Hst
  ihave Hat := (Entails.of_eq (hX fun g => atPos ER g 0 ∅ 0)) $$ Hat
  ihave Hr := (Entails.of_eq (hX fun g => reached ER g 0)) $$ Hr
  ihave Htok := (Entails.of_eq (rightSet_eq (F := F))) $$ Htok
  unfold G; simp only [bigSep_sep']
  isplitl [Hst]; · iexact Hst
  isplitl [Hat Hr]
  · isplitl [Hat] <;> iassumption
  iexact Htok

theorem alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun x : Cell => iprop(∃ κ : ℕ, cellInv ER (Rd (argsOf m)) κ (cell c x)))
          ∗ ((bigSep Finset.univ fun x : Cell => pos (F := F) c x 0) ∗ bigSep Finset.univ fun x : Cell => reached ER (cell c x) 0) ∗ rights (tokL c)) := by
  unfold G
  iintro ⟨Hos, Hus, Hst, Hat, Htok⟩
  ihave Hv := (Entails.of_eq (zeros_eq (F := F) c).symm) $$ [Hos Hus]
  · isplitl [Hus] <;> iassumption
  unfold zeros
  imod (show iprop((bigSep Finset.univ fun x : Cell => semVal (cell c x) 0) ∗ bigSep Finset.univ fun x : Cell => roundState ER (Rd (argsOf m)) (cell c x) 0)
      ⊢ (|={Set.univ}=> bigSep Finset.univ fun x : Cell => iprop(∃ κ : ℕ, cellInv ER (Rd (argsOf m)) κ (cell c x)) : sProp 𝕄) from by
        rw [← bigSep_sep']
        exact (bigSep_mono fun x _ => (Rounds.body_intro ER (Rd (argsOf m)) (cell c x)).trans inv_alloc).trans (bigSep_fupd _ _)) $$ [Hv Hst] with Hinv
  · isplitl [Hv] <;> iassumption
  imodintro
  isplitl [Hinv]; · iexact Hinv
  isplitl [Hat]; · iexact Hat
  iexact Htok

def records (K : Dev nD × Cell → ℕ) : sProp 𝕄 :=
  iprop((bigSep Finset.univ fun p : Dev nD × Cell => cellInv ER (Rd (argsOf m)) (K p) (cell p.1 p.2))
    ∗ bigSep Finset.univ fun p : Dev nD × Cell => reached ER (cell p.1 p.2) 0)

instance records_persistent (K : Dev nD × Cell → ℕ) : BI.Persistent (records m K) := by unfold records; infer_instance

theorem given_intro (K : Dev nD × Cell → ℕ) (c : Dev nD) :
    iprop(records m K ∗ (bigSep Finset.univ fun x : Cell => pos (F := F) c x 0) ∗ rights (tokL c)) ⊢ given m c := by
  unfold given records
  iintro ⟨H, Hp, Ht⟩
  iexists K
  isplitl [H]; · iexact H
  isplitl [Hp] <;> iassumption

theorem regroup :
    (bigSep Finset.univ fun c : Dev nD => iprop((bigSep Finset.univ fun x : Cell => iprop(∃ κ : ℕ, cellInv ER (Rd (argsOf m)) κ (cell c x)))
          ∗ ((bigSep Finset.univ fun x : Cell => pos (F := F) c x 0) ∗ bigSep Finset.univ fun x : Cell => reached ER (cell c x) 0) ∗ rights (tokL c)) : sProp 𝕄)
      ⊢ bigSep Finset.univ (given m) := by
  rw [bigSep_sep', bigSep_sep', bigSep_sep',
    ← bigSep_univ_prod (fun p : Dev nD × Cell => iprop(∃ κ : ℕ, cellInv ER (Rd (argsOf m)) κ (cell p.1 p.2))),
    ← bigSep_univ_prod (fun p : Dev nD × Cell => (reached ER (cell p.1 p.2) 0 : sProp 𝕄))]
  iintro ⟨HI, ⟨Hat, #HR⟩, Htok⟩
  ihave HK := (BI.bigSep_exists_pi Finset.univ (fun (p : Dev nD × Cell) (κ : ℕ) => (cellInv ER (Rd (argsOf m)) κ (cell p.1 p.2) : sProp 𝕄))) $$ HI
  icases HK with ⟨%K, #HI⟩
  iapply (set_with (R := records m K) fun c _ => given_intro m K c)
  isplitr
  · unfold records; isplitl; · iexact HI
    iexact HR
  · rw [bigSep_sep']
    isplitl [Hat] <;> iassumption

theorem given_all : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (given m) :=
  ((bigSep_mono fun c _ => alloc m c).trans (bigSep_fupd _ _)).trans (BI.fupd_mono (regroup m))

/-! ## The sides -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ given m c)
      ⊢ |={Set.univ}=> iprop(start m c ∗ emp) := by
  rw [Pipeline.unscopedRestP_none, unscopedRest0_eq]
  iintro ⟨Hk, Hlev, Hcr, -, HG⟩
  ihave Hcr := (creds (F := F) c) $$ Hcr
  imodintro
  unfold start keys
  isplitl
  · isplitl [HG]; · iexact HG
    isplitl [Hlev]; · iexact Hlev
    isplitl [Hcr]; · iexact Hcr
    iexact Hk
  · iempintro

theorem scratch_eq (c : Dev nD) : (Pipeline.scopedRest cfg0.spec c : sProp 𝕄) = scratch c := by
  rw [scopedRest0_eq]
  unfold scratch some' full
  simp only [owns_whole]
  rfl

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scratch_eq]
  unfold Φ₀
  iintro ⟨Hs, -, Hr⟩
  isplitl [Hs] <;> iassumption

theorem phi1_exit (c : Dev nD) :
    (dats m ρ 0 c).Φ (Fin.last cfg0.N)
      ⊢ iprop(iprop(unscopedSems0 c ∗ keys m c) ∗ Pipeline.ownSems0 osem c ∗ Pipeline.scopedRest cfg0.spec c) := by
  rw [show (dats m ρ 0 c).Φ (Fin.last cfg0.N) = Φ₁ m c from rfl, scratch_eq]
  unfold Φ₁
  rw [zeros_eq]
  iintro ⟨⟨Hu, Ho⟩, Hk, Hs⟩
  isplitl [Hu Hk]
  · isplitl [Hu] <;> iassumption
  isplitl [Ho] <;> iassumption

theorem due_lvl (c : Dev nD) : ∀ p ∈ dueL c, 0 < lvl p.1 p.2 := fun p hp => by
  rcases List.mem_append.mp hp with h | h
  · obtain ⟨e, -, rfl⟩ := List.mem_map.mp h
    exact Nat.one_pos
  · exact Nat.lt_of_succ_lt (send_lvl p h)

theorem stage_lv (c : Dev nD) (w : Fin cfg0.W) (s : Fin (cfg0.spec w).nbuf) : lv ((c : Thread nD τ), .dma ((cfg0.spec w).sem s)) () ≤ 0 := by
  have h : cellAt (.dma ((cfg0.spec w).sem s)) = none := by
    unfold cellAt
    rw [dif_neg]
    rintro ⟨x, hx⟩
    have h1 := stage_num w s
    rw [← hx, num_loc] at h1
    exact absurd (num_ge x) (Nat.not_le.mpr h1)
  unfold lv
  rw [h]

theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact may_wait c _ 0 (stage_lv c w s) (dueL c) (due_lvl c)
    · exact may_wait c _ 0 (stage_lv c w s) [] (fun _ h => absurd h List.not_mem_nil)

/-! ## The run -/

def finalA (c : Dev nD) (w : Fin cfg0.W) : Buf (Elt F) ((cfg0.win w).arr.view.loc (c : Thread nD τ)) := (dats m ρ 0 c).arrAt w cfg0.N

/-- What the end holds: the pipeline's arrays at what they come to, the keys and values as they were. -/
def ends (r : PUnit × MemSt nD τ sig (Elt F)) : Prop :=
  (∀ c : Dev nD, ∀ w : Fin cfg0.W, r.2.mem ((cfg0.win w).arr.view.loc (c : Thread nD τ)) = finalA m ρ c w)
  ∧ ∀ c : Dev nD, r.2.mem ((c : Thread nD τ).loc main_arg2) = m ((c : Thread nD τ).loc main_arg2)
    ∧ r.2.mem ((c : Thread nD τ).loc main_arg3) = m ((c : Thread nD τ).loc main_arg3)

set_option maxRecDepth 8000 in
/-- From any memory whose counters are zero, every run of the eight devices ends so, with every counter at zero. -/
theorem run_main : θ_run defs (onTc (τ := τ) (main (F := F))) (s₀ m ρ) (fun r => ends m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := given m) (u₀ := u₀)
    (hu₀ := by
      unfold u₀
      iintro Hu
      ihave H := (ownU_pair _ _) $$ Hu
      icases H with ⟨HP, HX⟩
      imod (fund_cells m) $$ HX with HG
      imodintro
      isplitl [HP] <;> iassumption)
    (hglob := given_all m)
    (hA := fun _ _ => rfl) (hpf := fun _ k => k.elim0)
    (X := start m) (Y := fun c => iprop(unscopedSems0 c ∗ keys m c)) (Z := fun _ => iprop(emp))
    (hX := start_intro m ρ) (hin := phi0_intro m ρ) (hout := phi1_exit m ρ)
    (QY := fun c s => (∀ sm : SemLoc sig, sm.isScoped .tc = false → s.sem ((c.tc : Thread nD τ), sm) = 0)
      ∧ s.mem ((c : Thread nD τ).loc main_arg2) = m ((c : Thread nD τ).loc main_arg2)
      ∧ s.mem ((c : Thread nD τ).loc main_arg3) = m ((c : Thread nD τ).loc main_arg3))
    (hY := fun c s' => by
      unfold keys
      iintro ⟨⟨Hu, Hk, Hv⟩, -, HSI⟩
      icombine HSI Hk gives %hk
      icombine HSI Hv gives %hv
      ihave %hs := (tcUnscoped_read c s') $$ [Hu HSI]
      · isplitl [Hu] <;> iassumption
      imodintro
      isplitr
      · ipureintro
        exact ⟨hs, Buf.eq_of_forall_mem_univ hk, Buf.eq_of_forall_mem_univ hv⟩
      iexact HSI)
    (hQ := fun _ h hs => ⟨⟨fun c w => (h c).1 w, fun c => (h c).2.2.2⟩, sem_eq_zero hs fun c => (h c).2.2.1⟩)

end Cert.Proof

end
-- ==== Proof.Frames.lean ====
/-
  The kernel's frames: every run ends, its arguments unchanged and every semaphore at zero.
-/
module

public import proofs.«01_k».proof.Defs
public import proofs.«01_k».proof.Proof.Launch

@[expose] public section

noncomputable section

namespace Cert.Proof

open Cert.KernelIdeal Cert.KernelIdeal.Gen
open Idealize.ShloMosaic Idealize.ShloMosaic.TcCoe
open Idealize.SL.Sem

section

variable {F : FTy → Type} [FloatOps F] [Named F]
variable (m : (ℓ : Loc nD τ sig) → Buf (Elt F) ℓ) (ρ : Dev nD → PrngReg)

/-- Every argument is at the end what it was. -/
theorem args_kept {r : PUnit × MemSt nD τ sig (Elt F)} (h : ends m ρ r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨(h.1 c 0).trans ((dats m ρ 0 c).arrAt_in 0 rfl _), (h.1 c 1).trans ((dats m ρ 0 c).arrAt_in 1 rfl _), (h.2 c).1, (h.2 c).2,
    (h.1 c 2).trans ((dats m ρ 0 c).arrAt_in 2 rfl _)⟩

/-- The run, with what it leaves of the arguments and the semaphores. -/
theorem run_args : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨args_kept m ρ h.1, h.2⟩) (run_main m ρ)

end

/-- The kernel at the extended reals. -/
theorem frame_ideal : Cert.quiescent_KernelIdeal := fun m g _ => run_args m g

end Cert.Proof

end
-- ==== Proof.Bitwise.lean ====
/-
  The kernel as printed: it is the idealized one with the literal for the named constant.
-/
module

public import proofs.«01_k».proof.Proof.Frames
public import proofs.«01_k».proof.Proof.Gen.Kernel

@[expose] public section

noncomputable section

namespace Cert.Proof

open Idealize.ShloMosaic Idealize.ShloMosaic.TcCoe
open Idealize.SL.Sem
open Cert.Kernel.Gen

/-- The named constant read as its literal. -/
abbrev literal : Named Bits where
  named _ _ φ bits := Scalar.ofBits φ bits

attribute [local instance] literal

/-- The two programs' bodies are one, -/
theorem body_same : Cert.KernelIdeal.cc0_body (F := Bits) = Cert.Kernel.cc0_body (F := Bits) := rfl

/-- their tables of bodies, -/
theorem table_same : Cert.KernelIdeal.defs₀ (F := Bits) = Cert.Kernel.defs₀ (F := Bits) := by
  unfold Cert.KernelIdeal.defs₀ Cert.Kernel.defs₀
  refine congrArg Defs.onTc ?_
  funext a b
  match a, b with
  | 0, (t, s) => dsimp only; rw [body_same]

/-- and with the pipelines. -/
theorem defs_same : Cert.KernelIdeal.defs (F := Bits) = Cert.Kernel.defs (F := Bits) := by
  unfold Cert.KernelIdeal.defs Cert.Kernel.defs
  rw [table_same]; rfl

/-- The kernel as printed. -/
theorem frame_kernel : Cert.quiescent_Kernel := fun m g _ => by
  have h := run_args (F := Bits) m g
  rw [defs_same] at h
  exact h

end Cert.Proof

end
-- ==== Proof.Reads.lean ====
/-
  The kernel's arithmetic over the extended reals, read at an index.
-/
module

public import proofs.«01_k».proof.Proof.Fns
public import Idealize.ShloMosaic.Lib.Pointwise

@[expose] public section

noncomputable section

namespace Cert.Proof

open Cert.KernelIdeal Cert.KernelIdeal.Gen
open Idealize.ShloMosaic Idealize.ShloMosaic.TcCoe

/-- The scale of the queries. -/
def scale : EReal := Ideal.ofBits .f32 0x3DB504F3#32

theorem qRows_at (x : Vec Ideal S1x256x1024 .f32) (w : Vec Ideal S1024x1024 .f32) (r : Fin 256) (l : Fin 1024) :
    qRows x w (ix2 r l) = (∑ k : Fin 1024, x (ix3 0 r k) * w (ix2 k l)) * scale := by
  pointwise [qRows, scale]

theorem expW_at (b : FVec Ideal S256x512 .f32) (q : Vec Ideal S256x128 .bf16) (k : Vec Ideal S1x512x128 .f32) (r : Fin 256) (l : Fin 512) :
    expW b q k (ix2 r l) = Ideal.exp ((∑ d : Fin 128, q (ix2 r d) * k (ix3 0 l d)) + b (ix2 r l)) := by
  pointwise [expW, cutW]

theorem expH_at (b : FVec Ideal S256x128 .f32) (q : Vec Ideal S256x128 .bf16) (k : Vec Ideal S1x128x128 .f32) (r : Fin 256) (l : Fin 128) :
    expH b q k (ix2 r l) = Ideal.exp ((∑ d : Fin 128, q (ix2 r d) * k (ix3 0 l d)) + b (ix2 r l)) := by
  pointwise [expH, cutH]

theorem expG_at (q : Vec Ideal S32x128 .bf16) (k : Vec Ideal S1x512x128 .f32) (r : Fin 32) (l : Fin 512) :
    expG q k (ix2 r l) = Ideal.exp (∑ d : Fin 128, q (ix2 r d) * k (ix3 0 l d)) := by
  pointwise [expG, cutW]

theorem denW_at (w : FVec Ideal S256x512 .f32) (r : Fin 256) (z : Fin 1) : denW w (ix2 r z) = ∑ l : Fin 512, w (ix2 r l) := by
  pointwise [denW]

theorem denH_at (w : FVec Ideal S256x128 .f32) (r : Fin 256) (z : Fin 1) : denH w (ix2 r z) = ∑ l : Fin 128, w (ix2 r l) := by
  pointwise [denH]

theorem denG_at (w : FVec Ideal S32x512 .f32) (d : Vec Ideal S32x1 .f32) (r : Fin 32) (z : Fin 1) :
    denG w d (ix2 r z) = d (ix2 r z) + ∑ l : Fin 512, w (ix2 r l) := by
  pointwise [denG]

theorem numW_at (w : FVec Ideal S256x512 .f32) (v : Vec Ideal S1x512x128 .f32) (r : Fin 256) (d : Fin 128) :
    numW w v (ix2 r d) = ∑ l : Fin 512, w (ix2 r l) * v (ix3 0 l d) := by
  pointwise [numW, cutW]

theorem numH_at (w : FVec Ideal S256x128 .f32) (v : Vec Ideal S1x128x128 .f32) (r : Fin 256) (d : Fin 128) :
    numH w v (ix2 r d) = ∑ l : Fin 128, w (ix2 r l) * v (ix3 0 l d) := by
  pointwise [numH, cutH]

theorem numG_at (w : FVec Ideal S32x512 .f32) (v : Vec Ideal S1x512x128 .f32) (n : Vec Ideal S32x128 .f32) (r : Fin 32) (d : Fin 128) :
    numG w v n (ix2 r d) = n (ix2 r d) + ∑ l : Fin 512, w (ix2 r l) * v (ix3 0 l d) := by
  pointwise [numG, cutW]

theorem keepN_eq (n : FVec Ideal S256x128 .f32) : keepN n = n := by
  funext j; pointwise [keepN]
theorem keepD_eq (d : FVec Ideal S256x1 .f32) : keepD d = d := by
  funext j; pointwise [keepD]
theorem narrowG_eq (n : Vec Ideal S32x1024 .f32) : narrowG n = n := by
  funext j; pointwise [narrowG]
theorem narrowB_eq (n : Vec Ideal S128x1024 .f32) : narrowB n = n := by
  funext j; pointwise [narrowB]

theorem ctxRows_at (n : Vec Ideal S256x128 .f32) (d : Vec Ideal S256x1 .f32) (r : Fin 256) (e : Fin 128) :
    ctxRows n d (ix2 r e) = Ideal.div (n (ix2 r e)) (d (ix2 r 0)) := by
  pointwise [ctxRows]

theorem projRows_at (x : Vec Ideal S128x1024 .bf16) (w : Vec Ideal S1024x1024 .f32) (r : Fin 128) (e : Fin 1024) :
    projRows x w (ix2 r e) = ∑ l : Fin 1024, x (ix2 r l) * w (ix2 l e) := by
  pointwise [projRows]

theorem outRows_at (o : FVec Ideal S128x1024 .f32) (z : Fin 1) (r : Fin 128) (e : Fin 1024) : outRows o (ix3 z r e) = o (ix2 r e) := by
  pointwise [outRows]

theorem recvRows_at (o : FVec Ideal S128x1024 .f32) (z : Fin 1) (r : Fin 128) (e : Fin 1024) :
    recvRows (castRows o) (ix3 z r e) = o (ix2 r e) := by
  pointwise [recvRows, castRows]

theorem addGn_at (n : FVec Ideal S32x1024 .f32) (g : Vec Ideal S32x1024 .bf16) (r : Fin 32) (l : Fin 1024) :
    addGn n (shapeCast S1x32x1024 g (by decide)) (ix2 r l) = n (ix2 r l) + g (ix2 r l) := by
  pointwise [addGn]

theorem addGd_at (n : FVec Ideal S32x8 .f32) (g : Vec Ideal S32x8 .f32) (r : Fin 32) (l : Fin 8) :
    addGd n (shapeCast S1x32x8 g (by decide)) (ix2 r l) = n (ix2 r l) + g (ix2 r l) := by
  pointwise [addGd]

theorem ctxG_at (n : FVec Ideal S32x1024 .f32) (d : FVec Ideal S32x8 .f32) (h : Fin 8) (r : Fin 32) (e : Fin 128) :
    ctxG n d h (ix2 r e) = Ideal.div (n (ix2 r ⟨128 * h.val + e.val, by omega⟩)) (d (ix2 r h)) := by
  pointwise [ctxG]

theorem ctxB_at (n : FVec Ideal S128x1024 .f32) (d : FVec Ideal S128x8 .f32) (h : Fin 8) (r : Fin 128) (e : Fin 128) :
    ctxB n d h (ix2 r e) = Ideal.div (n (ix2 r ⟨128 * h.val + e.val, by omega⟩)) (d (ix2 r h)) := by
  pointwise [ctxB]

end Cert.Proof

end
-- ==== Proof.Cover.lean ====
/-
  The pieces of the keys that the kernel adds up are all the keys a row sees.
-/
module

public import Mathlib.Data.EReal.Operations
public import Mathlib.Algebra.BigOperators.Intervals

@[expose] public section

noncomputable section

namespace Cert.Proof

/-- Row `q` sees key `k`: near the diagonal, among the first keys, or in one of the first rows. -/
def sees (q k : Nat) : Prop := (q ≤ k + 128 ∧ k ≤ q + 128) ∨ k < 32 ∨ q < 32

instance (q : Nat) : DecidablePred (sees q) := fun _ => inferInstanceAs (Decidable (_ ∨ _ ∨ _))

theorem sees_self (q : Nat) : sees q q := .inl ⟨by omega, by omega⟩

/-- The sum over `n` keys from `a` on. -/
def piece (f : Nat → EReal) (a n : Nat) : EReal := ∑ j ∈ Finset.range n, f (a + j)

theorem piece_eq (f : Nat → EReal) (a n : Nat) : piece f a n = ∑ k ∈ Finset.Ico a (a + n), f k := by
  rw [Finset.sum_Ico_eq_sum_range, Nat.add_sub_cancel_left]; rfl

theorem piece_append (f : Nat → EReal) (a n m : Nat) : piece f a n + piece f (a + n) m = piece f a (n + m) := by
  unfold piece
  rw [Finset.sum_range_add]
  simp only [Nat.add_assoc]

/-- All keys. -/
def allKeys (f : Nat → EReal) : EReal := piece f 0 8192

theorem allKeys_eq (f : Nat → EReal) : allKeys f = ∑ k ∈ Finset.range 8192, f k := by
  unfold allKeys piece
  simp only [Nat.zero_add]

variable {f : Nat → EReal} {q : Nat} (hf : ∀ k, ¬sees q k → f k = 0)

/-- What is left out adds nothing. -/
theorem all_of_set (s : Finset Nat) (hs : ∀ k ∈ s, k < 8192) (hc : ∀ k, k < 8192 → k ∉ s → f k = 0) :
    (∑ k ∈ s, f k) = allKeys f := by
  rw [allKeys_eq]
  exact Finset.sum_subset (fun k hk => Finset.mem_range.2 (hs k hk)) fun k hk hn => hc k (Finset.mem_range.1 hk) hn

include hf in
/-- The first block's window. -/
theorem cover_first (h0 : 32 ≤ q) (h1 : q < 256) : piece f 0 512 = allKeys f := by
  rw [piece_eq]
  refine all_of_set _ (fun k hk => ?_) fun k _ hn => hf k ?_
  · rw [Finset.mem_Ico] at hk; omega
  · rw [Finset.mem_Ico] at hn; unfold sees; omega

include hf in
/-- A later block's window and the first keys. -/
theorem cover_block {a : Nat} (ha : 128 ≤ a) (ha' : a + 512 ≤ 1024) (h0 : 32 ≤ q) (h1 : q < 896) (h2 : a + 128 ≤ q)
    (h3 : q + 128 < a + 512) : piece f a 512 + piece f 0 128 = allKeys f := by
  rw [piece_eq, piece_eq, ← Finset.sum_union]
  · refine all_of_set _ (fun k hk => ?_) fun k _ hn => hf k ?_
    · rw [Finset.mem_union, Finset.mem_Ico, Finset.mem_Ico] at hk; omega
    · rw [Finset.mem_union, Finset.mem_Ico, Finset.mem_Ico] at hn; unfold sees; omega
  · rw [Finset.disjoint_left]
    intro k hk hk'
    rw [Finset.mem_Ico] at hk hk'; omega

include hf in
/-- The last 128 rows: the pieces of two devices. -/
theorem cover_band (h0 : 896 ≤ q) (h1 : q < 1024) :
    (piece f 512 512 + piece f 0 128) + (piece f (1024 + 512) 512 + piece f 1024 128) = allKeys f := by
  rw [piece_eq, piece_eq, piece_eq, piece_eq, ← Finset.sum_union, ← Finset.sum_union, ← Finset.sum_union]
  · refine all_of_set _ (fun k hk => ?_) fun k _ hn => hf k ?_
    · simp only [Finset.mem_union, Finset.mem_Ico] at hk; omega
    · simp only [Finset.mem_union, Finset.mem_Ico] at hn; unfold sees; omega
  all_goals
    rw [Finset.disjoint_left]
    intro k hk hk'
    simp only [Finset.mem_union, Finset.mem_Ico] at hk hk'; omega

/-- The first 32 rows: all the keys of the eight devices, in their order. -/
theorem cover_all (f : Nat → EReal) :
    ((((((piece f 0 1024 + piece f 1024 1024) + piece f 2048 1024) + piece f 3072 1024) + piece f 4096 1024)
      + piece f 5120 1024) + piece f 6144 1024) + piece f 7168 1024 = allKeys f := by
  unfold allKeys
  rw [show 8192 = 1024 + 1024 + 1024 + 1024 + 1024 + 1024 + 1024 + 1024 from rfl]
  simp only [← piece_append]

end Cert.Proof

end
-- ==== Proof.Words.lean ====
/-
  The mask's words: the kernel's and the reference's comparisons of two indices as 32-bit words.
-/
module

public import proofs.«01_k».proof.Proof.Reads
public import proofs.«01_k».proof.Proof.Cover
public import Idealize.ShloMosaic.Lib.WordCmp

@[expose] public section

noncomputable section

namespace Cert.Proof

open Cert.KernelIdeal Cert.KernelIdeal.Gen
open Idealize.ShloMosaic Idealize.ShloMosaic.TcCoe Idealize.ShloMosaic.WordCmp

theorem absdiff_word (q k : Nat) (hq : q < 8192) (hk : k < 8192) :
    IntOp.absi (IntOp.subi (BitVec.ofNat 32 q) (BitVec.ofNat 32 k)) = BitVec.ofNat 32 (q - k + (k - q)) := by
  unfold IntOp.absi IntOp.subi
  apply BitVec.eq_of_toNat_eq
  rcases Nat.lt_or_ge q k with h | h
  · have e : (BitVec.ofNat 32 q - BitVec.ofNat 32 k).toNat = 2 ^ 32 - (k - q) := by
      rw [BitVec.toNat_sub, BitVec.toNat_ofNat, BitVec.toNat_ofNat]; omega
    rw [if_pos (by rw [BitVec.msb_eq_decide, e]; exact decide_eq_true (by omega)), BitVec.toNat_neg, e, BitVec.toNat_ofNat]
    omega
  · have e : (BitVec.ofNat 32 q - BitVec.ofNat 32 k).toNat = q - k := by
      rw [BitVec.toNat_sub, BitVec.toNat_ofNat, BitVec.toNat_ofNat]; omega
    rw [if_neg (by rw [BitVec.msb_eq_decide, e]; simp only [decide_eq_true_eq]; omega), e, BitVec.toNat_ofNat]
    omega

theorem near_word (q k : Nat) (hq : q < 8192) (hk : k < 8192) :
    IntOp.cmpi .sle (IntOp.absi (IntOp.subi (BitVec.ofNat 32 q) (BitVec.ofNat 32 k))) 128#32
      = BitVec.ofBool (decide (q ≤ k + 128 ∧ k ≤ q + 128)) := by
  rw [absdiff_word q k hq hk, show (128#32) = BitVec.ofNat 32 128 from rfl, cmpi_sle_ofNat (by omega) (by omega)]
  refine congrArg BitVec.ofBool (decide_eq_decide.2 ?_)
  omega

theorem first_word (k : Nat) (hk : k < 8192) : IntOp.cmpi .slt (BitVec.ofNat 32 k) 32#32 = BitVec.ofBool (decide (k < 32)) := by
  rw [show (32#32) = BitVec.ofNat 32 32 from rfl, cmpi_slt_ofNat (by omega) (by omega)]

/-- The kernel's mask word. -/
theorem sees_word (q k : Nat) (hq : q < 8192) (hk : k < 8192) :
    IntOp.ori (IntOp.ori (IntOp.cmpi .sle (IntOp.absi (IntOp.subi (BitVec.ofNat 32 q) (BitVec.ofNat 32 k))) 128#32)
      (IntOp.cmpi .slt (BitVec.ofNat 32 k) 32#32)) (IntOp.cmpi .slt (BitVec.ofNat 32 q) 32#32) = BitVec.ofBool (decide (sees q k)) := by
  rw [near_word q k hq hk, first_word k hk, first_word q hq, ori_ofBool, ori_ofBool]
  refine congrArg BitVec.ofBool ?_
  rw [Bool.eq_iff_iff, decide_eq_true_iff]
  simp only [Bool.or_eq_true, decide_eq_true_eq]
  unfold sees; omega

/-- The reference's. -/
theorem sees_word' (q k : Nat) (hq : q < 8192) (hk : k < 8192) :
    IntOp.ori (IntOp.cmpi .sle (IntOp.absi (IntOp.subi (BitVec.ofNat 32 q) (BitVec.ofNat 32 k))) 128#32)
      (IntOp.ori (IntOp.cmpi .slt (BitVec.ofNat 32 k) 32#32) (IntOp.cmpi .slt (BitVec.ofNat 32 q) 32#32))
      = BitVec.ofBool (decide (sees q k)) := by
  rw [near_word q k hq hk, first_word k hk, first_word q hq, ori_ofBool, ori_ofBool]
  refine congrArg BitVec.ofBool ?_
  rw [Bool.eq_iff_iff, decide_eq_true_iff]
  simp only [Bool.or_eq_true, decide_eq_true_eq]
  rfl

theorem select_word {α : Type} (p : Prop) [Decidable p] (a b : α) :
    Scalar.select (BitVec.ofBool (decide p)) a b = if p then a else b := by
  by_cases h : p <;> simp [h, Scalar.select]

theorem devWord_eq (c : Dev nD) : devWord c = BitVec.ofNat 32 c.val := by
  revert c; decide

theorem named_mask : (Named.named κ "mask" 0xCE6E6B28#32 : Ideal .f32) = ⊥ := rfl

theorem row_word (a b : Nat) : IntOp.addi (BitVec.ofNat 32 a) (BitVec.ofNat 32 b) = BitVec.ofNat 32 (a + b) := by
  unfold IntOp.addi
  rw [BitVec.ofNat_add]

theorem key_word (l k c : Nat) :
    IntOp.addi (IntOp.addi (BitVec.ofNat 32 l) (BitVec.ofNat 32 k)) (Scalar.muli (BitVec.ofNat 32 c) 1024#32)
      = BitVec.ofNat 32 (1024 * c + (k + l)) := by
  have : Scalar.muli (BitVec.ofNat 32 c) 1024#32 = BitVec.ofNat 32 (1024 * c) := by
    show BitVec.ofNat 32 c * BitVec.ofNat 32 1024 = _
    rw [← BitVec.ofNat_mul, Nat.mul_comm]
  rw [this, row_word, row_word]
  congr 1; omega

/-- The bias on a window's keys, -/
theorem biasW_at (c : Dev nD) (r0 k0 : Nat) (hr : r0 ≤ 768) (hk : k0 ≤ 512) (r : Fin 256) (l : Fin 512) :
    biasW (F := Ideal) (devWord c) (BitVec.ofNat 32 r0) (BitVec.ofNat 32 k0) (ix2 r l)
      = if sees (r0 + r.val) (1024 * c.val + (k0 + l.val)) then 0 else ⊥ := by
  have hc : c.val < 8 := c.isLt
  rw [devWord_eq]
  pointwise [biasW, named_mask]
  rw [row_word, key_word, sees_word _ _ (by omega) (by omega), select_word]

/-- and on the first keys. -/
theorem biasH_at (c : Dev nD) (r0 : Nat) (hr : r0 ≤ 768) (r : Fin 256) (l : Fin 128) :
    biasH (F := Ideal) (devWord c) (BitVec.ofNat 32 r0) 0#32 (ix2 r l)
      = if sees (r0 + r.val) (1024 * c.val + l.val) then 0 else ⊥ := by
  have hc : c.val < 8 := c.isLt
  rw [devWord_eq]
  pointwise [biasH, named_mask]
  rw [show (0#32) = BitVec.ofNat 32 0 from rfl, row_word, key_word, sees_word _ _ (by omega) (by omega), select_word, Nat.zero_add]

end Cert.Proof

end
-- ==== Proof.Softmax.lean ====
/-
  A row of attention over the extended reals: dividing every weight by their sum and then adding up
  the weighted values, or adding up first and dividing once.
-/
module

public import Idealize.ShloMosaic.PureOps.Ideal

@[expose] public section

noncomputable section

namespace Cert.Proof

open Idealize.ShloMosaic

variable {ι : Type} [Fintype ι]

/-- A sum of reals, read as extended reals. -/
theorem sum_real {κ : Type} (s : Finset κ) (f : κ → ℝ) : (∑ k ∈ s, ((f k : ℝ) : EReal)) = ((∑ k ∈ s, f k : ℝ) : EReal) := by
  classical
  induction s using Finset.induction_on with
  | empty => simp
  | insert a s ha ih => rw [Finset.sum_insert ha, Finset.sum_insert ha, ih, EReal.coe_add]

/-- A sum times a real that is not negative. -/
theorem sum_times {κ : Type} (s : Finset κ) (f : κ → EReal) {c : ℝ} (hc : 0 ≤ c) :
    (∑ k ∈ s, f k) * (c : EReal) = ∑ k ∈ s, f k * (c : EReal) := by
  classical
  induction s using Finset.induction_on with
  | empty => simp
  | insert a s ha ih =>
    rw [Finset.sum_insert ha, Finset.sum_insert ha, ← ih,
      EReal.right_distrib_of_nonneg_of_ne_top (by exact_mod_cast hc) (EReal.coe_ne_top c)]

/-- The score of a key: a number where the mask lets it through, `⊥` elsewhere. -/
def masked (p : ι → Prop) [DecidablePred p] (σ : ι → ℝ) (k : ι) : EReal := if p k then ((σ k : ℝ) : EReal) else ⊥

/-- The weight of a key. -/
def weight (p : ι → Prop) [DecidablePred p] (σ : ι → ℝ) (k : ι) : EReal := if p k then ((Real.exp (σ k) : ℝ) : EReal) else 0

variable (p : ι → Prop) [DecidablePred p] (σ : ι → ℝ)

theorem exp_masked (k : ι) : Ideal.exp (masked p σ k) = weight p σ k := by
  unfold masked weight
  split <;> simp

/-- The largest score is a number as soon as one key is let through. -/
theorem max_real (h : ∃ k, p k) : ∃ μ : ℝ, Finset.univ.fold max ⊥ (masked p σ) = (μ : EReal) := by
  classical
  have e : Finset.univ.fold max ⊥ (masked p σ) = Finset.univ.sup (masked p σ) := rfl
  rw [e]
  have hb : Finset.univ.sup (masked p σ) ≠ ⊥ := by
    obtain ⟨k, hk⟩ := h
    intro hs
    have := (Finset.sup_eq_bot_iff _ _).1 hs k (Finset.mem_univ k)
    simp [masked, hk] at this
  have ht : Finset.univ.sup (masked p σ) ≠ ⊤ := by
    refine ne_of_lt ((Finset.sup_lt_iff (by simp)).2 fun k _ => ?_)
    unfold masked
    split
    · exact EReal.coe_lt_top _
    · simp
  exact ⟨_, (EReal.coe_toReal ht hb).symm⟩

/-- The weights against the largest score are the weights times one positive number. -/
theorem shift_weight (μ : ℝ) (k : ι) :
    Ideal.exp (masked p σ k - (μ : EReal)) = weight p σ k * ((Real.exp (-μ) : ℝ) : EReal) := by
  unfold masked weight
  split
  · rw [← EReal.coe_sub, Ideal.exp_coe, ← EReal.coe_mul, ← Real.exp_add, sub_eq_add_neg]
  · simp [sub_eq_add_neg]

/-- The weights' sum as a real. -/
def total : ℝ := ∑ k, if p k then Real.exp (σ k) else 0

theorem sum_weight : (∑ k, weight p σ k) = ((total p σ : ℝ) : EReal) := by
  unfold total
  rw [← sum_real]
  refine Finset.sum_congr rfl fun k _ => ?_
  unfold weight
  split <;> simp

theorem total_pos (h : ∃ k, p k) : 0 < total p σ := by
  obtain ⟨k, hk⟩ := h
  refine Finset.sum_pos' (fun i _ => ?_) ⟨k, Finset.mem_univ k, ?_⟩
  · split
    · exact (Real.exp_pos _).le
    · exact le_rfl
  · rw [if_pos hk]; exact Real.exp_pos _

/-- The two ways to divide agree. -/
theorem softmax_once (h : ∃ k, p k) (v : ι → EReal) :
    (∑ k, v k * Ideal.div (Ideal.exp (masked p σ k - Finset.univ.fold max ⊥ (masked p σ)))
        (∑ j, Ideal.exp (masked p σ j - Finset.univ.fold max ⊥ (masked p σ))))
      = Ideal.div (∑ k, weight p σ k * v k) (∑ k, weight p σ k) := by
  obtain ⟨μ, hμ⟩ := max_real p σ h
  have hT := total_pos p σ h
  have hc : (0 : ℝ) < Real.exp (-μ) := Real.exp_pos _
  rw [hμ]
  simp only [shift_weight]
  rw [← sum_times _ _ hc.le, sum_weight, ← EReal.coe_mul, Ideal.div_coe hT.ne',
    sum_times _ _ (by positivity)]
  refine Finset.sum_congr rfl fun k _ => ?_
  rw [Ideal.div_coe (mul_pos hT hc).ne', mul_assoc (weight p σ k), ← EReal.coe_mul,
    show Real.exp (-μ) * (1 / (total p σ * Real.exp (-μ))) = 1 / total p σ by field_simp]
  rw [mul_comm (v k), mul_right_comm]

end Cert.Proof

end
-- ==== Proof.Scores.lean ====
/-
  The kernel's queries, scores and weights over the extended reals, for finite queries and keys.
-/
module

public import proofs.«01_k».proof.Proof.Contents
public import proofs.«01_k».proof.Proof.Words
public import proofs.«01_k».proof.Proof.Softmax

@[expose] public section

noncomputable section

namespace Cert.Proof.Sums

open Cert.KernelIdeal Cert.KernelIdeal.Gen
open Idealize.ShloMosaic Idealize.ShloMosaic.TcCoe

/-- The whole arguments: reals where they must be finite, a key or a value by its place in the whole sequence. -/
structure Whole where
  x : Fin 1024 → Fin 1024 → ℝ
  wq : Fin 1024 → Fin 1024 → ℝ
  k : Nat → Fin 8 → Fin 128 → ℝ
  v : Nat → Fin 8 → Fin 128 → EReal
  wo : Fin 1024 → Fin 1024 → EReal

/-- The devices' arguments are their parts of the whole ones. -/
structure Cut (D : Data Ideal) (A : Whole) : Prop where
  x : ∀ (c : Dev nD) (q l : Fin 1024), D.x c (ix3 0 q l) = ((A.x q l : ℝ) : EReal)
  wq : ∀ (c : Dev nD) (l e : Fin 1024), D.wq c (ix2 l e) = ((A.wq l e : ℝ) : EReal)
  k : ∀ (c : Dev nD) (j : Fin 1024) (h : Fin 8) (d : Fin 128), D.k c (ix4 0 j h d) = ((A.k (1024 * c.val + j.val) h d : ℝ) : EReal)
  v : ∀ (c : Dev nD) (j : Fin 1024) (h : Fin 8) (d : Fin 128), D.v c (ix4 0 j h d) = A.v (1024 * c.val + j.val) h d
  wo : ∀ (l e : Fin 1024), D.wo 0 (ix2 l e) = A.wo l e

/-- Feature `d` of head `h` among the 1024. -/
def col (h : Fin 8) (d : Fin 128) : Fin 1024 := ⟨128 * h.val + d.val, by omega⟩

/-- The scale is a real. -/
theorem scale_real : ∃ s : ℝ, scale = (s : EReal) := by
  unfold scale
  simp only [Ideal.ofBits, Ideal.ieee]
  rw [if_neg (by decide), if_neg (by decide)]
  exact ⟨_, rfl⟩

def scaleR : ℝ := scale_real.choose
theorem scale_eq : scale = ((scaleR : ℝ) : EReal) := scale_real.choose_spec

namespace Whole
variable (A : Whole)

/-- The queries before they are scaled, -/
def q (i e : Fin 1024) : ℝ := ∑ l, A.x i l * A.wq l e
/-- and the scores. -/
def score (h : Fin 8) (i : Fin 1024) (k : Nat) : ℝ := (∑ d, A.q i (col h d) * A.k k h d) * scaleR
/-- The weights, -/
def w (h : Fin 8) (i : Fin 1024) (k : Nat) : EReal := weight (sees i.val) (A.score h i) k
/-- the weighted values, -/
def wv (h : Fin 8) (d : Fin 128) (i : Fin 1024) (k : Nat) : EReal := A.w h i k * A.v k h d

theorem w_off (h : Fin 8) (i : Fin 1024) (k : Nat) (hk : ¬sees i.val k) : A.w h i k = 0 := if_neg hk
theorem wv_off (h : Fin 8) (d : Fin 128) (i : Fin 1024) (k : Nat) (hk : ¬sees i.val k) : A.wv h d i k = 0 := by
  unfold wv; rw [w_off A h i k hk, zero_mul]

/-- the context, -/
def ctx (h : Fin 8) (d : Fin 128) (i : Fin 1024) : EReal := Ideal.div (allKeys (A.wv h d i)) (allKeys (A.w h i))
/-- and the result. -/
def out (i e : Fin 1024) : EReal := ∑ l : Fin 1024, A.ctx ⟨l.val / 128, by omega⟩ ⟨l.val % 128, by omega⟩ i * A.wo l e

/-- A score with the queries scaled first. -/
theorem score_scaled (h : Fin 8) (i : Fin 1024) (k : Nat) : (∑ d, (A.q i (col h d) * scaleR) * A.k k h d) = A.score h i k := by
  unfold score
  rw [Finset.sum_mul]
  exact Finset.sum_congr rfl fun d _ => mul_right_comm _ _ _

end Whole

/-! ## Reading a rectangle -/

section Emb
theorem rX_at (b : Fin 4) (r : Fin 256) (l : Fin 1024) :
    (rX b).emb (ix3 0 r l) = ix3 0 ⟨256 * b.val + r.val, by omega⟩ l := by
  refine funext fun a => ?_
  fin_cases a <;> refine Fin.ext ?_ <;> simp
theorem rAll_at (r l : Fin 1024) : rAll.emb (ix2 r l) = ix2 r l := by
  refine funext fun a => ?_
  fin_cases a <;> refine Fin.ext ?_ <;> simp
theorem rBH_at (b : Fin 4) (h : Fin 8) (r : Fin 256) (d : Fin 128) :
    (rBH b h).emb (ix2 r d) = ix2 ⟨256 * b.val + r.val, by omega⟩ (col h d) := by
  refine funext fun a => ?_
  fin_cases a <;> refine Fin.ext ?_ <;> simp [col]
theorem rBD_at (b : Fin 4) (h : Fin 8) (r : Fin 256) (z : Fin 1) :
    (rBD b h).emb (ix2 r z) = ix2 ⟨256 * b.val + r.val, by omega⟩ h := by
  refine funext fun a => ?_
  fin_cases a <;> refine Fin.ext ?_ <;> simp
theorem rWin_at (b : Fin 4) (h : Fin 8) (l : Fin 512) (d : Fin 128) :
    (rWin b h).emb (ix3 0 l d) = ix3 h ⟨wlo b + l.val, by have := wlo_le b; omega⟩ d := by
  refine funext fun a => ?_
  fin_cases a <;> refine Fin.ext ?_ <;> simp
theorem rFst_at (h : Fin 8) (l : Fin 128) (d : Fin 128) :
    (rFst h).emb (ix3 0 l d) = ix3 h ⟨l.val, by omega⟩ d := by
  refine funext fun a => ?_
  fin_cases a <;> refine Fin.ext ?_ <;> simp
theorem rTop_at (h : Fin 8) (l : Fin 512) (d : Fin 128) :
    (rTop h).emb (ix3 0 l d) = ix3 h ⟨512 + l.val, by omega⟩ d := by
  refine funext fun a => ?_
  fin_cases a <;> refine Fin.ext ?_ <;> simp
theorem rGH_at (h : Fin 8) (r : Fin 32) (d : Fin 128) :
    (rGH h).emb (ix2 r d) = ix2 ⟨r.val, by omega⟩ (col h d) := by
  refine funext fun a => ?_
  fin_cases a <;> refine Fin.ext ?_ <;> simp [col]
theorem rGD_at (h : Fin 8) (r : Fin 32) (z : Fin 1) :
    (rGD h).emb (ix2 r z) = ix2 ⟨r.val, by omega⟩ h := by
  refine funext fun a => ?_
  fin_cases a <;> refine Fin.ext ?_ <;> simp
theorem rG_at (r : Fin 32) (l : Fin 1024) : rG.emb (ix2 r l) = ix2 ⟨r.val, by omega⟩ l := by
  refine funext fun a => ?_
  fin_cases a <;> refine Fin.ext ?_ <;> simp
theorem rGd_at (r : Fin 32) (l : Fin 8) : rGd.emb (ix2 r l) = ix2 ⟨r.val, by omega⟩ l := by
  refine funext fun a => ?_
  fin_cases a <;> refine Fin.ext ?_ <;> simp
theorem rB_at (r : Fin 128) (l : Fin 1024) : rB.emb (ix2 r l) = ix2 ⟨896 + r.val, by omega⟩ l := by
  refine funext fun a => ?_
  fin_cases a <;> refine Fin.ext ?_ <;> simp
theorem rBd_at (r : Fin 128) (l : Fin 8) : rBd.emb (ix2 r l) = ix2 ⟨896 + r.val, by omega⟩ l := by
  refine funext fun a => ?_
  fin_cases a <;> refine Fin.ext ?_ <;> simp
theorem rBlk_at (b : Fin 8) (r : Fin 128) (l : Fin 1024) :
    (rBlk b).emb (ix2 r l) = ix2 ⟨128 * b.val + r.val, by omega⟩ l := by
  refine funext fun a => ?_
  fin_cases a <;> refine Fin.ext ?_ <;> simp

end Emb

/-! ## Queries, scores, weights -/

variable {D : Data Ideal} {A : Whole} (C : Cut D A) (c : Dev nD)
include C

theorem QF_at (i e : Fin 1024) : QF D c (ix2 i e) = ((A.q i e * scaleR : ℝ) : EReal) := by
  unfold QF
  rw [tile2_at (B := 4) (H := 1) rfl rfl _ _ ⟨i.val / 256, by omega⟩ 0 (ix2 ⟨i.val % 256, by omega⟩ e)
    (by show i.val = 256 * (i.val / 256) + i.val % 256; omega) (by show e.val = 1024 * 0 + e.val; omega), qRows_at]
  simp only [rd, rX_at, rAll_at, C.x, C.wq]
  simp only [← EReal.coe_mul]
  rw [sum_real, scale_eq, ← EReal.coe_mul]
  have e : (⟨256 * (i.val / 256) + i.val % 256, by omega⟩ : Fin 1024) = i := Fin.ext (by show 256 * (i.val / 256) + i.val % 256 = i.val; omega)
  simp only [e]; rfl

theorem KF_at (h : Fin 8) (j : Fin 1024) (d : Fin 128) : KF D c (ix3 h j d) = ((A.k (1024 * c.val + j.val) h d : ℝ) : EReal) := C.k c j h d
theorem VF_at (h : Fin 8) (j : Fin 1024) (d : Fin 128) : VF D c (ix3 h j d) = A.v (1024 * c.val + j.val) h d := C.v c j h d

/-- A score as the kernel computes it. -/
theorem score_at (h : Fin 8) (i j : Fin 1024) :
    (∑ d : Fin 128, QF D c (ix2 i (col h d)) * KF D c (ix3 h j d)) = ((A.score h i (1024 * c.val + j.val) : ℝ) : EReal) := by
  simp only [QF_at C, KF_at C, ← EReal.coe_mul]
  rw [sum_real, A.score_scaled]

theorem biased (i : Fin 1024) (h : Fin 8) (k : Nat) :
    Ideal.exp (((A.score h i k : ℝ) : EReal) + if sees i.val k then 0 else ⊥) = A.w h i k := by
  unfold Whole.w weight
  split <;> simp

theorem winE_at (b : Fin 4) (h : Fin 8) (r : Fin 256) (l : Fin 512) :
    winE D c b h (ix2 r l) = A.w h ⟨256 * b.val + r.val, by omega⟩ (1024 * c.val + wlo b + l.val) := by
  have hw := wlo_le b
  unfold winE
  rw [expW_at, biasW_at c _ _ (by omega) (by omega)]
  simp only [rd, rBH_at, rWin_at]
  rw [score_at C, biased C ⟨256 * b.val + r.val, by omega⟩ h, Nat.add_assoc]

theorem fstE_at (b : Fin 4) (h : Fin 8) (r : Fin 256) (l : Fin 128) :
    fstE D c b h (ix2 r l) = A.w h ⟨256 * b.val + r.val, by omega⟩ (1024 * c.val + l.val) := by
  unfold fstE
  rw [expH_at, biasH_at c _ (by omega)]
  simp only [rd, rBH_at, rFst_at]
  rw [score_at C, biased C ⟨256 * b.val + r.val, by omega⟩ h]

theorem gloE_at (h : Fin 8) (r : Fin 32) (l : Fin 512) :
    gloE D c h (ix2 r l) = A.w h ⟨r.val, by omega⟩ (1024 * c.val + 512 + l.val) := by
  unfold gloE
  rw [expG_at]
  simp only [rd, rGH_at, rTop_at]
  rw [score_at C, ← Nat.add_assoc]
  unfold Whole.w weight
  rw [if_pos (show sees _ _ from Or.inr (Or.inr r.isLt)), Ideal.exp_coe]

end Cert.Proof.Sums

end
-- ==== Proof.Stages.lean ====
/-
  The reference, stage by stage, read at an index.
-/
module

public import proofs.«01_k».proof.Proof.Gen.ReferenceIdeal.Run
public import proofs.«01_k».proof.Proof.Scores
public import Idealize.ShloMosaic.Lib.Routing.OpsOrder

@[expose] public section

noncomputable section

namespace Cert.Proof.Plain

open Cert.ReferenceIdeal Cert.ReferenceIdeal.Gen Cert.ReferenceIdeal.Value Cert.Proof.Sums
open Idealize.ShloMosaic Idealize.ShloMosaic.TcCoe

/-! ## The stages -/

abbrev IW (s : Shape) := s.Idx → BitVec 32
abbrev IB (s : Shape) := s.Idx → BitVec 1
abbrev RV (s : Shape) := FVec Ideal s .f32

def rowsI : IW S1024x1 := broadcastInDim S1024x1 ![0] bcast_S1024_S1024x1_0 (iotaInDim S1024 32 0)
def keysI : IW S1x8192 := broadcastInDim S1x8192 ![1] bcast_S8192_S1x8192_1 (iotaInDim S8192 32 0)

/-- Which keys a row sees, -/
def mask : IB S1024x8192 :=
  ori (cmpi .sle (absi (subi (broadcastInDim S1024x8192 ![0, 1] bcast_S1024x1_S1024x8192_0_1 rowsI)
      (broadcastInDim S1024x8192 ![0, 1] bcast_S1x8192_S1024x8192_0_1 keysI))) (broadcastInDim S1024x8192 ![] bcast_S_S1024x8192 (constantI S_ 32 128#32)))
    (ori (broadcastInDim S1024x8192 ![0, 1] bcast_S1x8192_S1024x8192_0_1 (cmpi .slt keysI (broadcastInDim S1x8192 ![] bcast_S_S1x8192 (constantI S_ 32 32#32))))
      (broadcastInDim S1024x8192 ![0, 1] bcast_S1024x1_S1024x8192_0_1 (cmpi .slt rowsI (broadcastInDim S1024x1 ![] bcast_S_S1024x1 (constantI S_ 32 32#32)))))
/-- the same beside the heads, -/
def maskH : IB S1x8x1024x8192 :=
  broadcastInDim S1x8x1024x8192 ![0, 1, 2, 3] bcast_S1x1x1024x8192_S1x8x1024x8192_0_1_2_3 (broadcastInDim S1x1x1024x8192 ![2, 3] bcast_S1024x8192_S1x1x1024x8192_2_3 mask)
/-- and whether it sees one at all. -/
def anyKey : IB S1x1x1024x1 :=
  broadcastInDim S1x1x1024x1 ![2] bcast_S1024_S1x1x1024x1_2 (Host.reduce IntOp.ori mask (constantI S_ 1 0#1) reducesTo_S1024x8192_S1024_d1 h_S_)

/-- The queries, -/
def queries (x : RV S1x1024x1024) (wq : RV S1024x1024) : RV S1x1024x8x128 :=
  shapeCast _ (Host.dotGeneral dot_S1x1024x1024_S1024x1024_S1x1024x1024_2_0_01_1_n_n none x wq) shapeCasts_S1x1024x1024_S1x1024x8x128
/-- the scores, -/
def scores (q : RV S1x1024x8x128) (k : RV S1x8192x8x128) : RV S1x8x1024x8192 :=
  mulf (Host.dotGeneral dot_S1x1024x8x128_S1x8192x8x128_S1x8x1024x8192_3_3_1_1_02_02 none q k)
    (broadcastInDim S1x8x1024x8192 ![] bcast_S_S1x8x1024x8192 (constant S_ .f32 0x3DB504F3#32))
/-- those seen, -/
def seen (s : RV S1x8x1024x8192) : RV S1x8x1024x8192 :=
  select maskH s (broadcastInDim S1x8x1024x8192 ![] bcast_S_S1x8x1024x8192 (id (constant S_ .f32 0xFF800000#32)))
/-- the exponentials under a row's largest, -/
def exps (s : RV S1x8x1024x8192) : RV S1x8x1024x8192 :=
  Host.exp (subf s (broadcastInDim S1x8x1024x8192 ![0, 1, 2, 3] bcast_S1x8x1024x1_S1x8x1024x8192_0_1_2_3
    (broadcastInDim S1x8x1024x1 ![0, 1, 2] bcast_S1x8x1024_S1x8x1024x1_0_1_2
      (Host.reduce FloatOps.maximumf s (constant S_ .f32 0xFF800000#32) reducesTo_S1x8x1024x8192_S1x8x1024_d3 h_S_))))
/-- their sums, -/
def sums (e : RV S1x8x1024x8192) : RV S1x8x1024x1 :=
  select (broadcastInDim S1x8x1024x1 ![0, 1, 2, 3] bcast_S1x1x1024x1_S1x8x1024x1_0_1_2_3 anyKey)
    (broadcastInDim S1x8x1024x1 ![0, 1, 2] bcast_S1x8x1024_S1x8x1024x1_0_1_2 (Host.reduceAdd e (constant S_ .f32 0x00000000#32) reducesTo_S1x8x1024x8192_S1x8x1024_d3 h_S_))
    (broadcastInDim S1x8x1024x1 ![] bcast_S_S1x8x1024x1 (id (constant S_ .f32 0x3F800000#32)))
/-- the weights, -/
def normal (a : IB S1x1x1024x1) (e : RV S1x8x1024x8192) (t : RV S1x8x1024x1) : RV S1x8x1024x8192 :=
  select (broadcastInDim S1x8x1024x8192 ![0, 1, 2, 3] bcast_S1x1x1024x1_S1x8x1024x8192_0_1_2_3 a)
    (Host.divf e (broadcastInDim S1x8x1024x8192 ![0, 1, 2, 3] bcast_S1x8x1024x1_S1x8x1024x8192_0_1_2_3 t))
    (broadcastInDim S1x8x1024x8192 ![] bcast_S_S1x8x1024x8192 (id (constant S_ .f32 0x00000000#32)))
def weights (e : RV S1x8x1024x8192) : RV S1x8x1024x8192 := normal anyKey e (sums e)
/-- the context, -/
def context (w : RV S1x8x1024x8192) (v : RV S1x8192x8x128) : RV S1x1024x1024 :=
  shapeCast _ (transpose S1x1024x8x128 [0, 3, 1, 2] (Host.dotGeneral dot_S1x8192x8x128_S1x8x1024x8192_S1x8x128x1024_1_3_3_2_02_01 none v w)
    transposes_S1x8x128x1024_S1x1024x8x128_0_3_1_2) shapeCasts_S1x1024x8x128_S1x1024x1024
/-- and the result. -/
def project (y : RV S1x1024x1024) (wo : RV S1024x1024) : RV S1x1024x1024 :=
  Host.dotGeneral dot_S1x1024x1024_S1024x1024_S1x1024x1024_2_0_01_1_n_n none y wo

def final (x : RV S1x1024x1024) (wq : RV S1024x1024) (k v : RV S1x8192x8x128) (wo : RV S1024x1024) : RV S1x1024x1024 :=
  project (context (weights (exps (seen (scores (queries x wq) k)))) v) wo

set_option maxRecDepth 8192 in
theorem res_eq (m : (ℓ : Loc nD τ sig) → Buf (Elt Ideal) ℓ) (c : Dev nD) :
    res_out0 m c = final (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := by
  unfold res_out0 res_main_v42 final project context weights normal sums exps seen scores queries anyKey maskH mask rowsI keysI
  rfl

/-! ## The stages at an index -/

theorem low : Ideal.ofBits .f32 0xFF800000#32 = ⊥ := by simp [Ideal.ofBits, Ideal.ieee]
theorem select_one {α : Type} (a b : α) : Scalar.select 1#1 a b = a := rfl

theorem mask_at (i : Fin 1024) (k : Fin 8192) : mask (ix2 i k) = BitVec.ofBool (decide (sees i.val k.val)) := by
  pointwise [mask, rowsI, keysI]
  exact sees_word' i.val k.val (by omega) (by omega)

theorem maskH_at (h : Fin 8) (i : Fin 1024) (k : Fin 8192) : maskH (ix4 0 h i k) = BitVec.ofBool (decide (sees i.val k.val)) := by
  pointwise [maskH]
  exact mask_at i k

theorem anyKey_at (i : Fin 1024) : anyKey (ix4 0 0 i 0) = 1#1 := by
  pointwise [anyKey]
  refine (Routing.fold_ori _ _).2 ⟨⟨i.val, by omega⟩, Finset.mem_univ _, ?_⟩
  refine (mask_at i ⟨i.val, by omega⟩).trans ?_
  rw [decide_eq_true (sees_self i.val)]
  rfl

theorem queries_at (x : RV S1x1024x1024) (wq : RV S1024x1024) (i : Fin 1024) (h : Fin 8) (d : Fin 128) :
    queries x wq (ix4 0 i h d) = ∑ l : Fin 1024, x (ix3 0 i l) * wq (ix2 l (col h d)) := by
  pointwise [queries]
  refine Finset.sum_congr rfl fun l _ => ?_
  rw [show (⟨h.val * 128 + d.val, by omega⟩ : Fin 1024) = col h d from Fin.ext (by show h.val * 128 + d.val = 128 * h.val + d.val; omega)]

theorem scores_at (q : RV S1x1024x8x128) (k : RV S1x8192x8x128) (h : Fin 8) (i : Fin 1024) (j : Fin 8192) :
    scores q k (ix4 0 h i j) = (∑ d : Fin 128, q (ix4 0 i h d) * k (ix4 0 j h d)) * scale := by
  pointwise [scores, scale]

theorem seen_at (s : RV S1x8x1024x8192) (h : Fin 8) (i : Fin 1024) (j : Fin 8192) :
    seen s (ix4 0 h i j) = if sees i.val j.val then s (ix4 0 h i j) else ⊥ := by
  pointwise [seen]
  rw [maskH_at, select_word]
  exact congrArg (fun b => if sees i.val j.val then s (ix4 0 h i j) else b) low

theorem exps_at (s : RV S1x8x1024x8192) (h : Fin 8) (i : Fin 1024) (j : Fin 8192) :
    exps s (ix4 0 h i j) = Ideal.exp (s (ix4 0 h i j) - Finset.univ.fold max ⊥ fun k : Fin 8192 => s (ix4 0 h i k)) := by
  pointwise [exps]
  rw [low]

theorem sums_at (e : RV S1x8x1024x8192) (h : Fin 8) (i : Fin 1024) : sums e (ix4 0 h i 0) = ∑ j : Fin 8192, e (ix4 0 h i j) := by
  pointwise [sums]
  rw [anyKey_at, select_one]

theorem normal_at (a : IB S1x1x1024x1) (e : RV S1x8x1024x8192) (t : RV S1x8x1024x1) (h : Fin 8) (i : Fin 1024) (j : Fin 8192)
    (ha : a (ix4 0 0 i 0) = 1#1) : normal a e t (ix4 0 h i j) = Ideal.div (e (ix4 0 h i j)) (t (ix4 0 h i 0)) := by
  pointwise [normal]
  rw [ha, select_one]

theorem weights_at (e : RV S1x8x1024x8192) (h : Fin 8) (i : Fin 1024) (j : Fin 8192) :
    weights e (ix4 0 h i j) = Ideal.div (e (ix4 0 h i j)) (∑ j : Fin 8192, e (ix4 0 h i j)) :=
  (normal_at anyKey e (sums e) h i j (anyKey_at i)).trans (congrArg (Ideal.div _) (sums_at e h i))

theorem context_at (w : RV S1x8x1024x8192) (v : RV S1x8192x8x128) (i l : Fin 1024) :
    context w v (ix3 0 i l) = ∑ j : Fin 8192, v (ix4 0 j ⟨l.val / 128, by omega⟩ ⟨l.val % 128, by omega⟩) * w (ix4 0 ⟨l.val / 128, by omega⟩ i j) := by
  pointwise [context]

theorem project_at (y : RV S1x1024x1024) (wo : RV S1024x1024) (i e : Fin 1024) :
    project y wo (ix3 0 i e) = ∑ l : Fin 1024, y (ix3 0 i l) * wo (ix2 l e) := by
  pointwise [project]

end Cert.Proof.Plain

end
-- ==== Proof.Result.lean ====
/-
  The kernel's result over the extended reals: every piece it adds up, and the whole.
-/
module

public import proofs.«01_k».proof.Proof.Scores

@[expose] public section

noncomputable section

namespace Cert.Proof.Sums

open Cert.KernelIdeal Cert.KernelIdeal.Gen
open Idealize.ShloMosaic Idealize.ShloMosaic.TcCoe

/-- What block `b` adds up on the device whose keys start at `k`. -/
def blkSum (k : Nat) (b : Fin 4) (f : Nat → EReal) : EReal :=
  if b = 0 then piece f (k + wlo b) 512 else piece f (k + wlo b) 512 + piece f k 128

/-- A row's block. -/
def rowBlk (i : Fin 1024) : Fin 4 := ⟨i.val / 256, by omega⟩

theorem sum_piece (f : Nat → EReal) (a n : Nat) : (∑ l : Fin n, f (a + l.val)) = piece f a n :=
  Fin.sum_univ_eq_sum_range (fun l => f (a + l)) n

variable {D : Data Ideal} {A : Whole} (C : Cut D A) (c : Dev nD)

section
include C

theorem blkD_at (b : Fin 4) (h : Fin 8) (r : Fin 256) (z : Fin 1) :
    blkD D c b h (ix2 r z) = blkSum (1024 * c.val) b (A.w h ⟨256 * b.val + r.val, by omega⟩) := by
  have e1 : winD D c b h (ix2 r z) = piece (A.w h ⟨256 * b.val + r.val, by omega⟩) (1024 * c.val + wlo b) 512 := by
    unfold winD
    rw [denW_at]
    simp only [winE_at C]
    exact sum_piece _ _ _
  unfold blkD blkSum
  split
  · exact e1
  · have e2 : denH (fstE D c b h) (ix2 r z) = piece (A.w h ⟨256 * b.val + r.val, by omega⟩) (1024 * c.val) 128 := by
      rw [denH_at]
      simp only [fstE_at C]
      exact sum_piece _ _ _
    exact congrArg₂ (· + ·) e1 e2

theorem blkN_at (b : Fin 4) (h : Fin 8) (r : Fin 256) (d : Fin 128) :
    blkN D c b h (ix2 r d) = blkSum (1024 * c.val) b (A.wv h d ⟨256 * b.val + r.val, by omega⟩) := by
  have hw := wlo_le b
  have e1 : winN D c b h (ix2 r d) = piece (A.wv h d ⟨256 * b.val + r.val, by omega⟩) (1024 * c.val + wlo b) 512 := by
    unfold winN
    rw [numW_at]
    simp only [winE_at C, rd, rWin_at, VF_at C, ← Nat.add_assoc]
    exact sum_piece (A.wv h d ⟨256 * b.val + r.val, by omega⟩) _ _
  unfold blkN blkSum
  split
  · exact e1
  · have e2 : numH (fstE D c b h) (rd (rFst h) (VF D c)) (ix2 r d) = piece (A.wv h d ⟨256 * b.val + r.val, by omega⟩) (1024 * c.val) 128 := by
      rw [numH_at]
      simp only [fstE_at C, rd, rFst_at, VF_at C]
      exact sum_piece (A.wv h d ⟨256 * b.val + r.val, by omega⟩) _ _
    exact congrArg₂ (· + ·) e1 e2

theorem PdA_at (i : Fin 1024) (h : Fin 8) : PdA D c (ix2 i h) = blkSum (1024 * c.val) (rowBlk i) (A.w h i) := by
  unfold PdA
  rw [tile2_at (B := 4) (H := 8) rfl rfl _ _ (rowBlk i) h (ix2 ⟨i.val % 256, by omega⟩ 0)
    (by show i.val = 256 * (i.val / 256) + i.val % 256; omega) (by show h.val = 1 * h.val + 0; omega), keepD_eq, blkD_at C]
  congr 2
  exact Fin.ext (by show 256 * (i.val / 256) + i.val % 256 = i.val; omega)

theorem PnA_at (i : Fin 1024) (h : Fin 8) (d : Fin 128) : PnA D c (ix2 i (col h d)) = blkSum (1024 * c.val) (rowBlk i) (A.wv h d i) := by
  unfold PnA
  rw [tile2_at (B := 4) (H := 8) rfl rfl _ _ (rowBlk i) h (ix2 ⟨i.val % 256, by omega⟩ d)
    (by show i.val = 256 * (i.val / 256) + i.val % 256; omega) rfl, keepN_eq, blkN_at C]
  congr 2
  exact Fin.ext (by show 256 * (i.val / 256) + i.val % 256 = i.val; omega)

end

/-- On the first 32 rows a device adds up all its keys. -/
theorem blkSum_top (k : Nat) (i : Fin 1024) (hi : i.val < 32) (f : Nat → EReal) :
    blkSum k (rowBlk i) f + piece f (k + 512) 512 = piece f k 1024 := by
  have e : rowBlk i = 0 := Fin.ext (by show i.val / 256 = 0; omega)
  unfold blkSum
  rw [e, if_pos rfl, show wlo 0 = 0 from rfl, Nat.add_zero]
  exact piece_append f k 512 512

section
include C

theorem PdF_top (i : Fin 1024) (hi : i.val < 32) (h : Fin 8) : PdF D c (ix2 i h) = piece (A.w h i) (1024 * c.val) 1024 := by
  unfold PdF
  rw [patch_at (n := 32) 0 _ _ (ix2 i h) (ix2 ⟨i.val, hi⟩ h) (by show i.val = 0 + i.val; omega) rfl,
    tile2_at (B := 1) (H := 8) rfl rfl _ _ 0 h (ix2 ⟨i.val, hi⟩ 0) (by show i.val = 32 * 0 + i.val; omega)
      (by show h.val = 1 * h.val + 0; omega)]
  unfold gloD
  rw [denG_at]
  simp only [rd, rGD_at, gloE_at C, PdA_at C]
  rw [sum_piece]
  exact blkSum_top _ i hi _

theorem PnF_top (i : Fin 1024) (hi : i.val < 32) (h : Fin 8) (d : Fin 128) :
    PnF D c (ix2 i (col h d)) = piece (A.wv h d i) (1024 * c.val) 1024 := by
  unfold PnF
  rw [patch_at (n := 32) 0 _ _ (ix2 i (col h d)) (ix2 ⟨i.val, hi⟩ (col h d)) (by show i.val = 0 + i.val; omega) rfl,
    tile2_at (B := 1) (H := 8) rfl rfl _ _ 0 h (ix2 ⟨i.val, hi⟩ d) (by show i.val = 32 * 0 + i.val; omega) rfl]
  unfold gloN
  rw [numG_at]
  simp only [rd, rGH_at, rTop_at, gloE_at C, VF_at C, PnA_at C, ← Nat.add_assoc]
  exact (congrArg (_ + ·) (sum_piece (A.wv h d i) _ _)).trans (blkSum_top _ i hi _)

theorem PdF_at (i : Fin 1024) (hi : 32 ≤ i.val) (h : Fin 8) : PdF D c (ix2 i h) = blkSum (1024 * c.val) (rowBlk i) (A.w h i) := by
  unfold PdF
  rw [patch_out (n := 32) 0 _ _ _ (by show ¬(0 ≤ i.val ∧ i.val < 0 + 32); omega), PdA_at C]

theorem PnF_at (i : Fin 1024) (hi : 32 ≤ i.val) (h : Fin 8) (d : Fin 128) :
    PnF D c (ix2 i (col h d)) = blkSum (1024 * c.val) (rowBlk i) (A.wv h d i) := by
  unfold PnF
  rw [patch_out (n := 32) 0 _ _ _ (by show ¬(0 ≤ i.val ∧ i.val < 0 + 32); omega), PnA_at C]

end

/-- Adding up over a list of devices, place by place. -/
theorem sumG_fst (j : Fin 32) (l : Fin 1024) (g : Fin 8 → EReal) (hg : ∀ s, SgF D s (ix2 j l) = g s) (ss : List (Fin 8)) :
    ∀ a, (sumG D ss a).1 (ix2 j l) = ss.foldl (fun t s => t + g s) (a.1 (ix2 j l)) := by
  induction ss with
  | nil => intro a; rfl
  | cons s ss ih =>
    intro a
    refine (ih _).trans (congrArg (fun t => ss.foldl (fun t s => t + g s) t) ?_)
    exact (addGn_at _ _ j l).trans (congrArg (_ + ·) (hg s))

theorem sumG_snd (j : Fin 32) (l : Fin 8) (g : Fin 8 → EReal) (hg : ∀ s, PdG D s (ix2 j l) = g s) (ss : List (Fin 8)) :
    ∀ a, (sumG D ss a).2 (ix2 j l) = ss.foldl (fun t s => t + g s) (a.2 (ix2 j l)) := by
  induction ss with
  | nil => intro a; rfl
  | cons s ss ih =>
    intro a
    refine (ih _).trans (congrArg (fun t => ss.foldl (fun t s => t + g s) t) ?_)
    exact (addGd_at _ _ j l).trans (congrArg (_ + ·) (hg s))

/-- Device 0's keys and, in order, those of the others: all of them. -/
theorem fold_all (f : Nat → EReal) : others.foldl (fun t s => t + piece f (1024 * s.val) 1024) (piece f (1024 * (0 : Fin 8).val) 1024) = allKeys f :=
  cover_all f

section
include C

/-- The global rows over all the devices: the sums, -/
theorem allGd_at (i : Fin 1024) (hi : i.val < 32) (h : Fin 8) : (allG D).2 (ix2 ⟨i.val, hi⟩ h) = allKeys (A.w h i) := by
  have e : ∀ s, rd rGd (PdF D s) (ix2 ⟨i.val, hi⟩ h) = piece (A.w h i) (1024 * s.val) 1024 := fun s =>
    (congrArg (PdF D s) (rGd_at _ _)).trans (PdF_top C s i hi h)
  refine (sumG_snd _ _ _ e others _).trans ?_
  show others.foldl _ (rd rGd (PdF D 0) (ix2 ⟨i.val, hi⟩ h)) = _
  rw [e 0]
  exact fold_all _

/-- and the weighted values. -/
theorem allGn_at (i : Fin 1024) (hi : i.val < 32) (h : Fin 8) (d : Fin 128) : (allG D).1 (ix2 ⟨i.val, hi⟩ (col h d)) = allKeys (A.wv h d i) := by
  have e : ∀ s, rd rG (PnF D s) (ix2 ⟨i.val, hi⟩ (col h d)) = piece (A.wv h d i) (1024 * s.val) 1024 := fun s =>
    (congrArg (PnF D s) (rG_at _ _)).trans (PnF_top C s i hi h d)
  refine (sumG_fst _ _ _ (fun s => (congrFun (narrowG_eq _) _).trans (e s)) others _).trans ?_
  show others.foldl _ (rd rG (PnF D 0) (ix2 ⟨i.val, hi⟩ (col h d))) = _
  rw [e 0]
  exact fold_all _

end

/-- The rows of one device alone. -/
theorem own_rows {f : Nat → EReal} (i : Fin 1024) (hf : ∀ k, ¬sees i.val k → f k = 0) (h0 : 32 ≤ i.val) (h1 : i.val < 896) :
    blkSum 0 (rowBlk i) f = allKeys f := by
  unfold blkSum
  rw [Nat.zero_add]
  have hb : (rowBlk i).val = i.val / 256 := rfl
  have hw : wlo (rowBlk i) = if i.val / 256 = 0 then 0 else if i.val / 256 = 3 then 512 else 256 * (i.val / 256) - 128 := rfl
  split
  · next e =>
    have : i.val / 256 = 0 := congrArg Fin.val e
    rw [hw, if_pos this]
    exact cover_first hf h0 (by omega)
  · next e =>
    have hn : i.val / 256 ≠ 0 := fun h => e (Fin.ext h)
    rw [if_neg hn] at hw
    refine cover_block hf ?_ (wlo_le _) h0 h1 ?_ ?_ <;> rw [hw] <;> split <;> omega

/-- The band: the rows of two devices. -/
theorem band_rows {f : Nat → EReal} (i : Fin 1024) (hf : ∀ k, ¬sees i.val k → f k = 0) (h0 : 896 ≤ i.val) :
    blkSum 0 (rowBlk i) f + blkSum 1024 (rowBlk i) f = allKeys f := by
  have e : rowBlk i = 3 := Fin.ext (by show i.val / 256 = 3; omega)
  unfold blkSum
  rw [e, if_neg (by decide), if_neg (by decide), show wlo 3 = 512 from rfl, Nat.zero_add]
  exact cover_band hf h0 i.isLt

include C

theorem CtxA_at (i : Fin 1024) (h0 : 32 ≤ i.val) (h1 : i.val < 896) (h : Fin 8) (d : Fin 128) : CtxA D (ix2 i (col h d)) = A.ctx h d i := by
  unfold CtxA
  rw [tile2_at (B := 4) (H := 8) rfl rfl _ _ (rowBlk i) h (ix2 ⟨i.val % 256, by omega⟩ d)
    (by show i.val = 256 * (i.val / 256) + i.val % 256; omega) rfl, ctxRows_at]
  have e : (⟨256 * (rowBlk i).val + i.val % 256, by have := (rowBlk i).isLt; omega⟩ : Fin 1024) = i :=
    Fin.ext (by show 256 * (i.val / 256) + i.val % 256 = i.val; omega)
  simp only [rd, rBH_at, rBD_at, e, PnF_at C 0 i h0, PdF_at C 0 i h0]
  exact congrArg₂ Ideal.div (own_rows i (A.wv_off h d i) h0 h1) (own_rows i (A.w_off h i) h0 h1)

theorem CtxF_at (i : Fin 1024) (h : Fin 8) (d : Fin 128) : CtxF D (ix2 i (col h d)) = A.ctx h d i := by
  unfold CtxF
  by_cases h0 : i.val < 32
  · rw [patch_at (n := 32) 0 _ _ (ix2 i (col h d)) (ix2 ⟨i.val, h0⟩ (col h d)) (by show i.val = 0 + i.val; omega) rfl,
      tile2_at (B := 1) (H := 8) rfl rfl _ _ 0 h (ix2 ⟨i.val, h0⟩ d) (by show i.val = 32 * 0 + i.val; omega) rfl, ctxG_at]
    exact congrArg₂ Ideal.div (allGn_at C i h0 h d) (allGd_at C i h0 h)
  · rw [patch_out (n := 32) 0 _ _ _ (by show ¬(0 ≤ i.val ∧ i.val < 0 + 32); omega)]
    by_cases h1 : 896 ≤ i.val
    · rw [patch_at (n := 128) 896 _ _ (ix2 i (col h d)) (ix2 ⟨i.val - 896, by omega⟩ (col h d)) (by show i.val = 896 + (i.val - 896); omega) rfl,
        tile2_at (B := 1) (H := 8) rfl rfl _ _ 0 h (ix2 ⟨i.val - 896, by omega⟩ d) (by show i.val - 896 = 128 * 0 + (i.val - 896); omega) rfl,
        ctxB_at]
      have e : (⟨896 + (i.val - 896), by omega⟩ : Fin 1024) = i := Fin.ext (by show 896 + (i.val - 896) = i.val; omega)
      refine congrArg₂ Ideal.div (Eq.trans ?_ (band_rows i (A.wv_off h d i) h1)) (Eq.trans ?_ (band_rows i (A.w_off h i) h1))
      · refine congrArg₂ (· + ·) ?_ ?_
        · show PnF D 0 (rB.emb (ix2 ⟨i.val - 896, _⟩ (col h d))) = _
          rw [rB_at, e, PnF_at C 0 i (by omega)]; rfl
        · show narrowB (rd rB (PnF D 1)) (ix2 ⟨i.val - 896, _⟩ (col h d)) = _
          rw [narrowB_eq]
          show PnF D 1 (rB.emb (ix2 ⟨i.val - 896, _⟩ (col h d))) = _
          rw [rB_at, e, PnF_at C 1 i (by omega)]; rfl
      · refine congrArg₂ (· + ·) ?_ ?_
        · show PdF D 0 (rBd.emb (ix2 ⟨i.val - 896, _⟩ h)) = _
          rw [rBd_at, e, PdF_at C 0 i (by omega)]; rfl
        · show PdF D 1 (rBd.emb (ix2 ⟨i.val - 896, _⟩ h)) = _
          rw [rBd_at, e, PdF_at C 1 i (by omega)]; rfl
    · rw [patch_out (n := 128) 896 _ _ _ (by show ¬(896 ≤ i.val ∧ i.val < 896 + 128); omega)]
      exact CtxA_at C i (by omega) (by omega) h d

/-- The result on every device. -/
theorem OutF_at (i e : Fin 1024) : OutF D c (ix3 0 i e) = A.out i e := by
  unfold OutF
  rw [rows3_at _ _ ⟨i.val / 128, by omega⟩ (ix3 0 ⟨i.val % 128, by omega⟩ e)
    (by show i.val = 128 * (i.val / 128) + i.val % 128; omega) rfl]
  have key : projF D ⟨i.val / 128, by omega⟩ (ix2 ⟨i.val % 128, by omega⟩ e) = A.out i e := by
    unfold projF Whole.out
    rw [projRows_at]
    refine Finset.sum_congr rfl fun l _ => ?_
    simp only [rd, rBlk_at, rAll_at, C.wo]
    refine congrArg (· * _) ?_
    have e1 : (⟨128 * (i.val / 128) + i.val % 128, by omega⟩ : Fin 1024) = i := Fin.ext (by show 128 * (i.val / 128) + i.val % 128 = i.val; omega)
    have e2 : l = col ⟨l.val / 128, by omega⟩ ⟨l.val % 128, by omega⟩ := Fin.ext (by show l.val = 128 * (l.val / 128) + l.val % 128; omega)
    rw [e1]
    exact (congrArg (fun t => CtxF D (ix2 i t)) e2).trans (CtxF_at C i _ _)
  split
  · rw [outRows_at, key]
  · unfold CastF
    rw [recvRows_at, key]

end Cert.Proof.Sums

end
-- ==== Proof.Plain.lean ====
/-
  The reference's result over the extended reals.
-/
module

public import proofs.«01_k».proof.Proof.Stages
public import proofs.«01_k».proof.Proof.Result

@[expose] public section

noncomputable section

namespace Cert.Proof.Plain

open Cert.ReferenceIdeal Cert.ReferenceIdeal.Gen Cert.Proof.Sums
open Idealize.ShloMosaic Idealize.ShloMosaic.TcCoe

variable {A : Whole} {x : RV S1x1024x1024} {wq : RV S1024x1024} {k v : RV S1x8192x8x128} {wo : RV S1024x1024}

/-- The queries are reals, -/
theorem queries_real (hx : ∀ q l : Fin 1024, x (ix3 0 q l) = ((A.x q l : ℝ) : EReal)) (hq : ∀ l e : Fin 1024, wq (ix2 l e) = ((A.wq l e : ℝ) : EReal))
    (i : Fin 1024) (h : Fin 8) (d : Fin 128) : queries x wq (ix4 0 i h d) = ((A.q i (col h d) : ℝ) : EReal) := by
  rw [queries_at]
  simp only [hx, hq, ← EReal.coe_mul]
  exact sum_real _ _

/-- and so are the scores; the hidden ones are −∞. -/
theorem seen_real (hx : ∀ q l : Fin 1024, x (ix3 0 q l) = ((A.x q l : ℝ) : EReal)) (hq : ∀ l e : Fin 1024, wq (ix2 l e) = ((A.wq l e : ℝ) : EReal))
    (hk : ∀ (j : Fin 8192) (h : Fin 8) (d : Fin 128), k (ix4 0 j h d) = ((A.k j.val h d : ℝ) : EReal)) (h : Fin 8) (i : Fin 1024) (j : Fin 8192) :
    seen (scores (queries x wq) k) (ix4 0 h i j) = masked (fun j : Fin 8192 => sees i.val j.val) (fun j => A.score h i j.val) j := by
  rw [seen_at, scores_at]
  simp only [queries_real hx hq, hk, ← EReal.coe_mul]
  rw [sum_real, scale_eq, ← EReal.coe_mul]
  rfl

/-- The context. -/
theorem context_real (hx : ∀ q l : Fin 1024, x (ix3 0 q l) = ((A.x q l : ℝ) : EReal)) (hq : ∀ l e : Fin 1024, wq (ix2 l e) = ((A.wq l e : ℝ) : EReal))
    (hk : ∀ (j : Fin 8192) (h : Fin 8) (d : Fin 128), k (ix4 0 j h d) = ((A.k j.val h d : ℝ) : EReal))
    (hv : ∀ (j : Fin 8192) (h : Fin 8) (d : Fin 128), v (ix4 0 j h d) = A.v j.val h d) (i l : Fin 1024) :
    context (weights (exps (seen (scores (queries x wq) k)))) v (ix3 0 i l) = A.ctx ⟨l.val / 128, by omega⟩ ⟨l.val % 128, by omega⟩ i := by
  rw [context_at]
  simp only [weights_at, exps_at, seen_real hx hq hk, hv]
  refine (softmax_once _ _ ⟨⟨i.val, by omega⟩, sees_self i.val⟩ _).trans ?_
  refine congrArg₂ Ideal.div ?_ ?_
  · refine Eq.trans (Finset.sum_congr rfl fun j _ => ?_) (sum_piece (A.wv ⟨l.val / 128, by omega⟩ ⟨l.val % 128, by omega⟩ i) 0 8192)
    rw [Nat.zero_add]; rfl
  · refine Eq.trans (Finset.sum_congr rfl fun j _ => ?_) (sum_piece (A.w ⟨l.val / 128, by omega⟩ i) 0 8192)
    rw [Nat.zero_add]; rfl

/-- The result. -/
theorem final_at (hx : ∀ q l : Fin 1024, x (ix3 0 q l) = ((A.x q l : ℝ) : EReal)) (hq : ∀ l e : Fin 1024, wq (ix2 l e) = ((A.wq l e : ℝ) : EReal))
    (hk : ∀ (j : Fin 8192) (h : Fin 8) (d : Fin 128), k (ix4 0 j h d) = ((A.k j.val h d : ℝ) : EReal))
    (hv : ∀ (j : Fin 8192) (h : Fin 8) (d : Fin 128), v (ix4 0 j h d) = A.v j.val h d)
    (ho : ∀ l e : Fin 1024, wo (ix2 l e) = A.wo l e) (i e : Fin 1024) :
    final x wq k v wo (ix3 0 i e) = A.out i e := by
  unfold final
  rw [project_at]
  exact Finset.sum_congr rfl fun l _ => congrArg₂ (· * ·) (context_real hx hq hk hv i l) (ho l e)

end Cert.Proof.Plain

end
-- ==== Proof.Ends.lean ====
/-
  What the kernel leaves in its result's array, and its arguments as arrays.
-/
module

public import proofs.«01_k».proof.Proof.Frames
public import Idealize.ShloMosaic.Lib.Pipeline.ValueKit

@[expose] public section

noncomputable section

namespace Cert.Proof

open Cert.KernelIdeal Cert.KernelIdeal.Gen
open Idealize.ShloMosaic Idealize.ShloMosaic.TcCoe Idealize.ShloMosaic.Pipeline
open Idealize.SL.Sem

variable {F : FTy → Type} [FloatOps F] [Named F]
variable (m : (ℓ : Loc nD τ sig) → Buf (Elt F) ℓ) (ρ : Dev nD → PrngReg)

/-- The result's array ends as the result. -/
theorem result_kept {r : PUnit × MemSt nD τ sig (Elt F)} (h : ends m ρ r) (c : Dev nD) :
    r.2.mem ((c.tc : Thread nD τ).loc main_v1) = OutF (argsOf m) c :=
  (h.1 c 3).trans ((dats m ρ 0 c).arrAt_eq_of_after_last 3 t0_0 (by decide +kernel) (OutF (argsOf m) c) fun _ => rfl)

theorem args_x (c : Dev nD) : (argsOf m).x c = m ((c : Thread nD τ).loc main_arg0) := by
  funext i; exact congrArg (m ((c : Thread nD τ).loc main_arg0)) (by funext a; exact Fin.ext (Window.rect_emb_val_of_index_zero win0_0 t0_0 a rfl i))
theorem args_wq (c : Dev nD) : (argsOf m).wq c = m ((c : Thread nD τ).loc main_arg1) := by
  funext i; exact congrArg (m ((c : Thread nD τ).loc main_arg1)) (by funext a; exact Fin.ext (Window.rect_emb_val_of_index_zero win0_1 t0_0 a rfl i))
theorem args_wo (c : Dev nD) : (argsOf m).wo c = m ((c : Thread nD τ).loc main_arg4) := by
  funext i; exact congrArg (m ((c : Thread nD τ).loc main_arg4)) (by funext a; exact Fin.ext (Window.rect_emb_val_of_index_zero win0_2 t0_0 a rfl i))

end Cert.Proof

end
-- ==== Proof.Finite.lean ====
/-
  What the precondition says: the queries' arguments and the keys are reals.
-/
module

public import proofs.«01_k».proof.Pre_finite_KernelIdeal
public import Idealize.ShloMosaic.Lib.ReduceAll
public import Idealize.ShloMosaic.Lib.Pointwise
public import Idealize.ShloMosaic.Lib.WordCmp

@[expose] public section

noncomputable section

namespace Cert.Proof.Finite

open Cert.Pre_finite_KernelIdeal Cert.Pre_finite_KernelIdeal.Facts
open Idealize.ShloMosaic

theorem high : Ideal.ofBits .f32 0x7F800000#32 = ⊤ := by simp [Ideal.ofBits, Ideal.ieee]

/-- A value whose size is under ∞ is a real. -/
theorem real_of_lt {z : EReal} (h : max z (-z) < ⊤) : ((z.toReal : ℝ) : EReal) = z := by
  refine EReal.coe_toReal ?_ ?_
  · rintro rfl; simp at h
  · rintro rfl; simp at h

theorem one_of_word {p : Prop} [Decidable p] (h : BitVec.ofBool (decide p) = 1#1) : p := by
  by_contra hp
  rw [decide_eq_false hp] at h
  exact absurd h (by decide)

theorem real_of_word {z : EReal} (h : Ideal.cmp .olt (max z (-z)) (Ideal.ofBits .f32 0x7F800000#32) = 1#1) : ((z.toReal : ℝ) : EReal) = z := by
  rw [high] at h
  exact real_of_lt (one_of_word h)

instance : Subsingleton S_.Idx := ⟨fun _ _ => funext fun a => a.elim0⟩

variable [Cert.Pre_finite_KernelIdeal.Facts]
variable {x : FVec Ideal S1x1024x1024 .f32} {wq : FVec Ideal S1024x1024 .f32} {k v : FVec Ideal S1x1024x8x128 .f32} {wo : FVec Ideal S1024x1024 .f32}

theorem read (h : fn (F := Ideal) x wq k v wo = fun _ => 1#1) :
    (∀ i, (((x i : EReal).toReal : ℝ) : EReal) = x i) ∧ (∀ i, (((wq i : EReal).toReal : ℝ) : EReal) = wq i) ∧ ∀ i, (((k i : EReal).toReal : ℝ) : EReal) = k i := by
  have e := congrFun h (Shape.Idx.first h_S_)
  unfold fn at e
  obtain ⟨e, hk⟩ := IntOp.andi_eq_one.1 e
  obtain ⟨hx, hq⟩ := IntOp.andi_eq_one.1 e
  exact ⟨fun i => real_of_word (Host.reduce_andi_all _ _ _ _ _ hx i), fun i => real_of_word (Host.reduce_andi_all _ _ _ _ _ hq i),
    fun i => real_of_word (Host.reduce_andi_all _ _ _ _ _ hk i)⟩

end Cert.Proof.Finite

end
-- ==== Proof.Agree.lean ====
/-
  The kernel and the reference end with the same result, over the extended reals.
-/
module

public import proofs.«01_k».proof.Proof.Plain
public import proofs.«01_k».proof.Proof.Ends
public import proofs.«01_k».proof.Proof.Finite
public import Idealize.ShloMosaic.Lib.LayoutAt

@[expose] public section

noncomputable section

namespace Cert.Proof

open Idealize.ShloMosaic Idealize.ShloMosaic.TcCoe Idealize.SL.Sem Cert.Proof.Sums

/-- Shapes of the whole arrays and of a device's part of the keys. -/
abbrev Sx : Shape := ⟨3, ![1, 1024, 1024]⟩
abbrev Sw : Shape := ⟨2, ![1024, 1024]⟩
abbrev Sk : Shape := ⟨4, ![1, 8192, 8, 128]⟩
abbrev Sp : Shape := ⟨4, ![1, 1024, 8, 128]⟩

/-- The whole arguments as numbers. -/
def wholeOf (x : FVec Ideal Sx .f32) (wq : FVec Ideal Sw .f32) (k v : FVec Ideal Sk .f32) (wo : FVec Ideal Sw .f32) : Whole where
  x q l := (x (ix3 0 q l) : EReal).toReal
  wq l e := (wq (ix2 l e) : EReal).toReal
  k n h d := if p : n < 8192 then (k (ix4 0 ⟨n, p⟩ h d) : EReal).toReal else 0
  v n h d := if p : n < 8192 then (v (ix4 0 ⟨n, p⟩ h d) : EReal) else 0
  wo l e := wo (ix2 l e)

/-- A device's part of an array of keys or values. -/
theorem part_at (X : FVec Ideal Sk .f32) (c : Fin 8) (j : Fin 1024) (h : Fin 8) (d : Fin 128) :
    Layout.block Sp Sk 1 8 c X (by decide) (ix4 0 j h d) = X (ix4 0 ⟨1024 * c.val + j.val, by omega⟩ h d) := by
  refine congrArg X (funext fun a => Fin.ext ?_)
  fin_cases a
  · rfl
  · show c.val * 1024 + j.val = 1024 * c.val + j.val
    omega
  · rfl
  · rfl

section

variable {x : FVec Ideal Sx .f32} {wq : FVec Ideal Sw .f32} {k v : FVec Ideal Sk .f32} {wo : FVec Ideal Sw .f32}

theorem whole_k (hk : ∀ i, (((k i : EReal).toReal : ℝ) : EReal) = k i) (j : Fin 8192) (h : Fin 8) (d : Fin 128) :
    k (ix4 0 j h d) = (((wholeOf x wq k v wo).k j.val h d : ℝ) : EReal) := by
  show _ = (((if p : j.val < 8192 then (k (ix4 0 ⟨j.val, p⟩ h d) : EReal).toReal else 0) : ℝ) : EReal)
  rw [dif_pos j.isLt]
  exact (hk _).symm

theorem whole_v (j : Fin 8192) (h : Fin 8) (d : Fin 128) : v (ix4 0 j h d) = (wholeOf x wq k v wo).v j.val h d := by
  show _ = (if p : j.val < 8192 then (v (ix4 0 ⟨j.val, p⟩ h d) : EReal) else 0)
  rw [dif_pos j.isLt]

/-- The keys are reals if every device's are. -/
theorem keys_real (h : ∀ (c : Fin 8) i, (((Layout.block Sp Sk 1 8 c k (by decide) i : EReal).toReal : ℝ) : EReal) = Layout.block Sp Sk 1 8 c k (by decide) i)
    (i : Sk.Idx) : (((k i : EReal).toReal : ℝ) : EReal) = k i := by
  have h1 : (i 1).val < 8192 := (i 1).isLt
  have e : i = ix4 0 ⟨1024 * ((i 1).val / 1024) + (i 1).val % 1024, by omega⟩ (i 2) (i 3) := by
    funext a
    apply Fin.ext
    fin_cases a
    · have : (i 0).val < 1 := (i 0).isLt
      show (i 0).val = 0
      omega
    · show (i 1).val = 1024 * ((i 1).val / 1024) + (i 1).val % 1024
      omega
    · rfl
    · rfl
  have p := part_at k ⟨(i 1).val / 1024, by omega⟩ ⟨(i 1).val % 1024, by omega⟩ (i 2) (i 3)
  rw [e]
  exact (congrArg (fun z : EReal => ((z.toReal : ℝ) : EReal)) p).symm.trans ((h _ _).trans p)

/-- The devices' arguments are parts of the whole ones. -/
theorem cut_of {D : Data Ideal} (hx : ∀ i, (((x i : EReal).toReal : ℝ) : EReal) = x i) (hq : ∀ i, (((wq i : EReal).toReal : ℝ) : EReal) = wq i)
    (hk : ∀ i, (((k i : EReal).toReal : ℝ) : EReal) = k i)
    (ex : ∀ c, D.x c = x) (eq : ∀ c, D.wq c = wq) (ek : ∀ c, D.k c = Layout.block Sp Sk 1 8 c k (by decide))
    (ev : ∀ c, D.v c = Layout.block Sp Sk 1 8 c v (by decide)) (eo : ∀ c, D.wo c = wo) : Cut D (wholeOf x wq k v wo) where
  x c q l := by rw [ex]; exact (hx _).symm
  wq c l e := by rw [eq]; exact (hq _).symm
  k c j h d := by
    rw [ek]
    exact (part_at k c j h d).trans (whole_k hk ⟨1024 * c.val + j.val, by have := c.isLt; have : c.val < 8 := c.isLt; omega⟩ h d)
  v c j h d := by
    rw [ev]
    exact (part_at v c j h d).trans (whole_v ⟨1024 * c.val + j.val, by have : c.val < 8 := c.isLt; omega⟩ h d)
  wo l e := by rw [eo]; rfl

/-- The two results are one. -/
theorem results_eq {D : Data Ideal} (hx : ∀ i, (((x i : EReal).toReal : ℝ) : EReal) = x i) (hq : ∀ i, (((wq i : EReal).toReal : ℝ) : EReal) = wq i)
    (hk : ∀ i, (((k i : EReal).toReal : ℝ) : EReal) = k i) (C : Cut D (wholeOf x wq k v wo)) (c : Dev Cert.KernelIdeal.nD) :
    OutF D c = Plain.final x wq k v wo := by
  funext i
  have e : i = ix3 0 (i 1) (i 2) := by
    funext a
    apply Fin.ext
    fin_cases a
    · have : (i 0).val < 1 := (i 0).isLt
      show (i 0).val = 0
      omega
    · rfl
    · rfl
  rw [e]
  exact (Sums.OutF_at C c _ _).trans (Plain.final_at (A := wholeOf x wq k v wo) (fun q l => (hx _).symm) (fun l e => (hq _).symm)
    (whole_k hk) whole_v (fun l e => rfl) _ _).symm

end

variable [Cert.Pre_finite_KernelIdeal.Facts]

/-- With finite queries and keys the kernel ends with the reference's result on every device. -/
theorem algebraic : Cert.algebraic_KernelIdeal_ReferenceIdeal_pre_finite_KernelIdeal := by
  intro m g m' g' pre same
  have hf := fun c => Finite.read (pre c)
  have hx : ∀ i, (((m' (((0 : Dev Cert.ReferenceIdeal.nD).tc : Thread Cert.ReferenceIdeal.nD Cert.ReferenceIdeal.τ).loc Cert.ReferenceIdeal.main_arg0) i : EReal).toReal : ℝ) : EReal)
      = m' (((0 : Dev Cert.ReferenceIdeal.nD).tc : Thread Cert.ReferenceIdeal.nD Cert.ReferenceIdeal.τ).loc Cert.ReferenceIdeal.main_arg0) i := by
    rw [← (same 0).1]; exact (hf 0).1
  have hq : ∀ i, (((m' (((0 : Dev Cert.ReferenceIdeal.nD).tc : Thread Cert.ReferenceIdeal.nD Cert.ReferenceIdeal.τ).loc Cert.ReferenceIdeal.main_arg1) i : EReal).toReal : ℝ) : EReal)
      = m' (((0 : Dev Cert.ReferenceIdeal.nD).tc : Thread Cert.ReferenceIdeal.nD Cert.ReferenceIdeal.τ).loc Cert.ReferenceIdeal.main_arg1) i := by
    rw [← (same 0).2.1]; exact (hf 0).2.1
  have hk := keys_real (k := m' (((0 : Dev Cert.ReferenceIdeal.nD).tc : Thread Cert.ReferenceIdeal.nD Cert.ReferenceIdeal.τ).loc Cert.ReferenceIdeal.main_arg2)) fun c i => by
    have e := (same c).2.2.1
    have := (hf c).2.2 i
    rw [e] at this
    exact this
  have C := cut_of (D := argsOf m)
    (v := m' (((0 : Dev Cert.ReferenceIdeal.nD).tc : Thread Cert.ReferenceIdeal.nD Cert.ReferenceIdeal.τ).loc Cert.ReferenceIdeal.main_arg3)) hx hq hk
    (fun c => (args_x m c).trans (same c).1) (fun c => (args_wq m c).trans (same c).2.1) (fun c => (same c).2.2.1) (fun c => (same c).2.2.2.1)
    (fun c => (args_wo m c).trans (same c).2.2.2.2)
  refine ⟨Cert.ReferenceIdeal.Value.res_out0 m' 0, ?_, ?_⟩
  · refine (θ_run Cert.KernelIdeal.defs _ _).mono (fun r h c => ?_) (run_main m g)
    exact ⟨(result_kept m g h.1 c).trans ((results_eq hx hq hk C c).trans (Plain.res_eq m' 0).symm), args_kept m g h.1 c⟩
  · exact (θ_run Cert.ReferenceIdeal.defs _ _).mono (fun r h => h 0) (Cert.ReferenceIdeal.Value.run m' g')

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite_KernelIdeal
public import proofs.«01_k».proof.Proof.Gen.Pre_finite_ReferenceIdeal
public import proofs.«01_k».proof.Proof.Bitwise
public import proofs.«01_k».proof.Proof.Agree
public import Idealize.ShloMosaic.Adequacy
public import Idealize.ShloMosaic.Init

@[expose] public section

noncomputable section

namespace Cert.Proof

open Idealize.ShloMosaic Idealize.SL.Sem Cert.Kernel

/-- The reference runs and leaves its arguments as they were. -/
theorem frame_reference : Cert.quiescent_ReferenceIdeal := fun m g _ =>
  (θ_run Cert.ReferenceIdeal.defs _ _).mono (fun r h => ⟨fun c => (h c).2, Idealize.ShloMosaic.sem_eq_zero_of_no_sems (by decide) r.2⟩) (Cert.ReferenceIdeal.Value.run m g)

/-- The idealized kernel is the kernel with the mask's constant read as −∞. -/
theorem preserves : Cert.preserves_Kernel_KernelIdeal :=
  IdealRules.named_const.statement Cert.KernelIdeal.κ "mask" .f32 0xCE6E6B28#32 ⊥ rfl

/-- All the claims. -/
theorem claim : Cert.Claim :=
  ⟨Cert.Kernel.Gen.facts, Cert.KernelIdeal.Gen.facts, Cert.ReferenceIdeal.Gen.facts, Cert.Pre_finite_KernelIdeal.Gen.facts,
    Cert.Pre_finite_ReferenceIdeal.Gen.facts, frame_kernel, frame_ideal, fun m g _ => frame_ideal m g trivial,
    frame_reference, fun m g _ => frame_reference m g trivial, preserves, algebraic⟩

end Cert.Proof

end
